-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unbiased [hPre_finite_and_unbiased : Cert.Pre_finite_and_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unbiased [hPre_finite_and_unbiased : Cert.Pre_finite_and_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_finite_and_unbiased [hKernelIdeal : Cert.KernelIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_finite_and_unbiased [hReferenceIdeal : Cert.ReferenceIdeal.Facts] [hPre_finite_and_unbiased : Cert.Pre_finite_and_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite_and_unbiased [hKernelIdeal : Cert.KernelIdeal.Facts] [hReferenceIdeal : Cert.ReferenceIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v258)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v258) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v777) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_and_unbiased : Cert.Pre_finite_and_unbiased.Facts),
    quiescent_Kernel (hKernel := hKernel)
    ∧ quiescent_KernelIdeal (hKernelIdeal := hKernelIdeal)
    ∧ quiescent_KernelIdeal_pre_finite_and_unbiased (hKernelIdeal := hKernelIdeal) (hPre_finite_and_unbiased := hPre_finite_and_unbiased)
    ∧ quiescent_ReferenceIdeal (hReferenceIdeal := hReferenceIdeal)
    ∧ quiescent_ReferenceIdeal_pre_finite_and_unbiased (hReferenceIdeal := hReferenceIdeal) (hPre_finite_and_unbiased := hPre_finite_and_unbiased)
    ∧ preserves_Kernel_KernelIdeal
    ∧ algebraic_KernelIdeal_ReferenceIdeal_pre_finite_and_unbiased (hKernelIdeal := hKernelIdeal) (hReferenceIdeal := hReferenceIdeal) (hPre_finite_and_unbiased := hPre_finite_and_unbiased)
-- ==== Pre_finite_and_unbiased.lean ====
abbrev S16x128x80x80 : Shape := ⟨4, ![16, 128, 80, 80]⟩
abbrev S16x256x40x40 : Shape := ⟨4, ![16, 256, 40, 40]⟩
abbrev S16x512x20x20 : Shape := ⟨4, ![16, 512, 20, 20]⟩
abbrev S96x128x1x1 : Shape := ⟨4, ![96, 128, 1, 1]⟩
abbrev S96 : Shape := ⟨1, ![96]⟩
abbrev S96x256x1x1 : Shape := ⟨4, ![96, 256, 1, 1]⟩
abbrev S96x512x1x1 : Shape := ⟨4, ![96, 512, 1, 1]⟩
abbrev S3x192x96x1x1 : Shape := ⟨5, ![3, 192, 96, 1, 1]⟩
abbrev S3x192 : Shape := ⟨2, ![3, 192]⟩
abbrev S3x192x1x3x3 : Shape := ⟨5, ![3, 192, 1, 3, 3]⟩
abbrev S3x96x192x1x1 : Shape := ⟨5, ![3, 96, 192, 1, 1]⟩
abbrev S3x96 : Shape := ⟨2, ![3, 96]⟩
abbrev S3x80x96x1x1 : Shape := ⟨5, ![3, 80, 96, 1, 1]⟩
abbrev S3x80 : Shape := ⟨2, ![3, 80]⟩
abbrev S3x4x96x1x1 : Shape := ⟨5, ![3, 4, 96, 1, 1]⟩
abbrev S3x4 : Shape := ⟨2, ![3, 4]⟩
abbrev S3x1x96x1x1 : Shape := ⟨5, ![3, 1, 96, 1, 1]⟩
abbrev S3x1 : Shape := ⟨2, ![3, 1]⟩
abbrev S_ : Shape := ⟨0, ![]⟩

class Facts : Prop where
  bcast_S_S16x128x80x80 : S_.BroadcastsInDim S16x128x80x80 (![] : Fin 0 → Fin S16x128x80x80.rank)
  reducesTo_S16x128x80x80_S_d0_1_2_3 : S16x128x80x80.ReducesTo [0, 1, 2, 3] S_
  h_S_ : 0 < S_.numel
  bcast_S_S16x256x40x40 : S_.BroadcastsInDim S16x256x40x40 (![] : Fin 0 → Fin S16x256x40x40.rank)
  reducesTo_S16x256x40x40_S_d0_1_2_3 : S16x256x40x40.ReducesTo [0, 1, 2, 3] S_
  bcast_S_S16x512x20x20 : S_.BroadcastsInDim S16x512x20x20 (![] : Fin 0 → Fin S16x512x20x20.rank)
  reducesTo_S16x512x20x20_S_d0_1_2_3 : S16x512x20x20.ReducesTo [0, 1, 2, 3] S_
  bcast_S_S96x128x1x1 : S_.BroadcastsInDim S96x128x1x1 (![] : Fin 0 → Fin S96x128x1x1.rank)
  reducesTo_S96x128x1x1_S_d0_1_2_3 : S96x128x1x1.ReducesTo [0, 1, 2, 3] S_
  bcast_S_S96x256x1x1 : S_.BroadcastsInDim S96x256x1x1 (![] : Fin 0 → Fin S96x256x1x1.rank)
  reducesTo_S96x256x1x1_S_d0_1_2_3 : S96x256x1x1.ReducesTo [0, 1, 2, 3] S_
  bcast_S_S96x512x1x1 : S_.BroadcastsInDim S96x512x1x1 (![] : Fin 0 → Fin S96x512x1x1.rank)
  reducesTo_S96x512x1x1_S_d0_1_2_3 : S96x512x1x1.ReducesTo [0, 1, 2, 3] S_
  bcast_S_S3x192x96x1x1 : S_.BroadcastsInDim S3x192x96x1x1 (![] : Fin 0 → Fin S3x192x96x1x1.rank)
  reducesTo_S3x192x96x1x1_S_d0_1_2_3_4 : S3x192x96x1x1.ReducesTo [0, 1, 2, 3, 4] S_
  bcast_S_S3x192x1x3x3 : S_.BroadcastsInDim S3x192x1x3x3 (![] : Fin 0 → Fin S3x192x1x3x3.rank)
  reducesTo_S3x192x1x3x3_S_d0_1_2_3_4 : S3x192x1x3x3.ReducesTo [0, 1, 2, 3, 4] S_
  bcast_S_S3x96x192x1x1 : S_.BroadcastsInDim S3x96x192x1x1 (![] : Fin 0 → Fin S3x96x192x1x1.rank)
  reducesTo_S3x96x192x1x1_S_d0_1_2_3_4 : S3x96x192x1x1.ReducesTo [0, 1, 2, 3, 4] S_
  bcast_S_S3x96 : S_.BroadcastsInDim S3x96 (![] : Fin 0 → Fin S3x96.rank)
  reducesTo_S3x96_S_d0_1 : S3x96.ReducesTo [0, 1] S_
  bcast_S_S3x80x96x1x1 : S_.BroadcastsInDim S3x80x96x1x1 (![] : Fin 0 → Fin S3x80x96x1x1.rank)
  reducesTo_S3x80x96x1x1_S_d0_1_2_3_4 : S3x80x96x1x1.ReducesTo [0, 1, 2, 3, 4] S_
  bcast_S_S3x80 : S_.BroadcastsInDim S3x80 (![] : Fin 0 → Fin S3x80.rank)
  reducesTo_S3x80_S_d0_1 : S3x80.ReducesTo [0, 1] S_
  bcast_S_S3x4x96x1x1 : S_.BroadcastsInDim S3x4x96x1x1 (![] : Fin 0 → Fin S3x4x96x1x1.rank)
  reducesTo_S3x4x96x1x1_S_d0_1_2_3_4 : S3x4x96x1x1.ReducesTo [0, 1, 2, 3, 4] S_
  bcast_S_S3x4 : S_.BroadcastsInDim S3x4 (![] : Fin 0 → Fin S3x4.rank)
  reducesTo_S3x4_S_d0_1 : S3x4.ReducesTo [0, 1] S_
  bcast_S_S3x1x96x1x1 : S_.BroadcastsInDim S3x1x96x1x1 (![] : Fin 0 → Fin S3x1x96x1x1.rank)
  reducesTo_S3x1x96x1x1_S_d0_1_2_3_4 : S3x1x96x1x1.ReducesTo [0, 1, 2, 3, 4] S_
  bcast_S_S3x1 : S_.BroadcastsInDim S3x1 (![] : Fin 0 → Fin S3x1.rank)
  reducesTo_S3x1_S_d0_1 : S3x1.ReducesTo [0, 1] S_
  bcast_S_S96 : S_.BroadcastsInDim S96 (![] : Fin 0 → Fin S96.rank)
  reducesTo_S96_S_d0 : S96.ReducesTo [0] S_
  bcast_S_S3x192 : S_.BroadcastsInDim S3x192 (![] : Fin 0 → Fin S3x192.rank)
  reducesTo_S3x192_S_d0_1 : S3x192.ReducesTo [0, 1] S_

variable [Facts]

def fn_part7 {F : FTy → Type} [FloatOps F] (main_arg16 : FVec F S3x192 .f32) (main_arg18 : FVec F S3x192 .f32) (main_v115 : IVec S_ 1) (main_v117 : IVec S3x192 1) : IVec S_ 1 :=
  let main_c_48 : IVec S_ 1 := constantI S_ 1 1#1
  let main_v118 : IVec S_ 1 := (fun x v => Host.reduce IntOp.andi x v reducesTo_S3x192_S_d0_1 h_S_) main_v117 main_c_48
  let main_v119 : IVec S_ 1 := andi main_v115 main_v118
  let main_cst_49 : FVec F S_ .f32 := constant S_ .f32 0x00000000#32
  let main_v120 : FVec F S3x192 .f32 := broadcastInDim S3x192 ![] bcast_S_S3x192 main_cst_49
  let main_v121 : IVec S3x192 1 := cmpf .oeq main_arg16 main_v120
  let main_c_50 : IVec S_ 1 := constantI S_ 1 1#1
  let main_v122 : IVec S_ 1 := (fun x v => Host.reduce IntOp.andi x v reducesTo_S3x192_S_d0_1 h_S_) main_v121 main_c_50
  let main_v123 : IVec S_ 1 := andi main_v119 main_v122
  let main_cst_51 : FVec F S_ .f32 := constant S_ .f32 0x00000000#32
  let main_v124 : FVec F S3x192 .f32 := broadcastInDim S3x192 ![] bcast_S_S3x192 main_cst_51
  let main_v125 : IVec S3x192 1 := cmpf .oeq main_arg18 main_v124
  let main_c_52 : IVec S_ 1 := constantI S_ 1 1#1
  let main_v126 : IVec S_ 1 := (fun x v => Host.reduce IntOp.andi x v reducesTo_S3x192_S_d0_1 h_S_) main_v125 main_c_52
  let main_v127 : IVec S_ 1 := andi main_v123 main_v126
  main_v127

def fn_part6 {F : FTy → Type} [FloatOps F] (main_arg6 : FVec F S96 .f32) (main_arg8 : FVec F S96 .f32) (main_arg10 : FVec F S3x192 .f32) (main_arg12 : FVec F S3x192 .f32) (main_arg16 : FVec F S3x192 .f32) (main_arg18 : FVec F S3x192 .f32) (main_v99 : IVec S_ 1) (main_v101 : IVec S96 1) : IVec S_ 1 :=
  let main_c_40 : IVec S_ 1 := constantI S_ 1 1#1
  let main_v102 : IVec S_ 1 := (fun x v => Host.reduce IntOp.andi x v reducesTo_S96_S_d0 h_S_) main_v101 main_c_40
  let main_v103 : IVec S_ 1 := andi main_v99 main_v102
  let main_cst_41 : FVec F S_ .f32 := constant S_ .f32 0x00000000#32
  let main_v104 : FVec F S96 .f32 := broadcastInDim S96 ![] bcast_S_S96 main_cst_41
  let main_v105 : IVec S96 1 := cmpf .oeq main_arg6 main_v104
  let main_c_42 : IVec S_ 1 := constantI S_ 1 1#1
  let main_v106 : IVec S_ 1 := (fun x v => Host.reduce IntOp.andi x v reducesTo_S96_S_d0 h_S_) main_v105 main_c_42
  let main_v107 : IVec S_ 1 := andi main_v103 main_v106
  let main_cst_43 : FVec F S_ .f32 := constant S_ .f32 0x00000000#32
  let main_v108 : FVec F S96 .f32 := broadcastInDim S96 ![] bcast_S_S96 main_cst_43
  let main_v109 : IVec S96 1 := cmpf .oeq main_arg8 main_v108
  let main_c_44 : IVec S_ 1 := constantI S_ 1 1#1
  let main_v110 : IVec S_ 1 := (fun x v => Host.reduce IntOp.andi x v reducesTo_S96_S_d0 h_S_) main_v109 main_c_44
  let main_v111 : IVec S_ 1 := andi main_v107 main_v110
  let main_cst_45 : FVec F S_ .f32 := constant S_ .f32 0x00000000#32
  let main_v112 : FVec F S3x192 .f32 := broadcastInDim S3x192 ![] bcast_S_S3x192 main_cst_45
  let main_v113 : IVec S3x192 1 := cmpf .oeq main_arg10 main_v112
  let main_c_46 : IVec S_ 1 := constantI S_ 1 1#1
  let main_v114 : IVec S_ 1 := (fun x v => Host.reduce IntOp.andi x v reducesTo_S3x192_S_d0_1 h_S_) main_v113 main_c_46
  let main_v115 : IVec S_ 1 := andi main_v111 main_v114
  let main_cst_47 : FVec F S_ .f32 := constant S_ .f32 0x00000000#32
  let main_v116 : FVec F S3x192 .f32 := broadcastInDim S3x192 ![] bcast_S_S3x192 main_cst_47
  let main_v117 : IVec S3x192 1 := cmpf .oeq main_arg12 main_v116
  fn_part7 (F := F) main_arg16 main_arg18 main_v115 main_v117

def fn_part5 {F : FTy → Type} [FloatOps F] (main_arg4 : FVec F S96 .f32) (main_arg6 : FVec F S96 .f32) (main_arg8 : FVec F S96 .f32) (main_arg10 : FVec F S3x192 .f32) (main_arg12 : FVec F S3x192 .f32) (main_arg16 : FVec F S3x192 .f32) (main_arg18 : FVec F S3x192 .f32) (main_arg24 : FVec F S3x4 .f32) (main_arg25 : FVec F S3x1x96x1x1 .f32) (main_arg26 : FVec F S3x1 .f32) (main_v84 : IVec S_ 1) : IVec S_ 1 :=
  let main_v85 : FVec F S3x4 .f32 := Host.absf main_arg24
  let main_cst_33 : FVec F S_ .f32 := constant S_ .f32 0x7F800000#32
  let main_v86 : FVec F S3x4 .f32 := broadcastInDim S3x4 ![] bcast_S_S3x4 main_cst_33
  let main_v87 : IVec S3x4 1 := cmpf .olt main_v85 main_v86
  let main_c_34 : IVec S_ 1 := constantI S_ 1 1#1
  let main_v88 : IVec S_ 1 := (fun x v => Host.reduce IntOp.andi x v reducesTo_S3x4_S_d0_1 h_S_) main_v87 main_c_34
  let main_v89 : IVec S_ 1 := andi main_v84 main_v88
  let main_v90 : FVec F S3x1x96x1x1 .f32 := Host.absf main_arg25
  let main_cst_35 : FVec F S_ .f32 := constant S_ .f32 0x7F800000#32
  let main_v91 : FVec F S3x1x96x1x1 .f32 := broadcastInDim S3x1x96x1x1 ![] bcast_S_S3x1x96x1x1 main_cst_35
  let main_v92 : IVec S3x1x96x1x1 1 := cmpf .olt main_v90 main_v91
  let main_c_36 : IVec S_ 1 := constantI S_ 1 1#1
  let main_v93 : IVec S_ 1 := (fun x v => Host.reduce IntOp.andi x v reducesTo_S3x1x96x1x1_S_d0_1_2_3_4 h_S_) main_v92 main_c_36
  let main_v94 : IVec S_ 1 := andi main_v89 main_v93
  let main_v95 : FVec F S3x1 .f32 := Host.absf main_arg26
  let main_cst_37 : FVec F S_ .f32 := constant S_ .f32 0x7F800000#32
  let main_v96 : FVec F S3x1 .f32 := broadcastInDim S3x1 ![] bcast_S_S3x1 main_cst_37
  let main_v97 : IVec S3x1 1 := cmpf .olt main_v95 main_v96
  let main_c_38 : IVec S_ 1 := constantI S_ 1 1#1
  let main_v98 : IVec S_ 1 := (fun x v => Host.reduce IntOp.andi x v reducesTo_S3x1_S_d0_1 h_S_) main_v97 main_c_38
  let main_v99 : IVec S_ 1 := andi main_v94 main_v98
  let main_cst_39 : FVec F S_ .f32 := constant S_ .f32 0x00000000#32
  let main_v100 : FVec F S96 .f32 := broadcastInDim S96 ![] bcast_S_S96 main_cst_39
  let main_v101 : IVec S96 1 := cmpf .oeq main_arg4 main_v100
  fn_part6 (F := F) main_arg6 main_arg8 main_arg10 main_arg12 main_arg16 main_arg18 main_v99 main_v101

def fn_part4 {F : FTy → Type} [FloatOps F] (main_arg4 : FVec F S96 .f32) (main_arg6 : FVec F S96 .f32) (main_arg8 : FVec F S96 .f32) (main_arg10 : FVec F S3x192 .f32) (main_arg12 : FVec F S3x192 .f32) (main_arg16 : FVec F S3x192 .f32) (main_arg18 : FVec F S3x192 .f32) (main_arg21 : FVec F S3x80x96x1x1 .f32) (main_arg22 : FVec F S3x80 .f32) (main_arg23 : FVec F S3x4x96x1x1 .f32) (main_arg24 : FVec F S3x4 .f32) (main_arg25 : FVec F S3x1x96x1x1 .f32) (main_arg26 : FVec F S3x1 .f32) (main_v64 : IVec S_ 1) (main_v67 : IVec S3x96 1) : IVec S_ 1 :=
  let main_c_26 : IVec S_ 1 := constantI S_ 1 1#1
  let main_v68 : IVec S_ 1 := (fun x v => Host.reduce IntOp.andi x v reducesTo_S3x96_S_d0_1 h_S_) main_v67 main_c_26
  let main_v69 : IVec S_ 1 := andi main_v64 main_v68
  let main_v70 : FVec F S3x80x96x1x1 .f32 := Host.absf main_arg21
  let main_cst_27 : FVec F S_ .f32 := constant S_ .f32 0x7F800000#32
  let main_v71 : FVec F S3x80x96x1x1 .f32 := broadcastInDim S3x80x96x1x1 ![] bcast_S_S3x80x96x1x1 main_cst_27
  let main_v72 : IVec S3x80x96x1x1 1 := cmpf .olt main_v70 main_v71
  let main_c_28 : IVec S_ 1 := constantI S_ 1 1#1
  let main_v73 : IVec S_ 1 := (fun x v => Host.reduce IntOp.andi x v reducesTo_S3x80x96x1x1_S_d0_1_2_3_4 h_S_) main_v72 main_c_28
  let main_v74 : IVec S_ 1 := andi main_v69 main_v73
  let main_v75 : FVec F S3x80 .f32 := Host.absf main_arg22
  let main_cst_29 : FVec F S_ .f32 := constant S_ .f32 0x7F800000#32
  let main_v76 : FVec F S3x80 .f32 := broadcastInDim S3x80 ![] bcast_S_S3x80 main_cst_29
  let main_v77 : IVec S3x80 1 := cmpf .olt main_v75 main_v76
  let main_c_30 : IVec S_ 1 := constantI S_ 1 1#1
  let main_v78 : IVec S_ 1 := (fun x v => Host.reduce IntOp.andi x v reducesTo_S3x80_S_d0_1 h_S_) main_v77 main_c_30
  let main_v79 : IVec S_ 1 := andi main_v74 main_v78
  let main_v80 : FVec F S3x4x96x1x1 .f32 := Host.absf main_arg23
  let main_cst_31 : FVec F S_ .f32 := constant S_ .f32 0x7F800000#32
  let main_v81 : FVec F S3x4x96x1x1 .f32 := broadcastInDim S3x4x96x1x1 ![] bcast_S_S3x4x96x1x1 main_cst_31
  let main_v82 : IVec S3x4x96x1x1 1 := cmpf .olt main_v80 main_v81
  let main_c_32 : IVec S_ 1 := constantI S_ 1 1#1
  let main_v83 : IVec S_ 1 := (fun x v => Host.reduce IntOp.andi x v reducesTo_S3x4x96x1x1_S_d0_1_2_3_4 h_S_) main_v82 main_c_32
  let main_v84 : IVec S_ 1 := andi main_v79 main_v83
  fn_part5 (F := F) main_arg4 main_arg6 main_arg8 main_arg10 main_arg12 main_arg16 main_arg18 main_arg24 main_arg25 main_arg26 main_v84

def fn_part3 {F : FTy → Type} [FloatOps F] (main_arg4 : FVec F S96 .f32) (main_arg6 : FVec F S96 .f32) (main_arg8 : FVec F S96 .f32) (main_arg10 : FVec F S3x192 .f32) (main_arg12 : FVec F S3x192 .f32) (main_arg16 : FVec F S3x192 .f32) (main_arg17 : FVec F S3x192x1x3x3 .f32) (main_arg18 : FVec F S3x192 .f32) (main_arg19 : FVec F S3x96x192x1x1 .f32) (main_arg20 : FVec F S3x96 .f32) (main_arg21 : FVec F S3x80x96x1x1 .f32) (main_arg22 : FVec F S3x80 .f32) (main_arg23 : FVec F S3x4x96x1x1 .f32) (main_arg24 : FVec F S3x4 .f32) (main_arg25 : FVec F S3x1x96x1x1 .f32) (main_arg26 : FVec F S3x1 .f32) (main_v49 : IVec S_ 1) (main_v50 : FVec F S3x192x96x1x1 .f32) : IVec S_ 1 :=
  let main_cst_19 : FVec F S_ .f32 := constant S_ .f32 0x7F800000#32
  let main_v51 : FVec F S3x192x96x1x1 .f32 := broadcastInDim S3x192x96x1x1 ![] bcast_S_S3x192x96x1x1 main_cst_19
  let main_v52 : IVec S3x192x96x1x1 1 := cmpf .olt main_v50 main_v51
  let main_c_20 : IVec S_ 1 := constantI S_ 1 1#1
  let main_v53 : IVec S_ 1 := (fun x v => Host.reduce IntOp.andi x v reducesTo_S3x192x96x1x1_S_d0_1_2_3_4 h_S_) main_v52 main_c_20
  let main_v54 : IVec S_ 1 := andi main_v49 main_v53
  let main_v55 : FVec F S3x192x1x3x3 .f32 := Host.absf main_arg17
  let main_cst_21 : FVec F S_ .f32 := constant S_ .f32 0x7F800000#32
  let main_v56 : FVec F S3x192x1x3x3 .f32 := broadcastInDim S3x192x1x3x3 ![] bcast_S_S3x192x1x3x3 main_cst_21
  let main_v57 : IVec S3x192x1x3x3 1 := cmpf .olt main_v55 main_v56
  let main_c_22 : IVec S_ 1 := constantI S_ 1 1#1
  let main_v58 : IVec S_ 1 := (fun x v => Host.reduce IntOp.andi x v reducesTo_S3x192x1x3x3_S_d0_1_2_3_4 h_S_) main_v57 main_c_22
  let main_v59 : IVec S_ 1 := andi main_v54 main_v58
  let main_v60 : FVec F S3x96x192x1x1 .f32 := Host.absf main_arg19
  let main_cst_23 : FVec F S_ .f32 := constant S_ .f32 0x7F800000#32
  let main_v61 : FVec F S3x96x192x1x1 .f32 := broadcastInDim S3x96x192x1x1 ![] bcast_S_S3x96x192x1x1 main_cst_23
  let main_v62 : IVec S3x96x192x1x1 1 := cmpf .olt main_v60 main_v61
  let main_c_24 : IVec S_ 1 := constantI S_ 1 1#1
  let main_v63 : IVec S_ 1 := (fun x v => Host.reduce IntOp.andi x v reducesTo_S3x96x192x1x1_S_d0_1_2_3_4 h_S_) main_v62 main_c_24
  let main_v64 : IVec S_ 1 := andi main_v59 main_v63
  let main_v65 : FVec F S3x96 .f32 := Host.absf main_arg20
  let main_cst_25 : FVec F S_ .f32 := constant S_ .f32 0x7F800000#32
  let main_v66 : FVec F S3x96 .f32 := broadcastInDim S3x96 ![] bcast_S_S3x96 main_cst_25
  let main_v67 : IVec S3x96 1 := cmpf .olt main_v65 main_v66
  fn_part4 (F := F) main_arg4 main_arg6 main_arg8 main_arg10 main_arg12 main_arg16 main_arg18 main_arg21 main_arg22 main_arg23 main_arg24 main_arg25 main_arg26 main_v64 main_v67

def fn_part2 {F : FTy → Type} [FloatOps F] (main_arg4 : FVec F S96 .f32) (main_arg6 : FVec F S96 .f32) (main_arg8 : FVec F S96 .f32) (main_arg10 : FVec F S3x192 .f32) (main_arg11 : FVec F S3x192x1x3x3 .f32) (main_arg12 : FVec F S3x192 .f32) (main_arg13 : FVec F S3x96x192x1x1 .f32) (main_arg14 : FVec F S3x96 .f32) (main_arg15 : FVec F S3x192x96x1x1 .f32) (main_arg16 : FVec F S3x192 .f32) (main_arg17 : FVec F S3x192x1x3x3 .f32) (main_arg18 : FVec F S3x192 .f32) (main_arg19 : FVec F S3x96x192x1x1 .f32) (main_arg20 : FVec F S3x96 .f32) (main_arg21 : FVec F S3x80x96x1x1 .f32) (main_arg22 : FVec F S3x80 .f32) (main_arg23 : FVec F S3x4x96x1x1 .f32) (main_arg24 : FVec F S3x4 .f32) (main_arg25 : FVec F S3x1x96x1x1 .f32) (main_arg26 : FVec F S3x1 .f32) (main_v29 : IVec S_ 1) (main_v32 : IVec S3x192x96x1x1 1) (main_c_12 : IVec S_ 1) : IVec S_ 1 :=
  let main_v33 : IVec S_ 1 := (fun x v => Host.reduce IntOp.andi x v reducesTo_S3x192x96x1x1_S_d0_1_2_3_4 h_S_) main_v32 main_c_12
  let main_v34 : IVec S_ 1 := andi main_v29 main_v33
  let main_v35 : FVec F S3x192x1x3x3 .f32 := Host.absf main_arg11
  let main_cst_13 : FVec F S_ .f32 := constant S_ .f32 0x7F800000#32
  let main_v36 : FVec F S3x192x1x3x3 .f32 := broadcastInDim S3x192x1x3x3 ![] bcast_S_S3x192x1x3x3 main_cst_13
  let main_v37 : IVec S3x192x1x3x3 1 := cmpf .olt main_v35 main_v36
  let main_c_14 : IVec S_ 1 := constantI S_ 1 1#1
  let main_v38 : IVec S_ 1 := (fun x v => Host.reduce IntOp.andi x v reducesTo_S3x192x1x3x3_S_d0_1_2_3_4 h_S_) main_v37 main_c_14
  let main_v39 : IVec S_ 1 := andi main_v34 main_v38
  let main_v40 : FVec F S3x96x192x1x1 .f32 := Host.absf main_arg13
  let main_cst_15 : FVec F S_ .f32 := constant S_ .f32 0x7F800000#32
  let main_v41 : FVec F S3x96x192x1x1 .f32 := broadcastInDim S3x96x192x1x1 ![] bcast_S_S3x96x192x1x1 main_cst_15
  let main_v42 : IVec S3x96x192x1x1 1 := cmpf .olt main_v40 main_v41
  let main_c_16 : IVec S_ 1 := constantI S_ 1 1#1
  let main_v43 : IVec S_ 1 := (fun x v => Host.reduce IntOp.andi x v reducesTo_S3x96x192x1x1_S_d0_1_2_3_4 h_S_) main_v42 main_c_16
  let main_v44 : IVec S_ 1 := andi main_v39 main_v43
  let main_v45 : FVec F S3x96 .f32 := Host.absf main_arg14
  let main_cst_17 : FVec F S_ .f32 := constant S_ .f32 0x7F800000#32
  let main_v46 : FVec F S3x96 .f32 := broadcastInDim S3x96 ![] bcast_S_S3x96 main_cst_17
  let main_v47 : IVec S3x96 1 := cmpf .olt main_v45 main_v46
  let main_c_18 : IVec S_ 1 := constantI S_ 1 1#1
  let main_v48 : IVec S_ 1 := (fun x v => Host.reduce IntOp.andi x v reducesTo_S3x96_S_d0_1 h_S_) main_v47 main_c_18
  let main_v49 : IVec S_ 1 := andi main_v44 main_v48
  let main_v50 : FVec F S3x192x96x1x1 .f32 := Host.absf main_arg15
  fn_part3 (F := F) main_arg4 main_arg6 main_arg8 main_arg10 main_arg12 main_arg16 main_arg17 main_arg18 main_arg19 main_arg20 main_arg21 main_arg22 main_arg23 main_arg24 main_arg25 main_arg26 main_v49 main_v50

def fn_part1 {F : FTy → Type} [FloatOps F] (main_arg4 : FVec F S96 .f32) (main_arg5 : FVec F S96x256x1x1 .f32) (main_arg6 : FVec F S96 .f32) (main_arg7 : FVec F S96x512x1x1 .f32) (main_arg8 : FVec F S96 .f32) (main_arg9 : FVec F S3x192x96x1x1 .f32) (main_arg10 : FVec F S3x192 .f32) (main_arg11 : FVec F S3x192x1x3x3 .f32) (main_arg12 : FVec F S3x192 .f32) (main_arg13 : FVec F S3x96x192x1x1 .f32) (main_arg14 : FVec F S3x96 .f32) (main_arg15 : FVec F S3x192x96x1x1 .f32) (main_arg16 : FVec F S3x192 .f32) (main_arg17 : FVec F S3x192x1x3x3 .f32) (main_arg18 : FVec F S3x192 .f32) (main_arg19 : FVec F S3x96x192x1x1 .f32) (main_arg20 : FVec F S3x96 .f32) (main_arg21 : FVec F S3x80x96x1x1 .f32) (main_arg22 : FVec F S3x80 .f32) (main_arg23 : FVec F S3x4x96x1x1 .f32) (main_arg24 : FVec F S3x4 .f32) (main_arg25 : FVec F S3x1x96x1x1 .f32) (main_arg26 : FVec F S3x1 .f32) (main_v14 : IVec S_ 1) (main_v15 : FVec F S96x128x1x1 .f32) (main_cst_5 : FVec F S_ .f32) : IVec S_ 1 :=
  let main_v16 : FVec F S96x128x1x1 .f32 := broadcastInDim S96x128x1x1 ![] bcast_S_S96x128x1x1 main_cst_5
  let main_v17 : IVec S96x128x1x1 1 := cmpf .olt main_v15 main_v16
  let main_c_6 : IVec S_ 1 := constantI S_ 1 1#1
  let main_v18 : IVec S_ 1 := (fun x v => Host.reduce IntOp.andi x v reducesTo_S96x128x1x1_S_d0_1_2_3 h_S_) main_v17 main_c_6
  let main_v19 : IVec S_ 1 := andi main_v14 main_v18
  let main_v20 : FVec F S96x256x1x1 .f32 := Host.absf main_arg5
  let main_cst_7 : FVec F S_ .f32 := constant S_ .f32 0x7F800000#32
  let main_v21 : FVec F S96x256x1x1 .f32 := broadcastInDim S96x256x1x1 ![] bcast_S_S96x256x1x1 main_cst_7
  let main_v22 : IVec S96x256x1x1 1 := cmpf .olt main_v20 main_v21
  let main_c_8 : IVec S_ 1 := constantI S_ 1 1#1
  let main_v23 : IVec S_ 1 := (fun x v => Host.reduce IntOp.andi x v reducesTo_S96x256x1x1_S_d0_1_2_3 h_S_) main_v22 main_c_8
  let main_v24 : IVec S_ 1 := andi main_v19 main_v23
  let main_v25 : FVec F S96x512x1x1 .f32 := Host.absf main_arg7
  let main_cst_9 : FVec F S_ .f32 := constant S_ .f32 0x7F800000#32
  let main_v26 : FVec F S96x512x1x1 .f32 := broadcastInDim S96x512x1x1 ![] bcast_S_S96x512x1x1 main_cst_9
  let main_v27 : IVec S96x512x1x1 1 := cmpf .olt main_v25 main_v26
  let main_c_10 : IVec S_ 1 := constantI S_ 1 1#1
  let main_v28 : IVec S_ 1 := (fun x v => Host.reduce IntOp.andi x v reducesTo_S96x512x1x1_S_d0_1_2_3 h_S_) main_v27 main_c_10
  let main_v29 : IVec S_ 1 := andi main_v24 main_v28
  let main_v30 : FVec F S3x192x96x1x1 .f32 := Host.absf main_arg9
  let main_cst_11 : FVec F S_ .f32 := constant S_ .f32 0x7F800000#32
  let main_v31 : FVec F S3x192x96x1x1 .f32 := broadcastInDim S3x192x96x1x1 ![] bcast_S_S3x192x96x1x1 main_cst_11
  let main_v32 : IVec S3x192x96x1x1 1 := cmpf .olt main_v30 main_v31
  let main_c_12 : IVec S_ 1 := constantI S_ 1 1#1
  fn_part2 (F := F) main_arg4 main_arg6 main_arg8 main_arg10 main_arg11 main_arg12 main_arg13 main_arg14 main_arg15 main_arg16 main_arg17 main_arg18 main_arg19 main_arg20 main_arg21 main_arg22 main_arg23 main_arg24 main_arg25 main_arg26 main_v29 main_v32 main_c_12

def fn {F : FTy → Type} [FloatOps F] (main_arg0 : FVec F S16x128x80x80 .f32) (main_arg1 : FVec F S16x256x40x40 .f32) (main_arg2 : FVec F S16x512x20x20 .f32) (main_arg3 : FVec F S96x128x1x1 .f32) (main_arg4 : FVec F S96 .f32) (main_arg5 : FVec F S96x256x1x1 .f32) (main_arg6 : FVec F S96 .f32) (main_arg7 : FVec F S96x512x1x1 .f32) (main_arg8 : FVec F S96 .f32) (main_arg9 : FVec F S3x192x96x1x1 .f32) (main_arg10 : FVec F S3x192 .f32) (main_arg11 : FVec F S3x192x1x3x3 .f32) (main_arg12 : FVec F S3x192 .f32) (main_arg13 : FVec F S3x96x192x1x1 .f32) (main_arg14 : FVec F S3x96 .f32) (main_arg15 : FVec F S3x192x96x1x1 .f32) (main_arg16 : FVec F S3x192 .f32) (main_arg17 : FVec F S3x192x1x3x3 .f32) (main_arg18 : FVec F S3x192 .f32) (main_arg19 : FVec F S3x96x192x1x1 .f32) (main_arg20 : FVec F S3x96 .f32) (main_arg21 : FVec F S3x80x96x1x1 .f32) (main_arg22 : FVec F S3x80 .f32) (main_arg23 : FVec F S3x4x96x1x1 .f32) (main_arg24 : FVec F S3x4 .f32) (main_arg25 : FVec F S3x1x96x1x1 .f32) (main_arg26 : FVec F S3x1 .f32) : IVec S_ 1 :=
  let main_v0 : FVec F S16x128x80x80 .f32 := Host.absf main_arg0
  let main_cst : FVec F S_ .f32 := constant S_ .f32 0x7F800000#32
  let main_v1 : FVec F S16x128x80x80 .f32 := broadcastInDim S16x128x80x80 ![] bcast_S_S16x128x80x80 main_cst
  let main_v2 : IVec S16x128x80x80 1 := cmpf .olt main_v0 main_v1
  let main_c : IVec S_ 1 := constantI S_ 1 1#1
  let main_v3 : IVec S_ 1 := (fun x v => Host.reduce IntOp.andi x v reducesTo_S16x128x80x80_S_d0_1_2_3 h_S_) main_v2 main_c
  let main_c_0 : IVec S_ 1 := constantI S_ 1 1#1
  let main_v4 : IVec S_ 1 := andi main_c_0 main_v3
  let main_v5 : FVec F S16x256x40x40 .f32 := Host.absf main_arg1
  let main_cst_1 : FVec F S_ .f32 := constant S_ .f32 0x7F800000#32
  let main_v6 : FVec F S16x256x40x40 .f32 := broadcastInDim S16x256x40x40 ![] bcast_S_S16x256x40x40 main_cst_1
  let main_v7 : IVec S16x256x40x40 1 := cmpf .olt main_v5 main_v6
  let main_c_2 : IVec S_ 1 := constantI S_ 1 1#1
  let main_v8 : IVec S_ 1 := (fun x v => Host.reduce IntOp.andi x v reducesTo_S16x256x40x40_S_d0_1_2_3 h_S_) main_v7 main_c_2
  let main_v9 : IVec S_ 1 := andi main_v4 main_v8
  let main_v10 : FVec F S16x512x20x20 .f32 := Host.absf main_arg2
  let main_cst_3 : FVec F S_ .f32 := constant S_ .f32 0x7F800000#32
  let main_v11 : FVec F S16x512x20x20 .f32 := broadcastInDim S16x512x20x20 ![] bcast_S_S16x512x20x20 main_cst_3
  let main_v12 : IVec S16x512x20x20 1 := cmpf .olt main_v10 main_v11
  let main_c_4 : IVec S_ 1 := constantI S_ 1 1#1
  let main_v13 : IVec S_ 1 := (fun x v => Host.reduce IntOp.andi x v reducesTo_S16x512x20x20_S_d0_1_2_3 h_S_) main_v12 main_c_4
  let main_v14 : IVec S_ 1 := andi main_v9 main_v13
  let main_v15 : FVec F S96x128x1x1 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v14 main_v15 main_cst_5
-- ==== Kernel.lean ====
abbrev S16x128x80x80 : Shape := ⟨4, ![16, 128, 80, 80]⟩
abbrev S16x256x40x40 : Shape := ⟨4, ![16, 256, 40, 40]⟩
abbrev S16x512x20x20 : Shape := ⟨4, ![16, 512, 20, 20]⟩
abbrev S96x128x1x1 : Shape := ⟨4, ![96, 128, 1, 1]⟩
abbrev S96 : Shape := ⟨1, ![96]⟩
abbrev S96x256x1x1 : Shape := ⟨4, ![96, 256, 1, 1]⟩
abbrev S96x512x1x1 : Shape := ⟨4, ![96, 512, 1, 1]⟩
abbrev S3x192x96x1x1 : Shape := ⟨5, ![3, 192, 96, 1, 1]⟩
abbrev S3x192 : Shape := ⟨2, ![3, 192]⟩
abbrev S3x192x1x3x3 : Shape := ⟨5, ![3, 192, 1, 3, 3]⟩
abbrev S3x96x192x1x1 : Shape := ⟨5, ![3, 96, 192, 1, 1]⟩
abbrev S3x96 : Shape := ⟨2, ![3, 96]⟩
abbrev S3x80x96x1x1 : Shape := ⟨5, ![3, 80, 96, 1, 1]⟩
abbrev S3x80 : Shape := ⟨2, ![3, 80]⟩
abbrev S3x4x96x1x1 : Shape := ⟨5, ![3, 4, 96, 1, 1]⟩
abbrev S3x4 : Shape := ⟨2, ![3, 4]⟩
abbrev S3x1x96x1x1 : Shape := ⟨5, ![3, 1, 96, 1, 1]⟩
abbrev S3x1 : Shape := ⟨2, ![3, 1]⟩
abbrev S1x192x96x1x1 : Shape := ⟨5, ![1, 192, 96, 1, 1]⟩
abbrev S192x96x1x1 : Shape := ⟨4, ![192, 96, 1, 1]⟩
abbrev S192x96 : Shape := ⟨2, ![192, 96]⟩
abbrev S96x192 : Shape := ⟨2, ![96, 192]⟩
abbrev S96x384 : Shape := ⟨2, ![96, 384]⟩
abbrev S1x192 : Shape := ⟨2, ![1, 192]⟩
abbrev S192 : Shape := ⟨1, ![192]⟩
abbrev S384 : Shape := ⟨1, ![384]⟩
abbrev S1x384 : Shape := ⟨2, ![1, 384]⟩
abbrev S1x192x1x3x3 : Shape := ⟨5, ![1, 192, 1, 3, 3]⟩
abbrev S192x1x3x3 : Shape := ⟨4, ![192, 1, 3, 3]⟩
abbrev S192x9 : Shape := ⟨2, ![192, 9]⟩
abbrev S9x192 : Shape := ⟨2, ![9, 192]⟩
abbrev S9x384 : Shape := ⟨2, ![9, 384]⟩
abbrev S_ : Shape := ⟨0, ![]⟩
abbrev S1x96x192x1x1 : Shape := ⟨5, ![1, 96, 192, 1, 1]⟩
abbrev S96x192x1x1 : Shape := ⟨4, ![96, 192, 1, 1]⟩
abbrev S192x192 : Shape := ⟨2, ![192, 192]⟩
abbrev S384x192 : Shape := ⟨2, ![384, 192]⟩
abbrev S1x96 : Shape := ⟨2, ![1, 96]⟩
abbrev S1x4x96x1x1 : Shape := ⟨5, ![1, 4, 96, 1, 1]⟩
abbrev S4x96x1x1 : Shape := ⟨4, ![4, 96, 1, 1]⟩
abbrev S4x96 : Shape := ⟨2, ![4, 96]⟩
abbrev S1x1x96x1x1 : Shape := ⟨5, ![1, 1, 96, 1, 1]⟩
abbrev S1x96x1x1 : Shape := ⟨4, ![1, 96, 1, 1]⟩
abbrev S5x96 : Shape := ⟨2, ![5, 96]⟩
abbrev S96x5 : Shape := ⟨2, ![96, 5]⟩
abbrev S1x80x96x1x1 : Shape := ⟨5, ![1, 80, 96, 1, 1]⟩
abbrev S80x96x1x1 : Shape := ⟨4, ![80, 96, 1, 1]⟩
abbrev S80x96 : Shape := ⟨2, ![80, 96]⟩
abbrev S96x80 : Shape := ⟨2, ![96, 80]⟩
abbrev S96x85 : Shape := ⟨2, ![96, 85]⟩
abbrev S192x85 : Shape := ⟨2, ![192, 85]⟩
abbrev S1x4 : Shape := ⟨2, ![1, 4]⟩
abbrev S4 : Shape := ⟨1, ![4]⟩
abbrev S1x1 : Shape := ⟨2, ![1, 1]⟩
abbrev S1 : Shape := ⟨1, ![1]⟩
abbrev S1x80 : Shape := ⟨2, ![1, 80]⟩
abbrev S80 : Shape := ⟨1, ![80]⟩
abbrev S85 : Shape := ⟨1, ![85]⟩
abbrev S1x85 : Shape := ⟨2, ![1, 85]⟩
abbrev S384x85 : Shape := ⟨2, ![384, 85]⟩
abbrev S96x128 : Shape := ⟨2, ![96, 128]⟩
abbrev S128x96 : Shape := ⟨2, ![128, 96]⟩
abbrev S16x128x6400 : Shape := ⟨3, ![16, 128, 6400]⟩
abbrev S96x256 : Shape := ⟨2, ![96, 256]⟩
abbrev S256x96 : Shape := ⟨2, ![256, 96]⟩
abbrev S16x256x1600 : Shape := ⟨3, ![16, 256, 1600]⟩
abbrev S96x512 : Shape := ⟨2, ![96, 512]⟩
abbrev S512x96 : Shape := ⟨2, ![512, 96]⟩
abbrev S16x512x400 : Shape := ⟨3, ![16, 512, 400]⟩
abbrev S16x8400x85 : Shape := ⟨3, ![16, 8400, 85]⟩
abbrev S1x128x6400 : Shape := ⟨3, ![1, 128, 6400]⟩
abbrev S1x256x1600 : Shape := ⟨3, ![1, 256, 1600]⟩
abbrev S1x512x400 : Shape := ⟨3, ![1, 512, 400]⟩
abbrev S1x8400x85 : Shape := ⟨3, ![1, 8400, 85]⟩
abbrev S128x6400 : Shape := ⟨2, ![128, 6400]⟩
abbrev S6400x96 : Shape := ⟨2, ![6400, 96]⟩
abbrev S6400x384 : Shape := ⟨2, ![6400, 384]⟩
abbrev S80x80x384 : Shape := ⟨3, ![80, 80, 384]⟩
abbrev S80x1x384 : Shape := ⟨3, ![80, 1, 384]⟩
abbrev S80x79x384 : Shape := ⟨3, ![80, 79, 384]⟩
abbrev S1x1x384 : Shape := ⟨3, ![1, 1, 384]⟩
abbrev S1x80x384 : Shape := ⟨3, ![1, 80, 384]⟩
abbrev S79x80x384 : Shape := ⟨3, ![79, 80, 384]⟩
abbrev S6400x85 : Shape := ⟨2, ![6400, 85]⟩
abbrev S1x6400x85 : Shape := ⟨3, ![1, 6400, 85]⟩
abbrev S256x1600 : Shape := ⟨2, ![256, 1600]⟩
abbrev S1600x96 : Shape := ⟨2, ![1600, 96]⟩
abbrev S1600x384 : Shape := ⟨2, ![1600, 384]⟩
abbrev S40x40x384 : Shape := ⟨3, ![40, 40, 384]⟩
abbrev S40x1x384 : Shape := ⟨3, ![40, 1, 384]⟩
abbrev S40x39x384 : Shape := ⟨3, ![40, 39, 384]⟩
abbrev S1x40x384 : Shape := ⟨3, ![1, 40, 384]⟩
abbrev S39x40x384 : Shape := ⟨3, ![39, 40, 384]⟩
abbrev S1600x85 : Shape := ⟨2, ![1600, 85]⟩
abbrev S1x1600x85 : Shape := ⟨3, ![1, 1600, 85]⟩
abbrev S512x400 : Shape := ⟨2, ![512, 400]⟩
abbrev S400x96 : Shape := ⟨2, ![400, 96]⟩
abbrev S400x384 : Shape := ⟨2, ![400, 384]⟩
abbrev S21x384 : Shape := ⟨2, ![21, 384]⟩
abbrev S379x384 : Shape := ⟨2, ![379, 384]⟩
abbrev S20x384 : Shape := ⟨2, ![20, 384]⟩
abbrev S380x384 : Shape := ⟨2, ![380, 384]⟩
abbrev S19x384 : Shape := ⟨2, ![19, 384]⟩
abbrev S381x384 : Shape := ⟨2, ![381, 384]⟩
abbrev S399x384 : Shape := ⟨2, ![399, 384]⟩
abbrev S400x85 : Shape := ⟨2, ![400, 85]⟩
abbrev S1x400x85 : Shape := ⟨3, ![1, 400, 85]⟩

abbrev nBuf : Space → Nat
  | .hbm => 295
  | .vmem => 26
  | .smem => 0
  | _ => 0

abbrev hbmTy0_0 (i : Nat) : BufTy := match i % 128 with
  | 0 => ⟨S16x128x80x80, .f32⟩
  | 1 => ⟨S16x256x40x40, .f32⟩
  | 2 => ⟨S16x512x20x20, .f32⟩
  | 3 => ⟨S96x128x1x1, .f32⟩
  | 4 => ⟨S96, .f32⟩
  | 5 => ⟨S96x256x1x1, .f32⟩
  | 6 => ⟨S96, .f32⟩
  | 7 => ⟨S96x512x1x1, .f32⟩
  | 8 => ⟨S96, .f32⟩
  | 9 => ⟨S3x192x96x1x1, .f32⟩
  | 10 => ⟨S3x192, .f32⟩
  | 11 => ⟨S3x192x1x3x3, .f32⟩
  | 12 => ⟨S3x192, .f32⟩
  | 13 => ⟨S3x96x192x1x1, .f32⟩
  | 14 => ⟨S3x96, .f32⟩
  | 15 => ⟨S3x192x96x1x1, .f32⟩
  | 16 => ⟨S3x192, .f32⟩
  | 17 => ⟨S3x192x1x3x3, .f32⟩
  | 18 => ⟨S3x192, .f32⟩
  | 19 => ⟨S3x96x192x1x1, .f32⟩
  | 20 => ⟨S3x96, .f32⟩
  | 21 => ⟨S3x80x96x1x1, .f32⟩
  | 22 => ⟨S3x80, .f32⟩
  | 23 => ⟨S3x4x96x1x1, .f32⟩
  | 24 => ⟨S3x4, .f32⟩
  | 25 => ⟨S3x1x96x1x1, .f32⟩
  | 26 => ⟨S3x1, .f32⟩
  | 27 => ⟨S1x192x96x1x1, .f32⟩
  | 28 => ⟨S192x96x1x1, .f32⟩
  | 29 => ⟨S192x96, .f32⟩
  | 30 => ⟨S96x192, .f32⟩
  | 31 => ⟨S1x192x96x1x1, .f32⟩
  | 32 => ⟨S192x96x1x1, .f32⟩
  | 33 => ⟨S192x96, .f32⟩
  | 34 => ⟨S96x192, .f32⟩
  | 35 => ⟨S96x384, .f32⟩
  | 36 => ⟨S1x192, .f32⟩
  | 37 => ⟨S192, .f32⟩
  | 38 => ⟨S1x192, .f32⟩
  | 39 => ⟨S192, .f32⟩
  | 40 => ⟨S384, .f32⟩
  | 41 => ⟨S1x384, .f32⟩
  | 42 => ⟨S1x192x1x3x3, .f32⟩
  | 43 => ⟨S192x1x3x3, .f32⟩
  | 44 => ⟨S192x9, .f32⟩
  | 45 => ⟨S9x192, .f32⟩
  | 46 => ⟨S1x192x1x3x3, .f32⟩
  | 47 => ⟨S192x1x3x3, .f32⟩
  | 48 => ⟨S192x9, .f32⟩
  | 49 => ⟨S9x192, .f32⟩
  | 50 => ⟨S9x384, .f32⟩
  | 51 => ⟨S1x192, .f32⟩
  | 52 => ⟨S192, .f32⟩
  | 53 => ⟨S1x192, .f32⟩
  | 54 => ⟨S192, .f32⟩
  | 55 => ⟨S384, .f32⟩
  | 56 => ⟨S1x384, .f32⟩
  | 57 => ⟨S_, .f32⟩
  | 58 => ⟨S192x96, .f32⟩
  | 59 => ⟨S1x96x192x1x1, .f32⟩
  | 60 => ⟨S96x192x1x1, .f32⟩
  | 61 => ⟨S96x192, .f32⟩
  | 62 => ⟨S192x96, .f32⟩
  | 63 => ⟨S192x192, .f32⟩
  | 64 => ⟨S1x96x192x1x1, .f32⟩
  | 65 => ⟨S96x192x1x1, .f32⟩
  | 66 => ⟨S96x192, .f32⟩
  | 67 => ⟨S192x96, .f32⟩
  | 68 => ⟨S192x192, .f32⟩
  | 69 => ⟨S384x192, .f32⟩
  | 70 => ⟨S1x96, .f32⟩
  | 71 => ⟨S96, .f32⟩
  | 72 => ⟨S1x96, .f32⟩
  | 73 => ⟨S96, .f32⟩
  | 74 => ⟨S192, .f32⟩
  | 75 => ⟨S1x192, .f32⟩
  | 76 => ⟨S1x4x96x1x1, .f32⟩
  | 77 => ⟨S4x96x1x1, .f32⟩
  | 78 => ⟨S4x96, .f32⟩
  | 79 => ⟨S1x1x96x1x1, .f32⟩
  | 80 => ⟨S1x96x1x1, .f32⟩
  | 81 => ⟨S1x96, .f32⟩
  | 82 => ⟨S5x96, .f32⟩
  | 83 => ⟨S96x5, .f32⟩
  | 84 => ⟨S1x80x96x1x1, .f32⟩
  | 85 => ⟨S80x96x1x1, .f32⟩
  | 86 => ⟨S80x96, .f32⟩
  | 87 => ⟨S96x80, .f32⟩
  | 88 => ⟨S_, .f32⟩
  | 89 => ⟨S96x5, .f32⟩
  | 90 => ⟨S96x85, .f32⟩
  | 91 => ⟨S_, .f32⟩
  | 92 => ⟨S96x80, .f32⟩
  | 93 => ⟨S96x85, .f32⟩
  | 94 => ⟨S192x85, .f32⟩
  | 95 => ⟨S1x4, .f32⟩
  | 96 => ⟨S4, .f32⟩
  | 97 => ⟨S1x1, .f32⟩
  | 98 => ⟨S1, .f32⟩
  | 99 => ⟨S1x80, .f32⟩
  | 100 => ⟨S80, .f32⟩
  | 101 => ⟨S85, .f32⟩
  | 102 => ⟨S1x85, .f32⟩
  | 103 => ⟨S384x85, .f32⟩
  | 104 => ⟨S96x85, .f32⟩
  | 105 => ⟨S96x85, .f32⟩
  | 106 => ⟨S96x85, .f32⟩
  | 107 => ⟨S1x85, .f32⟩
  | 108 => ⟨S1x85, .f32⟩
  | 109 => ⟨S96x128, .f32⟩
  | 110 => ⟨S128x96, .f32⟩
  | 111 => ⟨S128x96, .bf16⟩
  | 112 => ⟨S96x384, .bf16⟩
  | 113 => ⟨S384x85, .bf16⟩
  | 114 => ⟨S96x85, .bf16⟩
  | 115 => ⟨S16x128x6400, .f32⟩
  | 116 => ⟨S1x192x96x1x1, .f32⟩
  | 117 => ⟨S192x96x1x1, .f32⟩
  | 118 => ⟨S192x96, .f32⟩
  | 119 => ⟨S96x192, .f32⟩
  | 120 => ⟨S1x192x96x1x1, .f32⟩
  | 121 => ⟨S192x96x1x1, .f32⟩
  | 122 => ⟨S192x96, .f32⟩
  | 123 => ⟨S96x192, .f32⟩
  | 124 => ⟨S96x384, .f32⟩
  | 125 => ⟨S1x192, .f32⟩
  | 126 => ⟨S192, .f32⟩
  | 127 => ⟨S1x192, .f32⟩
  | _ => ⟨S16x128x80x80, .f32⟩

abbrev hbmTy0_1 (i : Nat) : BufTy := match i % 128 with
  | 0 => ⟨S192, .f32⟩
  | 1 => ⟨S384, .f32⟩
  | 2 => ⟨S1x384, .f32⟩
  | 3 => ⟨S1x192x1x3x3, .f32⟩
  | 4 => ⟨S192x1x3x3, .f32⟩
  | 5 => ⟨S192x9, .f32⟩
  | 6 => ⟨S9x192, .f32⟩
  | 7 => ⟨S1x192x1x3x3, .f32⟩
  | 8 => ⟨S192x1x3x3, .f32⟩
  | 9 => ⟨S192x9, .f32⟩
  | 10 => ⟨S9x192, .f32⟩
  | 11 => ⟨S9x384, .f32⟩
  | 12 => ⟨S1x192, .f32⟩
  | 13 => ⟨S192, .f32⟩
  | 14 => ⟨S1x192, .f32⟩
  | 15 => ⟨S192, .f32⟩
  | 16 => ⟨S384, .f32⟩
  | 17 => ⟨S1x384, .f32⟩
  | 18 => ⟨S_, .f32⟩
  | 19 => ⟨S192x96, .f32⟩
  | 20 => ⟨S1x96x192x1x1, .f32⟩
  | 21 => ⟨S96x192x1x1, .f32⟩
  | 22 => ⟨S96x192, .f32⟩
  | 23 => ⟨S192x96, .f32⟩
  | 24 => ⟨S192x192, .f32⟩
  | 25 => ⟨S1x96x192x1x1, .f32⟩
  | 26 => ⟨S96x192x1x1, .f32⟩
  | 27 => ⟨S96x192, .f32⟩
  | 28 => ⟨S192x96, .f32⟩
  | 29 => ⟨S192x192, .f32⟩
  | 30 => ⟨S384x192, .f32⟩
  | 31 => ⟨S1x96, .f32⟩
  | 32 => ⟨S96, .f32⟩
  | 33 => ⟨S1x96, .f32⟩
  | 34 => ⟨S96, .f32⟩
  | 35 => ⟨S192, .f32⟩
  | 36 => ⟨S1x192, .f32⟩
  | 37 => ⟨S1x4x96x1x1, .f32⟩
  | 38 => ⟨S4x96x1x1, .f32⟩
  | 39 => ⟨S4x96, .f32⟩
  | 40 => ⟨S1x1x96x1x1, .f32⟩
  | 41 => ⟨S1x96x1x1, .f32⟩
  | 42 => ⟨S1x96, .f32⟩
  | 43 => ⟨S5x96, .f32⟩
  | 44 => ⟨S96x5, .f32⟩
  | 45 => ⟨S1x80x96x1x1, .f32⟩
  | 46 => ⟨S80x96x1x1, .f32⟩
  | 47 => ⟨S80x96, .f32⟩
  | 48 => ⟨S96x80, .f32⟩
  | 49 => ⟨S_, .f32⟩
  | 50 => ⟨S96x5, .f32⟩
  | 51 => ⟨S96x85, .f32⟩
  | 52 => ⟨S_, .f32⟩
  | 53 => ⟨S96x80, .f32⟩
  | 54 => ⟨S96x85, .f32⟩
  | 55 => ⟨S192x85, .f32⟩
  | 56 => ⟨S1x4, .f32⟩
  | 57 => ⟨S4, .f32⟩
  | 58 => ⟨S1x1, .f32⟩
  | 59 => ⟨S1, .f32⟩
  | 60 => ⟨S1x80, .f32⟩
  | 61 => ⟨S80, .f32⟩
  | 62 => ⟨S85, .f32⟩
  | 63 => ⟨S1x85, .f32⟩
  | 64 => ⟨S384x85, .f32⟩
  | 65 => ⟨S96x85, .f32⟩
  | 66 => ⟨S96x85, .f32⟩
  | 67 => ⟨S96x85, .f32⟩
  | 68 => ⟨S1x85, .f32⟩
  | 69 => ⟨S1x85, .f32⟩
  | 70 => ⟨S96x256, .f32⟩
  | 71 => ⟨S256x96, .f32⟩
  | 72 => ⟨S256x96, .bf16⟩
  | 73 => ⟨S96x384, .bf16⟩
  | 74 => ⟨S384x85, .bf16⟩
  | 75 => ⟨S96x85, .bf16⟩
  | 76 => ⟨S16x256x1600, .f32⟩
  | 77 => ⟨S1x192x96x1x1, .f32⟩
  | 78 => ⟨S192x96x1x1, .f32⟩
  | 79 => ⟨S192x96, .f32⟩
  | 80 => ⟨S96x192, .f32⟩
  | 81 => ⟨S1x192x96x1x1, .f32⟩
  | 82 => ⟨S192x96x1x1, .f32⟩
  | 83 => ⟨S192x96, .f32⟩
  | 84 => ⟨S96x192, .f32⟩
  | 85 => ⟨S96x384, .f32⟩
  | 86 => ⟨S1x192, .f32⟩
  | 87 => ⟨S192, .f32⟩
  | 88 => ⟨S1x192, .f32⟩
  | 89 => ⟨S192, .f32⟩
  | 90 => ⟨S384, .f32⟩
  | 91 => ⟨S1x384, .f32⟩
  | 92 => ⟨S1x192x1x3x3, .f32⟩
  | 93 => ⟨S192x1x3x3, .f32⟩
  | 94 => ⟨S192x9, .f32⟩
  | 95 => ⟨S9x192, .f32⟩
  | 96 => ⟨S1x192x1x3x3, .f32⟩
  | 97 => ⟨S192x1x3x3, .f32⟩
  | 98 => ⟨S192x9, .f32⟩
  | 99 => ⟨S9x192, .f32⟩
  | 100 => ⟨S9x384, .f32⟩
  | 101 => ⟨S1x192, .f32⟩
  | 102 => ⟨S192, .f32⟩
  | 103 => ⟨S1x192, .f32⟩
  | 104 => ⟨S192, .f32⟩
  | 105 => ⟨S384, .f32⟩
  | 106 => ⟨S1x384, .f32⟩
  | 107 => ⟨S_, .f32⟩
  | 108 => ⟨S192x96, .f32⟩
  | 109 => ⟨S1x96x192x1x1, .f32⟩
  | 110 => ⟨S96x192x1x1, .f32⟩
  | 111 => ⟨S96x192, .f32⟩
  | 112 => ⟨S192x96, .f32⟩
  | 113 => ⟨S192x192, .f32⟩
  | 114 => ⟨S1x96x192x1x1, .f32⟩
  | 115 => ⟨S96x192x1x1, .f32⟩
  | 116 => ⟨S96x192, .f32⟩
  | 117 => ⟨S192x96, .f32⟩
  | 118 => ⟨S192x192, .f32⟩
  | 119 => ⟨S384x192, .f32⟩
  | 120 => ⟨S1x96, .f32⟩
  | 121 => ⟨S96, .f32⟩
  | 122 => ⟨S1x96, .f32⟩
  | 123 => ⟨S96, .f32⟩
  | 124 => ⟨S192, .f32⟩
  | 125 => ⟨S1x192, .f32⟩
  | 126 => ⟨S1x4x96x1x1, .f32⟩
  | 127 => ⟨S4x96x1x1, .f32⟩
  | _ => ⟨S16x128x80x80, .f32⟩

abbrev hbmTy0_2 (i : Nat) : BufTy := match i % 128 with
  | 0 => ⟨S4x96, .f32⟩
  | 1 => ⟨S1x1x96x1x1, .f32⟩
  | 2 => ⟨S1x96x1x1, .f32⟩
  | 3 => ⟨S1x96, .f32⟩
  | 4 => ⟨S5x96, .f32⟩
  | 5 => ⟨S96x5, .f32⟩
  | 6 => ⟨S1x80x96x1x1, .f32⟩
  | 7 => ⟨S80x96x1x1, .f32⟩
  | 8 => ⟨S80x96, .f32⟩
  | 9 => ⟨S96x80, .f32⟩
  | 10 => ⟨S_, .f32⟩
  | 11 => ⟨S96x5, .f32⟩
  | 12 => ⟨S96x85, .f32⟩
  | 13 => ⟨S_, .f32⟩
  | 14 => ⟨S96x80, .f32⟩
  | 15 => ⟨S96x85, .f32⟩
  | 16 => ⟨S192x85, .f32⟩
  | 17 => ⟨S1x4, .f32⟩
  | 18 => ⟨S4, .f32⟩
  | 19 => ⟨S1x1, .f32⟩
  | 20 => ⟨S1, .f32⟩
  | 21 => ⟨S1x80, .f32⟩
  | 22 => ⟨S80, .f32⟩
  | 23 => ⟨S85, .f32⟩
  | 24 => ⟨S1x85, .f32⟩
  | 25 => ⟨S384x85, .f32⟩
  | 26 => ⟨S96x85, .f32⟩
  | 27 => ⟨S96x85, .f32⟩
  | 28 => ⟨S96x85, .f32⟩
  | 29 => ⟨S1x85, .f32⟩
  | 30 => ⟨S1x85, .f32⟩
  | 31 => ⟨S96x512, .f32⟩
  | 32 => ⟨S512x96, .f32⟩
  | 33 => ⟨S512x96, .bf16⟩
  | 34 => ⟨S96x384, .bf16⟩
  | 35 => ⟨S384x85, .bf16⟩
  | 36 => ⟨S96x85, .bf16⟩
  | 37 => ⟨S16x512x400, .f32⟩
  | 38 => ⟨S16x8400x85, .f32⟩
  | _ => ⟨S16x128x80x80, .f32⟩

abbrev hbmTy (i : Nat) : BufTy := match i / 128 with
  | 0 => hbmTy0_0 i
  | 1 => hbmTy0_1 i
  | 2 => hbmTy0_2 i
  | _ => ⟨S16x128x80x80, .f32⟩

abbrev bufTy : (tb : Table) → Fin (tcTables nBuf tb) → BufTy
  | .hbm, ⟨i, _⟩ => hbmTy i
  | .local _ .vmem, ⟨0, _⟩ => ⟨S1x128x6400, .f32⟩
  | .local _ .vmem, ⟨1, _⟩ => ⟨S1x128x6400, .f32⟩
  | .local _ .vmem, ⟨2, _⟩ => ⟨S1x256x1600, .f32⟩
  | .local _ .vmem, ⟨3, _⟩ => ⟨S1x256x1600, .f32⟩
  | .local _ .vmem, ⟨4, _⟩ => ⟨S1x512x400, .f32⟩
  | .local _ .vmem, ⟨5, _⟩ => ⟨S1x512x400, .f32⟩
  | .local _ .vmem, ⟨6, _⟩ => ⟨S128x96, .bf16⟩
  | .local _ .vmem, ⟨7, _⟩ => ⟨S96x384, .bf16⟩
  | .local _ .vmem, ⟨8, _⟩ => ⟨S9x384, .f32⟩
  | .local _ .vmem, ⟨9, _⟩ => ⟨S384x85, .bf16⟩
  | .local _ .vmem, ⟨10, _⟩ => ⟨S96x85, .bf16⟩
  | .local _ .vmem, ⟨11, _⟩ => ⟨S1x85, .f32⟩
  | .local _ .vmem, ⟨12, _⟩ => ⟨S256x96, .bf16⟩
  | .local _ .vmem, ⟨13, _⟩ => ⟨S96x384, .bf16⟩
  | .local _ .vmem, ⟨14, _⟩ => ⟨S9x384, .f32⟩
  | .local _ .vmem, ⟨15, _⟩ => ⟨S384x85, .bf16⟩
  | .local _ .vmem, ⟨16, _⟩ => ⟨S96x85, .bf16⟩
  | .local _ .vmem, ⟨17, _⟩ => ⟨S1x85, .f32⟩
  | .local _ .vmem, ⟨18, _⟩ => ⟨S512x96, .bf16⟩
  | .local _ .vmem, ⟨19, _⟩ => ⟨S96x384, .bf16⟩
  | .local _ .vmem, ⟨20, _⟩ => ⟨S9x384, .f32⟩
  | .local _ .vmem, ⟨21, _⟩ => ⟨S384x85, .bf16⟩
  | .local _ .vmem, ⟨22, _⟩ => ⟨S96x85, .bf16⟩
  | .local _ .vmem, ⟨23, _⟩ => ⟨S1x85, .f32⟩
  | .local _ .vmem, ⟨24, _⟩ => ⟨S1x8400x85, .f32⟩
  | .local _ .vmem, ⟨25, _⟩ => ⟨S1x8400x85, .f32⟩
  | _, _ => ⟨S16x128x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_0 : Ref sig .tc := ⟨.hbm, 88, rfl⟩
abbrev main_v60 : Ref sig .tc := ⟨.hbm, 89, rfl⟩
abbrev main_v61 : Ref sig .tc := ⟨.hbm, 90, rfl⟩
abbrev main_cst_1 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_2 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_3 : Ref sig .tc := ⟨.hbm, 177, rfl⟩
abbrev main_v146 : Ref sig .tc := ⟨.hbm, 178, rfl⟩
abbrev main_v147 : Ref sig .tc := ⟨.hbm, 179, rfl⟩
abbrev main_cst_4 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_cst_5 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_cst_6 : Ref sig .tc := ⟨.hbm, 266, rfl⟩
abbrev main_v232 : Ref sig .tc := ⟨.hbm, 267, rfl⟩
abbrev main_v233 : Ref sig .tc := ⟨.hbm, 268, rfl⟩
abbrev main_cst_7 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x85 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x85 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x85 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x96 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S9x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x85 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S96x85 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x85 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x96 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S96x384 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S9x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S384x85 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S96x85 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x85 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x8400x85 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S16x128x80x80 : Shape := ⟨4, ![16, 128, 80, 80]⟩
abbrev S16x256x40x40 : Shape := ⟨4, ![16, 256, 40, 40]⟩
abbrev S16x512x20x20 : Shape := ⟨4, ![16, 512, 20, 20]⟩
abbrev S96x128x1x1 : Shape := ⟨4, ![96, 128, 1, 1]⟩
abbrev S96 : Shape := ⟨1, ![96]⟩
abbrev S96x256x1x1 : Shape := ⟨4, ![96, 256, 1, 1]⟩
abbrev S96x512x1x1 : Shape := ⟨4, ![96, 512, 1, 1]⟩
abbrev S3x192x96x1x1 : Shape := ⟨5, ![3, 192, 96, 1, 1]⟩
abbrev S3x192 : Shape := ⟨2, ![3, 192]⟩
abbrev S3x192x1x3x3 : Shape := ⟨5, ![3, 192, 1, 3, 3]⟩
abbrev S3x96x192x1x1 : Shape := ⟨5, ![3, 96, 192, 1, 1]⟩
abbrev S3x96 : Shape := ⟨2, ![3, 96]⟩
abbrev S3x80x96x1x1 : Shape := ⟨5, ![3, 80, 96, 1, 1]⟩
abbrev S3x80 : Shape := ⟨2, ![3, 80]⟩
abbrev S3x4x96x1x1 : Shape := ⟨5, ![3, 4, 96, 1, 1]⟩
abbrev S3x4 : Shape := ⟨2, ![3, 4]⟩
abbrev S3x1x96x1x1 : Shape := ⟨5, ![3, 1, 96, 1, 1]⟩
abbrev S3x1 : Shape := ⟨2, ![3, 1]⟩
abbrev S96x128 : Shape := ⟨2, ![96, 128]⟩
abbrev S96x16x80x80 : Shape := ⟨4, ![96, 16, 80, 80]⟩
abbrev S16x96x80x80 : Shape := ⟨4, ![16, 96, 80, 80]⟩
abbrev S1x96x1x1 : Shape := ⟨4, ![1, 96, 1, 1]⟩
abbrev S_ : Shape := ⟨0, ![]⟩
abbrev S1x192x96x1x1 : Shape := ⟨5, ![1, 192, 96, 1, 1]⟩
abbrev S192x96x1x1 : Shape := ⟨4, ![192, 96, 1, 1]⟩
abbrev S1x192 : Shape := ⟨2, ![1, 192]⟩
abbrev S192 : Shape := ⟨1, ![192]⟩
abbrev S1x192x1x3x3 : Shape := ⟨5, ![1, 192, 1, 3, 3]⟩
abbrev S192x1x3x3 : Shape := ⟨4, ![192, 1, 3, 3]⟩
abbrev S1x96x192x1x1 : Shape := ⟨5, ![1, 96, 192, 1, 1]⟩
abbrev S96x192x1x1 : Shape := ⟨4, ![96, 192, 1, 1]⟩
abbrev S1x96 : Shape := ⟨2, ![1, 96]⟩
abbrev S192x96 : Shape := ⟨2, ![192, 96]⟩
abbrev S192x16x80x80 : Shape := ⟨4, ![192, 16, 80, 80]⟩
abbrev S16x192x80x80 : Shape := ⟨4, ![16, 192, 80, 80]⟩
abbrev S1x192x1x1 : Shape := ⟨4, ![1, 192, 1, 1]⟩
abbrev S16x192x82x82 : Shape := ⟨4, ![16, 192, 82, 82]⟩
abbrev S192x1x1x1 : Shape := ⟨4, ![192, 1, 1, 1]⟩
abbrev S96x192 : Shape := ⟨2, ![96, 192]⟩
abbrev S1x80x96x1x1 : Shape := ⟨5, ![1, 80, 96, 1, 1]⟩
abbrev S80x96x1x1 : Shape := ⟨4, ![80, 96, 1, 1]⟩
abbrev S1x80 : Shape := ⟨2, ![1, 80]⟩
abbrev S80 : Shape := ⟨1, ![80]⟩
abbrev S80x96 : Shape := ⟨2, ![80, 96]⟩
abbrev S80x16x80x80 : Shape := ⟨4, ![80, 16, 80, 80]⟩
abbrev S16x80x80x80 : Shape := ⟨4, ![16, 80, 80, 80]⟩
abbrev S1x80x1x1 : Shape := ⟨4, ![1, 80, 1, 1]⟩
abbrev S1x4x96x1x1 : Shape := ⟨5, ![1, 4, 96, 1, 1]⟩
abbrev S4x96x1x1 : Shape := ⟨4, ![4, 96, 1, 1]⟩
abbrev S1x4 : Shape := ⟨2, ![1, 4]⟩
abbrev S4 : Shape := ⟨1, ![4]⟩
abbrev S4x96 : Shape := ⟨2, ![4, 96]⟩
abbrev S4x16x80x80 : Shape := ⟨4, ![4, 16, 80, 80]⟩
abbrev S16x4x80x80 : Shape := ⟨4, ![16, 4, 80, 80]⟩
abbrev S1x4x1x1 : Shape := ⟨4, ![1, 4, 1, 1]⟩
abbrev S1x1x96x1x1 : Shape := ⟨5, ![1, 1, 96, 1, 1]⟩
abbrev S1x1 : Shape := ⟨2, ![1, 1]⟩
abbrev S1 : Shape := ⟨1, ![1]⟩
abbrev S1x16x80x80 : Shape := ⟨4, ![1, 16, 80, 80]⟩
abbrev S16x1x80x80 : Shape := ⟨4, ![16, 1, 80, 80]⟩
abbrev S1x1x1x1 : Shape := ⟨4, ![1, 1, 1, 1]⟩
abbrev S80x80 : Shape := ⟨2, ![80, 80]⟩
abbrev S1x80x80 : Shape := ⟨3, ![1, 80, 80]⟩
abbrev S2x80x80 : Shape := ⟨3, ![2, 80, 80]⟩
abbrev S1x2x80x80 : Shape := ⟨4, ![1, 2, 80, 80]⟩
abbrev S16x2x80x80 : Shape := ⟨4, ![16, 2, 80, 80]⟩
abbrev S16x85x80x80 : Shape := ⟨4, ![16, 85, 80, 80]⟩
abbrev S16x85x6400 : Shape := ⟨3, ![16, 85, 6400]⟩
abbrev S16x6400x85 : Shape := ⟨3, ![16, 6400, 85]⟩
abbrev S96x256 : Shape := ⟨2, ![96, 256]⟩
abbrev S96x16x40x40 : Shape := ⟨4, ![96, 16, 40, 40]⟩
abbrev S16x96x40x40 : Shape := ⟨4, ![16, 96, 40, 40]⟩
abbrev S192x16x40x40 : Shape := ⟨4, ![192, 16, 40, 40]⟩
abbrev S16x192x40x40 : Shape := ⟨4, ![16, 192, 40, 40]⟩
abbrev S16x192x42x42 : Shape := ⟨4, ![16, 192, 42, 42]⟩
abbrev S80x16x40x40 : Shape := ⟨4, ![80, 16, 40, 40]⟩
abbrev S16x80x40x40 : Shape := ⟨4, ![16, 80, 40, 40]⟩
abbrev S4x16x40x40 : Shape := ⟨4, ![4, 16, 40, 40]⟩
abbrev S16x4x40x40 : Shape := ⟨4, ![16, 4, 40, 40]⟩
abbrev S1x16x40x40 : Shape := ⟨4, ![1, 16, 40, 40]⟩
abbrev S16x1x40x40 : Shape := ⟨4, ![16, 1, 40, 40]⟩
abbrev S40 : Shape := ⟨1, ![40]⟩
abbrev S40x40 : Shape := ⟨2, ![40, 40]⟩
abbrev S1x40x40 : Shape := ⟨3, ![1, 40, 40]⟩
abbrev S2x40x40 : Shape := ⟨3, ![2, 40, 40]⟩
abbrev S1x2x40x40 : Shape := ⟨4, ![1, 2, 40, 40]⟩
abbrev S16x2x40x40 : Shape := ⟨4, ![16, 2, 40, 40]⟩
abbrev S16x85x40x40 : Shape := ⟨4, ![16, 85, 40, 40]⟩
abbrev S16x85x1600 : Shape := ⟨3, ![16, 85, 1600]⟩
abbrev S16x1600x85 : Shape := ⟨3, ![16, 1600, 85]⟩
abbrev S96x512 : Shape := ⟨2, ![96, 512]⟩
abbrev S96x16x20x20 : Shape := ⟨4, ![96, 16, 20, 20]⟩
abbrev S16x96x20x20 : Shape := ⟨4, ![16, 96, 20, 20]⟩
abbrev S192x16x20x20 : Shape := ⟨4, ![192, 16, 20, 20]⟩
abbrev S16x192x20x20 : Shape := ⟨4, ![16, 192, 20, 20]⟩
abbrev S16x192x22x22 : Shape := ⟨4, ![16, 192, 22, 22]⟩
abbrev S80x16x20x20 : Shape := ⟨4, ![80, 16, 20, 20]⟩
abbrev S16x80x20x20 : Shape := ⟨4, ![16, 80, 20, 20]⟩
abbrev S4x16x20x20 : Shape := ⟨4, ![4, 16, 20, 20]⟩
abbrev S16x4x20x20 : Shape := ⟨4, ![16, 4, 20, 20]⟩
abbrev S1x16x20x20 : Shape := ⟨4, ![1, 16, 20, 20]⟩
abbrev S16x1x20x20 : Shape := ⟨4, ![16, 1, 20, 20]⟩
abbrev S20 : Shape := ⟨1, ![20]⟩
abbrev S20x20 : Shape := ⟨2, ![20, 20]⟩
abbrev S1x20x20 : Shape := ⟨3, ![1, 20, 20]⟩
abbrev S2x20x20 : Shape := ⟨3, ![2, 20, 20]⟩
abbrev S1x2x20x20 : Shape := ⟨4, ![1, 2, 20, 20]⟩
abbrev S16x2x20x20 : Shape := ⟨4, ![16, 2, 20, 20]⟩
abbrev S16x85x20x20 : Shape := ⟨4, ![16, 85, 20, 20]⟩
abbrev S16x85x400 : Shape := ⟨3, ![16, 85, 400]⟩
abbrev S16x400x85 : Shape := ⟨3, ![16, 400, 85]⟩
abbrev S16x8400x85 : Shape := ⟨3, ![16, 8400, 85]⟩

abbrev nBuf : Space → Nat
  | .hbm => 961
  | .vmem => 0
  | .smem => 0
  | _ => 0

abbrev hbmTy0_0 (i : Nat) : BufTy := match i % 128 with
  | 0 => ⟨S16x128x80x80, .f32⟩
  | 1 => ⟨S16x256x40x40, .f32⟩
  | 2 => ⟨S16x512x20x20, .f32⟩
  | 3 => ⟨S96x128x1x1, .f32⟩
  | 4 => ⟨S96, .f32⟩
  | 5 => ⟨S96x256x1x1, .f32⟩
  | 6 => ⟨S96, .f32⟩
  | 7 => ⟨S96x512x1x1, .f32⟩
  | 8 => ⟨S96, .f32⟩
  | 9 => ⟨S3x192x96x1x1, .f32⟩
  | 10 => ⟨S3x192, .f32⟩
  | 11 => ⟨S3x192x1x3x3, .f32⟩
  | 12 => ⟨S3x192, .f32⟩
  | 13 => ⟨S3x96x192x1x1, .f32⟩
  | 14 => ⟨S3x96, .f32⟩
  | 15 => ⟨S3x192x96x1x1, .f32⟩
  | 16 => ⟨S3x192, .f32⟩
  | 17 => ⟨S3x192x1x3x3, .f32⟩
  | 18 => ⟨S3x192, .f32⟩
  | 19 => ⟨S3x96x192x1x1, .f32⟩
  | 20 => ⟨S3x96, .f32⟩
  | 21 => ⟨S3x80x96x1x1, .f32⟩
  | 22 => ⟨S3x80, .f32⟩
  | 23 => ⟨S3x4x96x1x1, .f32⟩
  | 24 => ⟨S3x4, .f32⟩
  | 25 => ⟨S3x1x96x1x1, .f32⟩
  | 26 => ⟨S3x1, .f32⟩
  | 27 => ⟨S96x128, .f32⟩
  | 28 => ⟨S96x16x80x80, .f32⟩
  | 29 => ⟨S16x96x80x80, .f32⟩
  | 30 => ⟨S1x96x1x1, .f32⟩
  | 31 => ⟨S16x96x80x80, .f32⟩
  | 32 => ⟨S16x96x80x80, .f32⟩
  | 33 => ⟨S16x96x80x80, .f32⟩
  | 34 => ⟨S16x96x80x80, .f32⟩
  | 35 => ⟨S_, .f32⟩
  | 36 => ⟨S16x96x80x80, .f32⟩
  | 37 => ⟨S16x96x80x80, .f32⟩
  | 38 => ⟨S_, .f32⟩
  | 39 => ⟨S16x96x80x80, .f32⟩
  | 40 => ⟨S16x96x80x80, .f32⟩
  | 41 => ⟨S16x96x80x80, .f32⟩
  | 42 => ⟨S1x192x96x1x1, .f32⟩
  | 43 => ⟨S192x96x1x1, .f32⟩
  | 44 => ⟨S1x192, .f32⟩
  | 45 => ⟨S192, .f32⟩
  | 46 => ⟨S1x192x1x3x3, .f32⟩
  | 47 => ⟨S192x1x3x3, .f32⟩
  | 48 => ⟨S1x192, .f32⟩
  | 49 => ⟨S192, .f32⟩
  | 50 => ⟨S1x96x192x1x1, .f32⟩
  | 51 => ⟨S96x192x1x1, .f32⟩
  | 52 => ⟨S1x96, .f32⟩
  | 53 => ⟨S96, .f32⟩
  | 54 => ⟨S192x96, .f32⟩
  | 55 => ⟨S192x16x80x80, .f32⟩
  | 56 => ⟨S16x192x80x80, .f32⟩
  | 57 => ⟨S1x192x1x1, .f32⟩
  | 58 => ⟨S16x192x80x80, .f32⟩
  | 59 => ⟨S16x192x80x80, .f32⟩
  | 60 => ⟨S16x192x80x80, .f32⟩
  | 61 => ⟨S16x192x80x80, .f32⟩
  | 62 => ⟨S_, .f32⟩
  | 63 => ⟨S16x192x80x80, .f32⟩
  | 64 => ⟨S16x192x80x80, .f32⟩
  | 65 => ⟨S_, .f32⟩
  | 66 => ⟨S16x192x80x80, .f32⟩
  | 67 => ⟨S16x192x80x80, .f32⟩
  | 68 => ⟨S16x192x80x80, .f32⟩
  | 69 => ⟨S_, .i32⟩
  | 70 => ⟨S_, .f32⟩
  | 71 => ⟨S16x192x82x82, .f32⟩
  | 72 => ⟨S16x192x80x80, .f32⟩
  | 73 => ⟨S192x1x1x1, .f32⟩
  | 74 => ⟨S192, .f32⟩
  | 75 => ⟨S1x192x1x1, .f32⟩
  | 76 => ⟨S16x192x80x80, .f32⟩
  | 77 => ⟨S16x192x80x80, .f32⟩
  | 78 => ⟨S_, .f32⟩
  | 79 => ⟨S16x192x80x80, .f32⟩
  | 80 => ⟨S16x192x80x80, .f32⟩
  | 81 => ⟨S16x192x80x80, .f32⟩
  | 82 => ⟨S192x1x1x1, .f32⟩
  | 83 => ⟨S192, .f32⟩
  | 84 => ⟨S1x192x1x1, .f32⟩
  | 85 => ⟨S16x192x80x80, .f32⟩
  | 86 => ⟨S16x192x80x80, .f32⟩
  | 87 => ⟨S16x192x80x80, .f32⟩
  | 88 => ⟨S16x192x80x80, .f32⟩
  | 89 => ⟨S192x1x1x1, .f32⟩
  | 90 => ⟨S192, .f32⟩
  | 91 => ⟨S1x192x1x1, .f32⟩
  | 92 => ⟨S16x192x80x80, .f32⟩
  | 93 => ⟨S16x192x80x80, .f32⟩
  | 94 => ⟨S16x192x80x80, .f32⟩
  | 95 => ⟨S16x192x80x80, .f32⟩
  | 96 => ⟨S192x1x1x1, .f32⟩
  | 97 => ⟨S192, .f32⟩
  | 98 => ⟨S1x192x1x1, .f32⟩
  | 99 => ⟨S16x192x80x80, .f32⟩
  | 100 => ⟨S16x192x80x80, .f32⟩
  | 101 => ⟨S16x192x80x80, .f32⟩
  | 102 => ⟨S16x192x80x80, .f32⟩
  | 103 => ⟨S192x1x1x1, .f32⟩
  | 104 => ⟨S192, .f32⟩
  | 105 => ⟨S1x192x1x1, .f32⟩
  | 106 => ⟨S16x192x80x80, .f32⟩
  | 107 => ⟨S16x192x80x80, .f32⟩
  | 108 => ⟨S16x192x80x80, .f32⟩
  | 109 => ⟨S16x192x80x80, .f32⟩
  | 110 => ⟨S192x1x1x1, .f32⟩
  | 111 => ⟨S192, .f32⟩
  | 112 => ⟨S1x192x1x1, .f32⟩
  | 113 => ⟨S16x192x80x80, .f32⟩
  | 114 => ⟨S16x192x80x80, .f32⟩
  | 115 => ⟨S16x192x80x80, .f32⟩
  | 116 => ⟨S16x192x80x80, .f32⟩
  | 117 => ⟨S192x1x1x1, .f32⟩
  | 118 => ⟨S192, .f32⟩
  | 119 => ⟨S1x192x1x1, .f32⟩
  | 120 => ⟨S16x192x80x80, .f32⟩
  | 121 => ⟨S16x192x80x80, .f32⟩
  | 122 => ⟨S16x192x80x80, .f32⟩
  | 123 => ⟨S16x192x80x80, .f32⟩
  | 124 => ⟨S192x1x1x1, .f32⟩
  | 125 => ⟨S192, .f32⟩
  | 126 => ⟨S1x192x1x1, .f32⟩
  | 127 => ⟨S16x192x80x80, .f32⟩
  | _ => ⟨S16x128x80x80, .f32⟩

abbrev hbmTy0_1 (i : Nat) : BufTy := match i % 128 with
  | 0 => ⟨S16x192x80x80, .f32⟩
  | 1 => ⟨S16x192x80x80, .f32⟩
  | 2 => ⟨S16x192x80x80, .f32⟩
  | 3 => ⟨S192x1x1x1, .f32⟩
  | 4 => ⟨S192, .f32⟩
  | 5 => ⟨S1x192x1x1, .f32⟩
  | 6 => ⟨S16x192x80x80, .f32⟩
  | 7 => ⟨S16x192x80x80, .f32⟩
  | 8 => ⟨S16x192x80x80, .f32⟩
  | 9 => ⟨S1x192x1x1, .f32⟩
  | 10 => ⟨S16x192x80x80, .f32⟩
  | 11 => ⟨S16x192x80x80, .f32⟩
  | 12 => ⟨S16x192x80x80, .f32⟩
  | 13 => ⟨S16x192x80x80, .f32⟩
  | 14 => ⟨S_, .f32⟩
  | 15 => ⟨S16x192x80x80, .f32⟩
  | 16 => ⟨S16x192x80x80, .f32⟩
  | 17 => ⟨S_, .f32⟩
  | 18 => ⟨S16x192x80x80, .f32⟩
  | 19 => ⟨S16x192x80x80, .f32⟩
  | 20 => ⟨S16x192x80x80, .f32⟩
  | 21 => ⟨S96x192, .f32⟩
  | 22 => ⟨S96x16x80x80, .f32⟩
  | 23 => ⟨S16x96x80x80, .f32⟩
  | 24 => ⟨S1x96x1x1, .f32⟩
  | 25 => ⟨S16x96x80x80, .f32⟩
  | 26 => ⟨S16x96x80x80, .f32⟩
  | 27 => ⟨S16x96x80x80, .f32⟩
  | 28 => ⟨S1x192x96x1x1, .f32⟩
  | 29 => ⟨S192x96x1x1, .f32⟩
  | 30 => ⟨S1x192, .f32⟩
  | 31 => ⟨S192, .f32⟩
  | 32 => ⟨S1x192x1x3x3, .f32⟩
  | 33 => ⟨S192x1x3x3, .f32⟩
  | 34 => ⟨S1x192, .f32⟩
  | 35 => ⟨S192, .f32⟩
  | 36 => ⟨S1x96x192x1x1, .f32⟩
  | 37 => ⟨S96x192x1x1, .f32⟩
  | 38 => ⟨S1x96, .f32⟩
  | 39 => ⟨S96, .f32⟩
  | 40 => ⟨S192x96, .f32⟩
  | 41 => ⟨S192x16x80x80, .f32⟩
  | 42 => ⟨S16x192x80x80, .f32⟩
  | 43 => ⟨S1x192x1x1, .f32⟩
  | 44 => ⟨S16x192x80x80, .f32⟩
  | 45 => ⟨S16x192x80x80, .f32⟩
  | 46 => ⟨S16x192x80x80, .f32⟩
  | 47 => ⟨S16x192x80x80, .f32⟩
  | 48 => ⟨S_, .f32⟩
  | 49 => ⟨S16x192x80x80, .f32⟩
  | 50 => ⟨S16x192x80x80, .f32⟩
  | 51 => ⟨S_, .f32⟩
  | 52 => ⟨S16x192x80x80, .f32⟩
  | 53 => ⟨S16x192x80x80, .f32⟩
  | 54 => ⟨S16x192x80x80, .f32⟩
  | 55 => ⟨S_, .i32⟩
  | 56 => ⟨S_, .f32⟩
  | 57 => ⟨S16x192x82x82, .f32⟩
  | 58 => ⟨S16x192x80x80, .f32⟩
  | 59 => ⟨S192x1x1x1, .f32⟩
  | 60 => ⟨S192, .f32⟩
  | 61 => ⟨S1x192x1x1, .f32⟩
  | 62 => ⟨S16x192x80x80, .f32⟩
  | 63 => ⟨S16x192x80x80, .f32⟩
  | 64 => ⟨S_, .f32⟩
  | 65 => ⟨S16x192x80x80, .f32⟩
  | 66 => ⟨S16x192x80x80, .f32⟩
  | 67 => ⟨S16x192x80x80, .f32⟩
  | 68 => ⟨S192x1x1x1, .f32⟩
  | 69 => ⟨S192, .f32⟩
  | 70 => ⟨S1x192x1x1, .f32⟩
  | 71 => ⟨S16x192x80x80, .f32⟩
  | 72 => ⟨S16x192x80x80, .f32⟩
  | 73 => ⟨S16x192x80x80, .f32⟩
  | 74 => ⟨S16x192x80x80, .f32⟩
  | 75 => ⟨S192x1x1x1, .f32⟩
  | 76 => ⟨S192, .f32⟩
  | 77 => ⟨S1x192x1x1, .f32⟩
  | 78 => ⟨S16x192x80x80, .f32⟩
  | 79 => ⟨S16x192x80x80, .f32⟩
  | 80 => ⟨S16x192x80x80, .f32⟩
  | 81 => ⟨S16x192x80x80, .f32⟩
  | 82 => ⟨S192x1x1x1, .f32⟩
  | 83 => ⟨S192, .f32⟩
  | 84 => ⟨S1x192x1x1, .f32⟩
  | 85 => ⟨S16x192x80x80, .f32⟩
  | 86 => ⟨S16x192x80x80, .f32⟩
  | 87 => ⟨S16x192x80x80, .f32⟩
  | 88 => ⟨S16x192x80x80, .f32⟩
  | 89 => ⟨S192x1x1x1, .f32⟩
  | 90 => ⟨S192, .f32⟩
  | 91 => ⟨S1x192x1x1, .f32⟩
  | 92 => ⟨S16x192x80x80, .f32⟩
  | 93 => ⟨S16x192x80x80, .f32⟩
  | 94 => ⟨S16x192x80x80, .f32⟩
  | 95 => ⟨S16x192x80x80, .f32⟩
  | 96 => ⟨S192x1x1x1, .f32⟩
  | 97 => ⟨S192, .f32⟩
  | 98 => ⟨S1x192x1x1, .f32⟩
  | 99 => ⟨S16x192x80x80, .f32⟩
  | 100 => ⟨S16x192x80x80, .f32⟩
  | 101 => ⟨S16x192x80x80, .f32⟩
  | 102 => ⟨S16x192x80x80, .f32⟩
  | 103 => ⟨S192x1x1x1, .f32⟩
  | 104 => ⟨S192, .f32⟩
  | 105 => ⟨S1x192x1x1, .f32⟩
  | 106 => ⟨S16x192x80x80, .f32⟩
  | 107 => ⟨S16x192x80x80, .f32⟩
  | 108 => ⟨S16x192x80x80, .f32⟩
  | 109 => ⟨S16x192x80x80, .f32⟩
  | 110 => ⟨S192x1x1x1, .f32⟩
  | 111 => ⟨S192, .f32⟩
  | 112 => ⟨S1x192x1x1, .f32⟩
  | 113 => ⟨S16x192x80x80, .f32⟩
  | 114 => ⟨S16x192x80x80, .f32⟩
  | 115 => ⟨S16x192x80x80, .f32⟩
  | 116 => ⟨S16x192x80x80, .f32⟩
  | 117 => ⟨S192x1x1x1, .f32⟩
  | 118 => ⟨S192, .f32⟩
  | 119 => ⟨S1x192x1x1, .f32⟩
  | 120 => ⟨S16x192x80x80, .f32⟩
  | 121 => ⟨S16x192x80x80, .f32⟩
  | 122 => ⟨S16x192x80x80, .f32⟩
  | 123 => ⟨S1x192x1x1, .f32⟩
  | 124 => ⟨S16x192x80x80, .f32⟩
  | 125 => ⟨S16x192x80x80, .f32⟩
  | 126 => ⟨S16x192x80x80, .f32⟩
  | 127 => ⟨S16x192x80x80, .f32⟩
  | _ => ⟨S16x128x80x80, .f32⟩

abbrev hbmTy0_2 (i : Nat) : BufTy := match i % 128 with
  | 0 => ⟨S_, .f32⟩
  | 1 => ⟨S16x192x80x80, .f32⟩
  | 2 => ⟨S16x192x80x80, .f32⟩
  | 3 => ⟨S_, .f32⟩
  | 4 => ⟨S16x192x80x80, .f32⟩
  | 5 => ⟨S16x192x80x80, .f32⟩
  | 6 => ⟨S16x192x80x80, .f32⟩
  | 7 => ⟨S96x192, .f32⟩
  | 8 => ⟨S96x16x80x80, .f32⟩
  | 9 => ⟨S16x96x80x80, .f32⟩
  | 10 => ⟨S1x96x1x1, .f32⟩
  | 11 => ⟨S16x96x80x80, .f32⟩
  | 12 => ⟨S16x96x80x80, .f32⟩
  | 13 => ⟨S16x96x80x80, .f32⟩
  | 14 => ⟨S1x80x96x1x1, .f32⟩
  | 15 => ⟨S80x96x1x1, .f32⟩
  | 16 => ⟨S1x80, .f32⟩
  | 17 => ⟨S80, .f32⟩
  | 18 => ⟨S80x96, .f32⟩
  | 19 => ⟨S80x16x80x80, .f32⟩
  | 20 => ⟨S16x80x80x80, .f32⟩
  | 21 => ⟨S1x80x1x1, .f32⟩
  | 22 => ⟨S16x80x80x80, .f32⟩
  | 23 => ⟨S16x80x80x80, .f32⟩
  | 24 => ⟨S1x4x96x1x1, .f32⟩
  | 25 => ⟨S4x96x1x1, .f32⟩
  | 26 => ⟨S1x4, .f32⟩
  | 27 => ⟨S4, .f32⟩
  | 28 => ⟨S4x96, .f32⟩
  | 29 => ⟨S4x16x80x80, .f32⟩
  | 30 => ⟨S16x4x80x80, .f32⟩
  | 31 => ⟨S1x4x1x1, .f32⟩
  | 32 => ⟨S16x4x80x80, .f32⟩
  | 33 => ⟨S16x4x80x80, .f32⟩
  | 34 => ⟨S1x1x96x1x1, .f32⟩
  | 35 => ⟨S1x96x1x1, .f32⟩
  | 36 => ⟨S1x1, .f32⟩
  | 37 => ⟨S1, .f32⟩
  | 38 => ⟨S1x96, .f32⟩
  | 39 => ⟨S1x16x80x80, .f32⟩
  | 40 => ⟨S16x1x80x80, .f32⟩
  | 41 => ⟨S1x1x1x1, .f32⟩
  | 42 => ⟨S16x1x80x80, .f32⟩
  | 43 => ⟨S16x1x80x80, .f32⟩
  | 44 => ⟨S80, .f32⟩
  | 45 => ⟨S80, .f32⟩
  | 46 => ⟨S80x80, .f32⟩
  | 47 => ⟨S80x80, .f32⟩
  | 48 => ⟨S1x80x80, .f32⟩
  | 49 => ⟨S1x80x80, .f32⟩
  | 50 => ⟨S2x80x80, .f32⟩
  | 51 => ⟨S1x2x80x80, .f32⟩
  | 52 => ⟨S16x2x80x80, .f32⟩
  | 53 => ⟨S16x2x80x80, .f32⟩
  | 54 => ⟨S16x2x80x80, .f32⟩
  | 55 => ⟨S_, .f32⟩
  | 56 => ⟨S16x2x80x80, .f32⟩
  | 57 => ⟨S16x2x80x80, .f32⟩
  | 58 => ⟨S16x2x80x80, .f32⟩
  | 59 => ⟨S16x2x80x80, .f32⟩
  | 60 => ⟨S_, .f32⟩
  | 61 => ⟨S16x2x80x80, .f32⟩
  | 62 => ⟨S16x2x80x80, .f32⟩
  | 63 => ⟨S16x1x80x80, .f32⟩
  | 64 => ⟨S16x1x80x80, .f32⟩
  | 65 => ⟨S_, .f32⟩
  | 66 => ⟨S16x1x80x80, .f32⟩
  | 67 => ⟨S16x1x80x80, .f32⟩
  | 68 => ⟨S_, .f32⟩
  | 69 => ⟨S16x1x80x80, .f32⟩
  | 70 => ⟨S16x1x80x80, .f32⟩
  | 71 => ⟨S16x80x80x80, .f32⟩
  | 72 => ⟨S16x80x80x80, .f32⟩
  | 73 => ⟨S_, .f32⟩
  | 74 => ⟨S16x80x80x80, .f32⟩
  | 75 => ⟨S16x80x80x80, .f32⟩
  | 76 => ⟨S_, .f32⟩
  | 77 => ⟨S16x80x80x80, .f32⟩
  | 78 => ⟨S16x80x80x80, .f32⟩
  | 79 => ⟨S16x85x80x80, .f32⟩
  | 80 => ⟨S16x85x6400, .f32⟩
  | 81 => ⟨S16x6400x85, .f32⟩
  | 82 => ⟨S96x256, .f32⟩
  | 83 => ⟨S96x16x40x40, .f32⟩
  | 84 => ⟨S16x96x40x40, .f32⟩
  | 85 => ⟨S1x96x1x1, .f32⟩
  | 86 => ⟨S16x96x40x40, .f32⟩
  | 87 => ⟨S16x96x40x40, .f32⟩
  | 88 => ⟨S16x96x40x40, .f32⟩
  | 89 => ⟨S16x96x40x40, .f32⟩
  | 90 => ⟨S_, .f32⟩
  | 91 => ⟨S16x96x40x40, .f32⟩
  | 92 => ⟨S16x96x40x40, .f32⟩
  | 93 => ⟨S_, .f32⟩
  | 94 => ⟨S16x96x40x40, .f32⟩
  | 95 => ⟨S16x96x40x40, .f32⟩
  | 96 => ⟨S16x96x40x40, .f32⟩
  | 97 => ⟨S1x192x96x1x1, .f32⟩
  | 98 => ⟨S192x96x1x1, .f32⟩
  | 99 => ⟨S1x192, .f32⟩
  | 100 => ⟨S192, .f32⟩
  | 101 => ⟨S1x192x1x3x3, .f32⟩
  | 102 => ⟨S192x1x3x3, .f32⟩
  | 103 => ⟨S1x192, .f32⟩
  | 104 => ⟨S192, .f32⟩
  | 105 => ⟨S1x96x192x1x1, .f32⟩
  | 106 => ⟨S96x192x1x1, .f32⟩
  | 107 => ⟨S1x96, .f32⟩
  | 108 => ⟨S96, .f32⟩
  | 109 => ⟨S192x96, .f32⟩
  | 110 => ⟨S192x16x40x40, .f32⟩
  | 111 => ⟨S16x192x40x40, .f32⟩
  | 112 => ⟨S1x192x1x1, .f32⟩
  | 113 => ⟨S16x192x40x40, .f32⟩
  | 114 => ⟨S16x192x40x40, .f32⟩
  | 115 => ⟨S16x192x40x40, .f32⟩
  | 116 => ⟨S16x192x40x40, .f32⟩
  | 117 => ⟨S_, .f32⟩
  | 118 => ⟨S16x192x40x40, .f32⟩
  | 119 => ⟨S16x192x40x40, .f32⟩
  | 120 => ⟨S_, .f32⟩
  | 121 => ⟨S16x192x40x40, .f32⟩
  | 122 => ⟨S16x192x40x40, .f32⟩
  | 123 => ⟨S16x192x40x40, .f32⟩
  | 124 => ⟨S_, .i32⟩
  | 125 => ⟨S_, .f32⟩
  | 126 => ⟨S16x192x42x42, .f32⟩
  | 127 => ⟨S16x192x40x40, .f32⟩
  | _ => ⟨S16x128x80x80, .f32⟩

abbrev hbmTy0_3 (i : Nat) : BufTy := match i % 128 with
  | 0 => ⟨S192x1x1x1, .f32⟩
  | 1 => ⟨S192, .f32⟩
  | 2 => ⟨S1x192x1x1, .f32⟩
  | 3 => ⟨S16x192x40x40, .f32⟩
  | 4 => ⟨S16x192x40x40, .f32⟩
  | 5 => ⟨S_, .f32⟩
  | 6 => ⟨S16x192x40x40, .f32⟩
  | 7 => ⟨S16x192x40x40, .f32⟩
  | 8 => ⟨S16x192x40x40, .f32⟩
  | 9 => ⟨S192x1x1x1, .f32⟩
  | 10 => ⟨S192, .f32⟩
  | 11 => ⟨S1x192x1x1, .f32⟩
  | 12 => ⟨S16x192x40x40, .f32⟩
  | 13 => ⟨S16x192x40x40, .f32⟩
  | 14 => ⟨S16x192x40x40, .f32⟩
  | 15 => ⟨S16x192x40x40, .f32⟩
  | 16 => ⟨S192x1x1x1, .f32⟩
  | 17 => ⟨S192, .f32⟩
  | 18 => ⟨S1x192x1x1, .f32⟩
  | 19 => ⟨S16x192x40x40, .f32⟩
  | 20 => ⟨S16x192x40x40, .f32⟩
  | 21 => ⟨S16x192x40x40, .f32⟩
  | 22 => ⟨S16x192x40x40, .f32⟩
  | 23 => ⟨S192x1x1x1, .f32⟩
  | 24 => ⟨S192, .f32⟩
  | 25 => ⟨S1x192x1x1, .f32⟩
  | 26 => ⟨S16x192x40x40, .f32⟩
  | 27 => ⟨S16x192x40x40, .f32⟩
  | 28 => ⟨S16x192x40x40, .f32⟩
  | 29 => ⟨S16x192x40x40, .f32⟩
  | 30 => ⟨S192x1x1x1, .f32⟩
  | 31 => ⟨S192, .f32⟩
  | 32 => ⟨S1x192x1x1, .f32⟩
  | 33 => ⟨S16x192x40x40, .f32⟩
  | 34 => ⟨S16x192x40x40, .f32⟩
  | 35 => ⟨S16x192x40x40, .f32⟩
  | 36 => ⟨S16x192x40x40, .f32⟩
  | 37 => ⟨S192x1x1x1, .f32⟩
  | 38 => ⟨S192, .f32⟩
  | 39 => ⟨S1x192x1x1, .f32⟩
  | 40 => ⟨S16x192x40x40, .f32⟩
  | 41 => ⟨S16x192x40x40, .f32⟩
  | 42 => ⟨S16x192x40x40, .f32⟩
  | 43 => ⟨S16x192x40x40, .f32⟩
  | 44 => ⟨S192x1x1x1, .f32⟩
  | 45 => ⟨S192, .f32⟩
  | 46 => ⟨S1x192x1x1, .f32⟩
  | 47 => ⟨S16x192x40x40, .f32⟩
  | 48 => ⟨S16x192x40x40, .f32⟩
  | 49 => ⟨S16x192x40x40, .f32⟩
  | 50 => ⟨S16x192x40x40, .f32⟩
  | 51 => ⟨S192x1x1x1, .f32⟩
  | 52 => ⟨S192, .f32⟩
  | 53 => ⟨S1x192x1x1, .f32⟩
  | 54 => ⟨S16x192x40x40, .f32⟩
  | 55 => ⟨S16x192x40x40, .f32⟩
  | 56 => ⟨S16x192x40x40, .f32⟩
  | 57 => ⟨S16x192x40x40, .f32⟩
  | 58 => ⟨S192x1x1x1, .f32⟩
  | 59 => ⟨S192, .f32⟩
  | 60 => ⟨S1x192x1x1, .f32⟩
  | 61 => ⟨S16x192x40x40, .f32⟩
  | 62 => ⟨S16x192x40x40, .f32⟩
  | 63 => ⟨S16x192x40x40, .f32⟩
  | 64 => ⟨S1x192x1x1, .f32⟩
  | 65 => ⟨S16x192x40x40, .f32⟩
  | 66 => ⟨S16x192x40x40, .f32⟩
  | 67 => ⟨S16x192x40x40, .f32⟩
  | 68 => ⟨S16x192x40x40, .f32⟩
  | 69 => ⟨S_, .f32⟩
  | 70 => ⟨S16x192x40x40, .f32⟩
  | 71 => ⟨S16x192x40x40, .f32⟩
  | 72 => ⟨S_, .f32⟩
  | 73 => ⟨S16x192x40x40, .f32⟩
  | 74 => ⟨S16x192x40x40, .f32⟩
  | 75 => ⟨S16x192x40x40, .f32⟩
  | 76 => ⟨S96x192, .f32⟩
  | 77 => ⟨S96x16x40x40, .f32⟩
  | 78 => ⟨S16x96x40x40, .f32⟩
  | 79 => ⟨S1x96x1x1, .f32⟩
  | 80 => ⟨S16x96x40x40, .f32⟩
  | 81 => ⟨S16x96x40x40, .f32⟩
  | 82 => ⟨S16x96x40x40, .f32⟩
  | 83 => ⟨S1x192x96x1x1, .f32⟩
  | 84 => ⟨S192x96x1x1, .f32⟩
  | 85 => ⟨S1x192, .f32⟩
  | 86 => ⟨S192, .f32⟩
  | 87 => ⟨S1x192x1x3x3, .f32⟩
  | 88 => ⟨S192x1x3x3, .f32⟩
  | 89 => ⟨S1x192, .f32⟩
  | 90 => ⟨S192, .f32⟩
  | 91 => ⟨S1x96x192x1x1, .f32⟩
  | 92 => ⟨S96x192x1x1, .f32⟩
  | 93 => ⟨S1x96, .f32⟩
  | 94 => ⟨S96, .f32⟩
  | 95 => ⟨S192x96, .f32⟩
  | 96 => ⟨S192x16x40x40, .f32⟩
  | 97 => ⟨S16x192x40x40, .f32⟩
  | 98 => ⟨S1x192x1x1, .f32⟩
  | 99 => ⟨S16x192x40x40, .f32⟩
  | 100 => ⟨S16x192x40x40, .f32⟩
  | 101 => ⟨S16x192x40x40, .f32⟩
  | 102 => ⟨S16x192x40x40, .f32⟩
  | 103 => ⟨S_, .f32⟩
  | 104 => ⟨S16x192x40x40, .f32⟩
  | 105 => ⟨S16x192x40x40, .f32⟩
  | 106 => ⟨S_, .f32⟩
  | 107 => ⟨S16x192x40x40, .f32⟩
  | 108 => ⟨S16x192x40x40, .f32⟩
  | 109 => ⟨S16x192x40x40, .f32⟩
  | 110 => ⟨S_, .i32⟩
  | 111 => ⟨S_, .f32⟩
  | 112 => ⟨S16x192x42x42, .f32⟩
  | 113 => ⟨S16x192x40x40, .f32⟩
  | 114 => ⟨S192x1x1x1, .f32⟩
  | 115 => ⟨S192, .f32⟩
  | 116 => ⟨S1x192x1x1, .f32⟩
  | 117 => ⟨S16x192x40x40, .f32⟩
  | 118 => ⟨S16x192x40x40, .f32⟩
  | 119 => ⟨S_, .f32⟩
  | 120 => ⟨S16x192x40x40, .f32⟩
  | 121 => ⟨S16x192x40x40, .f32⟩
  | 122 => ⟨S16x192x40x40, .f32⟩
  | 123 => ⟨S192x1x1x1, .f32⟩
  | 124 => ⟨S192, .f32⟩
  | 125 => ⟨S1x192x1x1, .f32⟩
  | 126 => ⟨S16x192x40x40, .f32⟩
  | 127 => ⟨S16x192x40x40, .f32⟩
  | _ => ⟨S16x128x80x80, .f32⟩

abbrev hbmTy0_4 (i : Nat) : BufTy := match i % 128 with
  | 0 => ⟨S16x192x40x40, .f32⟩
  | 1 => ⟨S16x192x40x40, .f32⟩
  | 2 => ⟨S192x1x1x1, .f32⟩
  | 3 => ⟨S192, .f32⟩
  | 4 => ⟨S1x192x1x1, .f32⟩
  | 5 => ⟨S16x192x40x40, .f32⟩
  | 6 => ⟨S16x192x40x40, .f32⟩
  | 7 => ⟨S16x192x40x40, .f32⟩
  | 8 => ⟨S16x192x40x40, .f32⟩
  | 9 => ⟨S192x1x1x1, .f32⟩
  | 10 => ⟨S192, .f32⟩
  | 11 => ⟨S1x192x1x1, .f32⟩
  | 12 => ⟨S16x192x40x40, .f32⟩
  | 13 => ⟨S16x192x40x40, .f32⟩
  | 14 => ⟨S16x192x40x40, .f32⟩
  | 15 => ⟨S16x192x40x40, .f32⟩
  | 16 => ⟨S192x1x1x1, .f32⟩
  | 17 => ⟨S192, .f32⟩
  | 18 => ⟨S1x192x1x1, .f32⟩
  | 19 => ⟨S16x192x40x40, .f32⟩
  | 20 => ⟨S16x192x40x40, .f32⟩
  | 21 => ⟨S16x192x40x40, .f32⟩
  | 22 => ⟨S16x192x40x40, .f32⟩
  | 23 => ⟨S192x1x1x1, .f32⟩
  | 24 => ⟨S192, .f32⟩
  | 25 => ⟨S1x192x1x1, .f32⟩
  | 26 => ⟨S16x192x40x40, .f32⟩
  | 27 => ⟨S16x192x40x40, .f32⟩
  | 28 => ⟨S16x192x40x40, .f32⟩
  | 29 => ⟨S16x192x40x40, .f32⟩
  | 30 => ⟨S192x1x1x1, .f32⟩
  | 31 => ⟨S192, .f32⟩
  | 32 => ⟨S1x192x1x1, .f32⟩
  | 33 => ⟨S16x192x40x40, .f32⟩
  | 34 => ⟨S16x192x40x40, .f32⟩
  | 35 => ⟨S16x192x40x40, .f32⟩
  | 36 => ⟨S16x192x40x40, .f32⟩
  | 37 => ⟨S192x1x1x1, .f32⟩
  | 38 => ⟨S192, .f32⟩
  | 39 => ⟨S1x192x1x1, .f32⟩
  | 40 => ⟨S16x192x40x40, .f32⟩
  | 41 => ⟨S16x192x40x40, .f32⟩
  | 42 => ⟨S16x192x40x40, .f32⟩
  | 43 => ⟨S16x192x40x40, .f32⟩
  | 44 => ⟨S192x1x1x1, .f32⟩
  | 45 => ⟨S192, .f32⟩
  | 46 => ⟨S1x192x1x1, .f32⟩
  | 47 => ⟨S16x192x40x40, .f32⟩
  | 48 => ⟨S16x192x40x40, .f32⟩
  | 49 => ⟨S16x192x40x40, .f32⟩
  | 50 => ⟨S1x192x1x1, .f32⟩
  | 51 => ⟨S16x192x40x40, .f32⟩
  | 52 => ⟨S16x192x40x40, .f32⟩
  | 53 => ⟨S16x192x40x40, .f32⟩
  | 54 => ⟨S16x192x40x40, .f32⟩
  | 55 => ⟨S_, .f32⟩
  | 56 => ⟨S16x192x40x40, .f32⟩
  | 57 => ⟨S16x192x40x40, .f32⟩
  | 58 => ⟨S_, .f32⟩
  | 59 => ⟨S16x192x40x40, .f32⟩
  | 60 => ⟨S16x192x40x40, .f32⟩
  | 61 => ⟨S16x192x40x40, .f32⟩
  | 62 => ⟨S96x192, .f32⟩
  | 63 => ⟨S96x16x40x40, .f32⟩
  | 64 => ⟨S16x96x40x40, .f32⟩
  | 65 => ⟨S1x96x1x1, .f32⟩
  | 66 => ⟨S16x96x40x40, .f32⟩
  | 67 => ⟨S16x96x40x40, .f32⟩
  | 68 => ⟨S16x96x40x40, .f32⟩
  | 69 => ⟨S1x80x96x1x1, .f32⟩
  | 70 => ⟨S80x96x1x1, .f32⟩
  | 71 => ⟨S1x80, .f32⟩
  | 72 => ⟨S80, .f32⟩
  | 73 => ⟨S80x96, .f32⟩
  | 74 => ⟨S80x16x40x40, .f32⟩
  | 75 => ⟨S16x80x40x40, .f32⟩
  | 76 => ⟨S1x80x1x1, .f32⟩
  | 77 => ⟨S16x80x40x40, .f32⟩
  | 78 => ⟨S16x80x40x40, .f32⟩
  | 79 => ⟨S1x4x96x1x1, .f32⟩
  | 80 => ⟨S4x96x1x1, .f32⟩
  | 81 => ⟨S1x4, .f32⟩
  | 82 => ⟨S4, .f32⟩
  | 83 => ⟨S4x96, .f32⟩
  | 84 => ⟨S4x16x40x40, .f32⟩
  | 85 => ⟨S16x4x40x40, .f32⟩
  | 86 => ⟨S1x4x1x1, .f32⟩
  | 87 => ⟨S16x4x40x40, .f32⟩
  | 88 => ⟨S16x4x40x40, .f32⟩
  | 89 => ⟨S1x1x96x1x1, .f32⟩
  | 90 => ⟨S1x96x1x1, .f32⟩
  | 91 => ⟨S1x1, .f32⟩
  | 92 => ⟨S1, .f32⟩
  | 93 => ⟨S1x96, .f32⟩
  | 94 => ⟨S1x16x40x40, .f32⟩
  | 95 => ⟨S16x1x40x40, .f32⟩
  | 96 => ⟨S1x1x1x1, .f32⟩
  | 97 => ⟨S16x1x40x40, .f32⟩
  | 98 => ⟨S16x1x40x40, .f32⟩
  | 99 => ⟨S40, .f32⟩
  | 100 => ⟨S40, .f32⟩
  | 101 => ⟨S40x40, .f32⟩
  | 102 => ⟨S40x40, .f32⟩
  | 103 => ⟨S1x40x40, .f32⟩
  | 104 => ⟨S1x40x40, .f32⟩
  | 105 => ⟨S2x40x40, .f32⟩
  | 106 => ⟨S1x2x40x40, .f32⟩
  | 107 => ⟨S16x2x40x40, .f32⟩
  | 108 => ⟨S16x2x40x40, .f32⟩
  | 109 => ⟨S16x2x40x40, .f32⟩
  | 110 => ⟨S_, .f32⟩
  | 111 => ⟨S16x2x40x40, .f32⟩
  | 112 => ⟨S16x2x40x40, .f32⟩
  | 113 => ⟨S16x2x40x40, .f32⟩
  | 114 => ⟨S16x2x40x40, .f32⟩
  | 115 => ⟨S_, .f32⟩
  | 116 => ⟨S16x2x40x40, .f32⟩
  | 117 => ⟨S16x2x40x40, .f32⟩
  | 118 => ⟨S16x1x40x40, .f32⟩
  | 119 => ⟨S16x1x40x40, .f32⟩
  | 120 => ⟨S_, .f32⟩
  | 121 => ⟨S16x1x40x40, .f32⟩
  | 122 => ⟨S16x1x40x40, .f32⟩
  | 123 => ⟨S_, .f32⟩
  | 124 => ⟨S16x1x40x40, .f32⟩
  | 125 => ⟨S16x1x40x40, .f32⟩
  | 126 => ⟨S16x80x40x40, .f32⟩
  | 127 => ⟨S16x80x40x40, .f32⟩
  | _ => ⟨S16x128x80x80, .f32⟩

abbrev hbmTy0_5 (i : Nat) : BufTy := match i % 128 with
  | 0 => ⟨S_, .f32⟩
  | 1 => ⟨S16x80x40x40, .f32⟩
  | 2 => ⟨S16x80x40x40, .f32⟩
  | 3 => ⟨S_, .f32⟩
  | 4 => ⟨S16x80x40x40, .f32⟩
  | 5 => ⟨S16x80x40x40, .f32⟩
  | 6 => ⟨S16x85x40x40, .f32⟩
  | 7 => ⟨S16x85x1600, .f32⟩
  | 8 => ⟨S16x1600x85, .f32⟩
  | 9 => ⟨S96x512, .f32⟩
  | 10 => ⟨S96x16x20x20, .f32⟩
  | 11 => ⟨S16x96x20x20, .f32⟩
  | 12 => ⟨S1x96x1x1, .f32⟩
  | 13 => ⟨S16x96x20x20, .f32⟩
  | 14 => ⟨S16x96x20x20, .f32⟩
  | 15 => ⟨S16x96x20x20, .f32⟩
  | 16 => ⟨S16x96x20x20, .f32⟩
  | 17 => ⟨S_, .f32⟩
  | 18 => ⟨S16x96x20x20, .f32⟩
  | 19 => ⟨S16x96x20x20, .f32⟩
  | 20 => ⟨S_, .f32⟩
  | 21 => ⟨S16x96x20x20, .f32⟩
  | 22 => ⟨S16x96x20x20, .f32⟩
  | 23 => ⟨S16x96x20x20, .f32⟩
  | 24 => ⟨S1x192x96x1x1, .f32⟩
  | 25 => ⟨S192x96x1x1, .f32⟩
  | 26 => ⟨S1x192, .f32⟩
  | 27 => ⟨S192, .f32⟩
  | 28 => ⟨S1x192x1x3x3, .f32⟩
  | 29 => ⟨S192x1x3x3, .f32⟩
  | 30 => ⟨S1x192, .f32⟩
  | 31 => ⟨S192, .f32⟩
  | 32 => ⟨S1x96x192x1x1, .f32⟩
  | 33 => ⟨S96x192x1x1, .f32⟩
  | 34 => ⟨S1x96, .f32⟩
  | 35 => ⟨S96, .f32⟩
  | 36 => ⟨S192x96, .f32⟩
  | 37 => ⟨S192x16x20x20, .f32⟩
  | 38 => ⟨S16x192x20x20, .f32⟩
  | 39 => ⟨S1x192x1x1, .f32⟩
  | 40 => ⟨S16x192x20x20, .f32⟩
  | 41 => ⟨S16x192x20x20, .f32⟩
  | 42 => ⟨S16x192x20x20, .f32⟩
  | 43 => ⟨S16x192x20x20, .f32⟩
  | 44 => ⟨S_, .f32⟩
  | 45 => ⟨S16x192x20x20, .f32⟩
  | 46 => ⟨S16x192x20x20, .f32⟩
  | 47 => ⟨S_, .f32⟩
  | 48 => ⟨S16x192x20x20, .f32⟩
  | 49 => ⟨S16x192x20x20, .f32⟩
  | 50 => ⟨S16x192x20x20, .f32⟩
  | 51 => ⟨S_, .i32⟩
  | 52 => ⟨S_, .f32⟩
  | 53 => ⟨S16x192x22x22, .f32⟩
  | 54 => ⟨S16x192x20x20, .f32⟩
  | 55 => ⟨S192x1x1x1, .f32⟩
  | 56 => ⟨S192, .f32⟩
  | 57 => ⟨S1x192x1x1, .f32⟩
  | 58 => ⟨S16x192x20x20, .f32⟩
  | 59 => ⟨S16x192x20x20, .f32⟩
  | 60 => ⟨S_, .f32⟩
  | 61 => ⟨S16x192x20x20, .f32⟩
  | 62 => ⟨S16x192x20x20, .f32⟩
  | 63 => ⟨S16x192x20x20, .f32⟩
  | 64 => ⟨S192x1x1x1, .f32⟩
  | 65 => ⟨S192, .f32⟩
  | 66 => ⟨S1x192x1x1, .f32⟩
  | 67 => ⟨S16x192x20x20, .f32⟩
  | 68 => ⟨S16x192x20x20, .f32⟩
  | 69 => ⟨S16x192x20x20, .f32⟩
  | 70 => ⟨S16x192x20x20, .f32⟩
  | 71 => ⟨S192x1x1x1, .f32⟩
  | 72 => ⟨S192, .f32⟩
  | 73 => ⟨S1x192x1x1, .f32⟩
  | 74 => ⟨S16x192x20x20, .f32⟩
  | 75 => ⟨S16x192x20x20, .f32⟩
  | 76 => ⟨S16x192x20x20, .f32⟩
  | 77 => ⟨S16x192x20x20, .f32⟩
  | 78 => ⟨S192x1x1x1, .f32⟩
  | 79 => ⟨S192, .f32⟩
  | 80 => ⟨S1x192x1x1, .f32⟩
  | 81 => ⟨S16x192x20x20, .f32⟩
  | 82 => ⟨S16x192x20x20, .f32⟩
  | 83 => ⟨S16x192x20x20, .f32⟩
  | 84 => ⟨S16x192x20x20, .f32⟩
  | 85 => ⟨S192x1x1x1, .f32⟩
  | 86 => ⟨S192, .f32⟩
  | 87 => ⟨S1x192x1x1, .f32⟩
  | 88 => ⟨S16x192x20x20, .f32⟩
  | 89 => ⟨S16x192x20x20, .f32⟩
  | 90 => ⟨S16x192x20x20, .f32⟩
  | 91 => ⟨S16x192x20x20, .f32⟩
  | 92 => ⟨S192x1x1x1, .f32⟩
  | 93 => ⟨S192, .f32⟩
  | 94 => ⟨S1x192x1x1, .f32⟩
  | 95 => ⟨S16x192x20x20, .f32⟩
  | 96 => ⟨S16x192x20x20, .f32⟩
  | 97 => ⟨S16x192x20x20, .f32⟩
  | 98 => ⟨S16x192x20x20, .f32⟩
  | 99 => ⟨S192x1x1x1, .f32⟩
  | 100 => ⟨S192, .f32⟩
  | 101 => ⟨S1x192x1x1, .f32⟩
  | 102 => ⟨S16x192x20x20, .f32⟩
  | 103 => ⟨S16x192x20x20, .f32⟩
  | 104 => ⟨S16x192x20x20, .f32⟩
  | 105 => ⟨S16x192x20x20, .f32⟩
  | 106 => ⟨S192x1x1x1, .f32⟩
  | 107 => ⟨S192, .f32⟩
  | 108 => ⟨S1x192x1x1, .f32⟩
  | 109 => ⟨S16x192x20x20, .f32⟩
  | 110 => ⟨S16x192x20x20, .f32⟩
  | 111 => ⟨S16x192x20x20, .f32⟩
  | 112 => ⟨S16x192x20x20, .f32⟩
  | 113 => ⟨S192x1x1x1, .f32⟩
  | 114 => ⟨S192, .f32⟩
  | 115 => ⟨S1x192x1x1, .f32⟩
  | 116 => ⟨S16x192x20x20, .f32⟩
  | 117 => ⟨S16x192x20x20, .f32⟩
  | 118 => ⟨S16x192x20x20, .f32⟩
  | 119 => ⟨S1x192x1x1, .f32⟩
  | 120 => ⟨S16x192x20x20, .f32⟩
  | 121 => ⟨S16x192x20x20, .f32⟩
  | 122 => ⟨S16x192x20x20, .f32⟩
  | 123 => ⟨S16x192x20x20, .f32⟩
  | 124 => ⟨S_, .f32⟩
  | 125 => ⟨S16x192x20x20, .f32⟩
  | 126 => ⟨S16x192x20x20, .f32⟩
  | 127 => ⟨S_, .f32⟩
  | _ => ⟨S16x128x80x80, .f32⟩

abbrev hbmTy0_6 (i : Nat) : BufTy := match i % 128 with
  | 0 => ⟨S16x192x20x20, .f32⟩
  | 1 => ⟨S16x192x20x20, .f32⟩
  | 2 => ⟨S16x192x20x20, .f32⟩
  | 3 => ⟨S96x192, .f32⟩
  | 4 => ⟨S96x16x20x20, .f32⟩
  | 5 => ⟨S16x96x20x20, .f32⟩
  | 6 => ⟨S1x96x1x1, .f32⟩
  | 7 => ⟨S16x96x20x20, .f32⟩
  | 8 => ⟨S16x96x20x20, .f32⟩
  | 9 => ⟨S16x96x20x20, .f32⟩
  | 10 => ⟨S1x192x96x1x1, .f32⟩
  | 11 => ⟨S192x96x1x1, .f32⟩
  | 12 => ⟨S1x192, .f32⟩
  | 13 => ⟨S192, .f32⟩
  | 14 => ⟨S1x192x1x3x3, .f32⟩
  | 15 => ⟨S192x1x3x3, .f32⟩
  | 16 => ⟨S1x192, .f32⟩
  | 17 => ⟨S192, .f32⟩
  | 18 => ⟨S1x96x192x1x1, .f32⟩
  | 19 => ⟨S96x192x1x1, .f32⟩
  | 20 => ⟨S1x96, .f32⟩
  | 21 => ⟨S96, .f32⟩
  | 22 => ⟨S192x96, .f32⟩
  | 23 => ⟨S192x16x20x20, .f32⟩
  | 24 => ⟨S16x192x20x20, .f32⟩
  | 25 => ⟨S1x192x1x1, .f32⟩
  | 26 => ⟨S16x192x20x20, .f32⟩
  | 27 => ⟨S16x192x20x20, .f32⟩
  | 28 => ⟨S16x192x20x20, .f32⟩
  | 29 => ⟨S16x192x20x20, .f32⟩
  | 30 => ⟨S_, .f32⟩
  | 31 => ⟨S16x192x20x20, .f32⟩
  | 32 => ⟨S16x192x20x20, .f32⟩
  | 33 => ⟨S_, .f32⟩
  | 34 => ⟨S16x192x20x20, .f32⟩
  | 35 => ⟨S16x192x20x20, .f32⟩
  | 36 => ⟨S16x192x20x20, .f32⟩
  | 37 => ⟨S_, .i32⟩
  | 38 => ⟨S_, .f32⟩
  | 39 => ⟨S16x192x22x22, .f32⟩
  | 40 => ⟨S16x192x20x20, .f32⟩
  | 41 => ⟨S192x1x1x1, .f32⟩
  | 42 => ⟨S192, .f32⟩
  | 43 => ⟨S1x192x1x1, .f32⟩
  | 44 => ⟨S16x192x20x20, .f32⟩
  | 45 => ⟨S16x192x20x20, .f32⟩
  | 46 => ⟨S_, .f32⟩
  | 47 => ⟨S16x192x20x20, .f32⟩
  | 48 => ⟨S16x192x20x20, .f32⟩
  | 49 => ⟨S16x192x20x20, .f32⟩
  | 50 => ⟨S192x1x1x1, .f32⟩
  | 51 => ⟨S192, .f32⟩
  | 52 => ⟨S1x192x1x1, .f32⟩
  | 53 => ⟨S16x192x20x20, .f32⟩
  | 54 => ⟨S16x192x20x20, .f32⟩
  | 55 => ⟨S16x192x20x20, .f32⟩
  | 56 => ⟨S16x192x20x20, .f32⟩
  | 57 => ⟨S192x1x1x1, .f32⟩
  | 58 => ⟨S192, .f32⟩
  | 59 => ⟨S1x192x1x1, .f32⟩
  | 60 => ⟨S16x192x20x20, .f32⟩
  | 61 => ⟨S16x192x20x20, .f32⟩
  | 62 => ⟨S16x192x20x20, .f32⟩
  | 63 => ⟨S16x192x20x20, .f32⟩
  | 64 => ⟨S192x1x1x1, .f32⟩
  | 65 => ⟨S192, .f32⟩
  | 66 => ⟨S1x192x1x1, .f32⟩
  | 67 => ⟨S16x192x20x20, .f32⟩
  | 68 => ⟨S16x192x20x20, .f32⟩
  | 69 => ⟨S16x192x20x20, .f32⟩
  | 70 => ⟨S16x192x20x20, .f32⟩
  | 71 => ⟨S192x1x1x1, .f32⟩
  | 72 => ⟨S192, .f32⟩
  | 73 => ⟨S1x192x1x1, .f32⟩
  | 74 => ⟨S16x192x20x20, .f32⟩
  | 75 => ⟨S16x192x20x20, .f32⟩
  | 76 => ⟨S16x192x20x20, .f32⟩
  | 77 => ⟨S16x192x20x20, .f32⟩
  | 78 => ⟨S192x1x1x1, .f32⟩
  | 79 => ⟨S192, .f32⟩
  | 80 => ⟨S1x192x1x1, .f32⟩
  | 81 => ⟨S16x192x20x20, .f32⟩
  | 82 => ⟨S16x192x20x20, .f32⟩
  | 83 => ⟨S16x192x20x20, .f32⟩
  | 84 => ⟨S16x192x20x20, .f32⟩
  | 85 => ⟨S192x1x1x1, .f32⟩
  | 86 => ⟨S192, .f32⟩
  | 87 => ⟨S1x192x1x1, .f32⟩
  | 88 => ⟨S16x192x20x20, .f32⟩
  | 89 => ⟨S16x192x20x20, .f32⟩
  | 90 => ⟨S16x192x20x20, .f32⟩
  | 91 => ⟨S16x192x20x20, .f32⟩
  | 92 => ⟨S192x1x1x1, .f32⟩
  | 93 => ⟨S192, .f32⟩
  | 94 => ⟨S1x192x1x1, .f32⟩
  | 95 => ⟨S16x192x20x20, .f32⟩
  | 96 => ⟨S16x192x20x20, .f32⟩
  | 97 => ⟨S16x192x20x20, .f32⟩
  | 98 => ⟨S16x192x20x20, .f32⟩
  | 99 => ⟨S192x1x1x1, .f32⟩
  | 100 => ⟨S192, .f32⟩
  | 101 => ⟨S1x192x1x1, .f32⟩
  | 102 => ⟨S16x192x20x20, .f32⟩
  | 103 => ⟨S16x192x20x20, .f32⟩
  | 104 => ⟨S16x192x20x20, .f32⟩
  | 105 => ⟨S1x192x1x1, .f32⟩
  | 106 => ⟨S16x192x20x20, .f32⟩
  | 107 => ⟨S16x192x20x20, .f32⟩
  | 108 => ⟨S16x192x20x20, .f32⟩
  | 109 => ⟨S16x192x20x20, .f32⟩
  | 110 => ⟨S_, .f32⟩
  | 111 => ⟨S16x192x20x20, .f32⟩
  | 112 => ⟨S16x192x20x20, .f32⟩
  | 113 => ⟨S_, .f32⟩
  | 114 => ⟨S16x192x20x20, .f32⟩
  | 115 => ⟨S16x192x20x20, .f32⟩
  | 116 => ⟨S16x192x20x20, .f32⟩
  | 117 => ⟨S96x192, .f32⟩
  | 118 => ⟨S96x16x20x20, .f32⟩
  | 119 => ⟨S16x96x20x20, .f32⟩
  | 120 => ⟨S1x96x1x1, .f32⟩
  | 121 => ⟨S16x96x20x20, .f32⟩
  | 122 => ⟨S16x96x20x20, .f32⟩
  | 123 => ⟨S16x96x20x20, .f32⟩
  | 124 => ⟨S1x80x96x1x1, .f32⟩
  | 125 => ⟨S80x96x1x1, .f32⟩
  | 126 => ⟨S1x80, .f32⟩
  | 127 => ⟨S80, .f32⟩
  | _ => ⟨S16x128x80x80, .f32⟩

abbrev hbmTy0_7 (i : Nat) : BufTy := match i % 128 with
  | 0 => ⟨S80x96, .f32⟩
  | 1 => ⟨S80x16x20x20, .f32⟩
  | 2 => ⟨S16x80x20x20, .f32⟩
  | 3 => ⟨S1x80x1x1, .f32⟩
  | 4 => ⟨S16x80x20x20, .f32⟩
  | 5 => ⟨S16x80x20x20, .f32⟩
  | 6 => ⟨S1x4x96x1x1, .f32⟩
  | 7 => ⟨S4x96x1x1, .f32⟩
  | 8 => ⟨S1x4, .f32⟩
  | 9 => ⟨S4, .f32⟩
  | 10 => ⟨S4x96, .f32⟩
  | 11 => ⟨S4x16x20x20, .f32⟩
  | 12 => ⟨S16x4x20x20, .f32⟩
  | 13 => ⟨S1x4x1x1, .f32⟩
  | 14 => ⟨S16x4x20x20, .f32⟩
  | 15 => ⟨S16x4x20x20, .f32⟩
  | 16 => ⟨S1x1x96x1x1, .f32⟩
  | 17 => ⟨S1x96x1x1, .f32⟩
  | 18 => ⟨S1x1, .f32⟩
  | 19 => ⟨S1, .f32⟩
  | 20 => ⟨S1x96, .f32⟩
  | 21 => ⟨S1x16x20x20, .f32⟩
  | 22 => ⟨S16x1x20x20, .f32⟩
  | 23 => ⟨S1x1x1x1, .f32⟩
  | 24 => ⟨S16x1x20x20, .f32⟩
  | 25 => ⟨S16x1x20x20, .f32⟩
  | 26 => ⟨S20, .f32⟩
  | 27 => ⟨S20, .f32⟩
  | 28 => ⟨S20x20, .f32⟩
  | 29 => ⟨S20x20, .f32⟩
  | 30 => ⟨S1x20x20, .f32⟩
  | 31 => ⟨S1x20x20, .f32⟩
  | 32 => ⟨S2x20x20, .f32⟩
  | 33 => ⟨S1x2x20x20, .f32⟩
  | 34 => ⟨S16x2x20x20, .f32⟩
  | 35 => ⟨S16x2x20x20, .f32⟩
  | 36 => ⟨S16x2x20x20, .f32⟩
  | 37 => ⟨S_, .f32⟩
  | 38 => ⟨S16x2x20x20, .f32⟩
  | 39 => ⟨S16x2x20x20, .f32⟩
  | 40 => ⟨S16x2x20x20, .f32⟩
  | 41 => ⟨S16x2x20x20, .f32⟩
  | 42 => ⟨S_, .f32⟩
  | 43 => ⟨S16x2x20x20, .f32⟩
  | 44 => ⟨S16x2x20x20, .f32⟩
  | 45 => ⟨S16x1x20x20, .f32⟩
  | 46 => ⟨S16x1x20x20, .f32⟩
  | 47 => ⟨S_, .f32⟩
  | 48 => ⟨S16x1x20x20, .f32⟩
  | 49 => ⟨S16x1x20x20, .f32⟩
  | 50 => ⟨S_, .f32⟩
  | 51 => ⟨S16x1x20x20, .f32⟩
  | 52 => ⟨S16x1x20x20, .f32⟩
  | 53 => ⟨S16x80x20x20, .f32⟩
  | 54 => ⟨S16x80x20x20, .f32⟩
  | 55 => ⟨S_, .f32⟩
  | 56 => ⟨S16x80x20x20, .f32⟩
  | 57 => ⟨S16x80x20x20, .f32⟩
  | 58 => ⟨S_, .f32⟩
  | 59 => ⟨S16x80x20x20, .f32⟩
  | 60 => ⟨S16x80x20x20, .f32⟩
  | 61 => ⟨S16x85x20x20, .f32⟩
  | 62 => ⟨S16x85x400, .f32⟩
  | 63 => ⟨S16x400x85, .f32⟩
  | 64 => ⟨S16x8400x85, .f32⟩
  | _ => ⟨S16x128x80x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16x128x80x80, .f32⟩

abbrev bufTy : (tb : Table) → Fin (tcTables nBuf tb) → BufTy
  | .hbm, ⟨i, _⟩ => hbmTy i
  | _, _ => ⟨S16x128x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v25 : Ref sig .tc := ⟨.hbm, 68, rfl⟩
abbrev main_c : Ref sig .tc := ⟨.hbm, 69, rfl⟩
abbrev main_call2_v0 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_call3_v0 : Ref sig .tc := ⟨.hbm, 140, rfl⟩
abbrev main_call3_v1 : Ref sig .tc := ⟨.hbm, 141, rfl⟩
abbrev main_call3_cst : Ref sig .tc := ⟨.hbm, 142, rfl⟩
abbrev main_call3_v2 : Ref sig .tc := ⟨.hbm, 143, rfl⟩
abbrev main_call3_v3 : Ref sig .tc := ⟨.hbm, 144, rfl⟩
abbrev main_call3_cst_0 : Ref sig .tc := ⟨.hbm, 145, rfl⟩
abbrev main_call3_v4 : Ref sig .tc := ⟨.hbm, 146, rfl⟩
abbrev main_call3_v5 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_call4_v0 : Ref sig .tc := ⟨.hbm, 174, rfl⟩
abbrev main_call4_v1 : Ref sig .tc := ⟨.hbm, 175, rfl⟩
abbrev main_call4_cst : Ref sig .tc := ⟨.hbm, 176, rfl⟩
abbrev main_call4_v2 : Ref sig .tc := ⟨.hbm, 177, rfl⟩
abbrev main_call4_v3 : Ref sig .tc := ⟨.hbm, 178, rfl⟩
abbrev main_call4_cst_0 : Ref sig .tc := ⟨.hbm, 179, rfl⟩
abbrev main_call4_v4 : Ref sig .tc := ⟨.hbm, 180, rfl⟩
abbrev main_call4_v5 : Ref sig .tc := ⟨.hbm, 181, rfl⟩
abbrev main_v120 : Ref sig .tc := ⟨.hbm, 182, rfl⟩
abbrev main_c_0 : Ref sig .tc := ⟨.hbm, 183, rfl⟩
abbrev main_call5_v0 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_cst_1 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_call6_v0 : Ref sig .tc := ⟨.hbm, 254, rfl⟩
abbrev main_call6_v1 : Ref sig .tc := ⟨.hbm, 255, rfl⟩
abbrev main_call6_cst : Ref sig .tc := ⟨.hbm, 256, rfl⟩
abbrev main_call6_v2 : Ref sig .tc := ⟨.hbm, 257, rfl⟩
abbrev main_call6_v3 : Ref sig .tc := ⟨.hbm, 258, rfl⟩
abbrev main_call6_cst_0 : Ref sig .tc := ⟨.hbm, 259, rfl⟩
abbrev main_call6_v4 : Ref sig .tc := ⟨.hbm, 260, rfl⟩
abbrev main_call6_v5 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_cst_2 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_cst_3 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_cst_4 : Ref sig .tc := ⟨.hbm, 321, rfl⟩
abbrev main_v246 : Ref sig .tc := ⟨.hbm, 322, rfl⟩
abbrev main_v247 : Ref sig .tc := ⟨.hbm, 323, rfl⟩
abbrev main_cst_5 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_cst_6 : Ref sig .tc := ⟨.hbm, 329, rfl⟩
abbrev main_v252 : Ref sig .tc := ⟨.hbm, 330, rfl⟩
abbrev main_v253 : Ref sig .tc := ⟨.hbm, 331, rfl⟩
abbrev main_cst_7 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_call7_v0 : Ref sig .tc := ⟨.hbm, 344, rfl⟩
abbrev main_call7_v1 : Ref sig .tc := ⟨.hbm, 345, rfl⟩
abbrev main_call7_cst : Ref sig .tc := ⟨.hbm, 346, rfl⟩
abbrev main_call7_v2 : Ref sig .tc := ⟨.hbm, 347, rfl⟩
abbrev main_call7_v3 : Ref sig .tc := ⟨.hbm, 348, rfl⟩
abbrev main_call7_cst_0 : Ref sig .tc := ⟨.hbm, 349, rfl⟩
abbrev main_call7_v4 : Ref sig .tc := ⟨.hbm, 350, rfl⟩
abbrev main_call7_v5 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_v275 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_call8_v0 : Ref sig .tc := ⟨.hbm, 371, rfl⟩
abbrev main_call8_v1 : Ref sig .tc := ⟨.hbm, 372, rfl⟩
abbrev main_call8_cst : Ref sig .tc := ⟨.hbm, 373, rfl⟩
abbrev main_call8_v2 : Ref sig .tc := ⟨.hbm, 374, rfl⟩
abbrev main_call8_v3 : Ref sig .tc := ⟨.hbm, 375, rfl⟩
abbrev main_call8_cst_0 : Ref sig .tc := ⟨.hbm, 376, rfl⟩
abbrev main_call8_v4 : Ref sig .tc := ⟨.hbm, 377, rfl⟩
abbrev main_call8_v5 : Ref sig .tc := ⟨.hbm, 378, rfl⟩
abbrev main_v284 : Ref sig .tc := ⟨.hbm, 379, rfl⟩
abbrev main_c_8 : Ref sig .tc := ⟨.hbm, 380, rfl⟩
abbrev main_call9_v0 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_v291 : Ref sig .tc := ⟨.hbm, 388, rfl⟩
abbrev main_cst_9 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_v296 : Ref sig .tc := ⟨.hbm, 394, rfl⟩
abbrev main_v297 : Ref sig .tc := ⟨.hbm, 395, rfl⟩
abbrev main_v298 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_v307 : Ref sig .tc := ⟨.hbm, 405, rfl⟩
abbrev main_v308 : Ref sig .tc := ⟨.hbm, 406, rfl⟩
abbrev main_v309 : Ref sig .tc := ⟨.hbm, 407, rfl⟩
abbrev main_v310 : Ref sig .tc := ⟨.hbm, 408, rfl⟩
abbrev main_v311 : Ref sig .tc := ⟨.hbm, 409, rfl⟩
abbrev main_v312 : Ref sig .tc := ⟨.hbm, 410, rfl⟩
abbrev main_v313 : Ref sig .tc := ⟨.hbm, 411, rfl⟩
abbrev main_v314 : Ref sig .tc := ⟨.hbm, 412, rfl⟩
abbrev main_v315 : Ref sig .tc := ⟨.hbm, 413, rfl⟩
abbrev main_v316 : Ref sig .tc := ⟨.hbm, 414, rfl⟩
abbrev main_v317 : Ref sig .tc := ⟨.hbm, 415, rfl⟩
abbrev main_v318 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_v327 : Ref sig .tc := ⟨.hbm, 425, rfl⟩
abbrev main_v328 : Ref sig .tc := ⟨.hbm, 426, rfl⟩
abbrev main_v329 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_v333 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_v352 : Ref sig .tc := ⟨.hbm, 450, rfl⟩
abbrev main_call10_v0 : Ref sig .tc := ⟨.hbm, 451, rfl⟩
abbrev main_call10_v1 : Ref sig .tc := ⟨.hbm, 452, rfl⟩
abbrev main_call10_cst : Ref sig .tc := ⟨.hbm, 453, rfl⟩
abbrev main_call10_v2 : Ref sig .tc := ⟨.hbm, 454, rfl⟩
abbrev main_call10_v3 : Ref sig .tc := ⟨.hbm, 455, rfl⟩
abbrev main_call10_cst_0 : Ref sig .tc := ⟨.hbm, 456, rfl⟩
abbrev main_call10_v4 : Ref sig .tc := ⟨.hbm, 457, rfl⟩
abbrev main_call10_v5 : Ref sig .tc := ⟨.hbm, 458, rfl⟩
abbrev main_v353 : Ref sig .tc := ⟨.hbm, 459, rfl⟩
abbrev main_v354 : Ref sig .tc := ⟨.hbm, 460, rfl⟩
abbrev main_v355 : Ref sig .tc := ⟨.hbm, 461, rfl⟩
abbrev main_v356 : Ref sig .tc := ⟨.hbm, 462, rfl⟩
abbrev main_v357 : Ref sig .tc := ⟨.hbm, 463, rfl⟩
abbrev main_v358 : Ref sig .tc := ⟨.hbm, 464, rfl⟩
abbrev main_v359 : Ref sig .tc := ⟨.hbm, 465, rfl⟩
abbrev main_v360 : Ref sig .tc := ⟨.hbm, 466, rfl⟩
abbrev main_v361 : Ref sig .tc := ⟨.hbm, 467, rfl⟩
abbrev main_v362 : Ref sig .tc := ⟨.hbm, 468, rfl⟩
abbrev main_v363 : Ref sig .tc := ⟨.hbm, 469, rfl⟩
abbrev main_v364 : Ref sig .tc := ⟨.hbm, 470, rfl⟩
abbrev main_v365 : Ref sig .tc := ⟨.hbm, 471, rfl⟩
abbrev main_v366 : Ref sig .tc := ⟨.hbm, 472, rfl⟩
abbrev main_v367 : Ref sig .tc := ⟨.hbm, 473, rfl⟩
abbrev main_v368 : Ref sig .tc := ⟨.hbm, 474, rfl⟩
abbrev main_v369 : Ref sig .tc := ⟨.hbm, 475, rfl⟩
abbrev main_v370 : Ref sig .tc := ⟨.hbm, 476, rfl⟩
abbrev main_v371 : Ref sig .tc := ⟨.hbm, 477, rfl⟩
abbrev main_v372 : Ref sig .tc := ⟨.hbm, 478, rfl⟩
abbrev main_v373 : Ref sig .tc := ⟨.hbm, 479, rfl⟩
abbrev main_v374 : Ref sig .tc := ⟨.hbm, 480, rfl⟩
abbrev main_v375 : Ref sig .tc := ⟨.hbm, 481, rfl⟩
abbrev main_v376 : Ref sig .tc := ⟨.hbm, 482, rfl⟩
abbrev main_v377 : Ref sig .tc := ⟨.hbm, 483, rfl⟩
abbrev main_v378 : Ref sig .tc := ⟨.hbm, 484, rfl⟩
abbrev main_call11_v0 : Ref sig .tc := ⟨.hbm, 485, rfl⟩
abbrev main_call11_v1 : Ref sig .tc := ⟨.hbm, 486, rfl⟩
abbrev main_call11_cst : Ref sig .tc := ⟨.hbm, 487, rfl⟩
abbrev main_call11_v2 : Ref sig .tc := ⟨.hbm, 488, rfl⟩
abbrev main_call11_v3 : Ref sig .tc := ⟨.hbm, 489, rfl⟩
abbrev main_call11_cst_0 : Ref sig .tc := ⟨.hbm, 490, rfl⟩
abbrev main_call11_v4 : Ref sig .tc := ⟨.hbm, 491, rfl⟩
abbrev main_call11_v5 : Ref sig .tc := ⟨.hbm, 492, rfl⟩
abbrev main_v379 : Ref sig .tc := ⟨.hbm, 493, rfl⟩
abbrev main_c_10 : Ref sig .tc := ⟨.hbm, 494, rfl⟩
abbrev main_call12_v0 : Ref sig .tc := ⟨.hbm, 495, rfl⟩
abbrev main_v380 : Ref sig .tc := ⟨.hbm, 496, rfl⟩
abbrev main_v381 : Ref sig .tc := ⟨.hbm, 497, rfl⟩
abbrev main_v382 : Ref sig .tc := ⟨.hbm, 498, rfl⟩
abbrev main_v383 : Ref sig .tc := ⟨.hbm, 499, rfl⟩
abbrev main_v384 : Ref sig .tc := ⟨.hbm, 500, rfl⟩
abbrev main_v385 : Ref sig .tc := ⟨.hbm, 501, rfl⟩
abbrev main_v386 : Ref sig .tc := ⟨.hbm, 502, rfl⟩
abbrev main_cst_11 : Ref sig .tc := ⟨.hbm, 503, rfl⟩
abbrev main_v387 : Ref sig .tc := ⟨.hbm, 504, rfl⟩
abbrev main_v388 : Ref sig .tc := ⟨.hbm, 505, rfl⟩
abbrev main_v389 : Ref sig .tc := ⟨.hbm, 506, rfl⟩
abbrev main_v390 : Ref sig .tc := ⟨.hbm, 507, rfl⟩
abbrev main_v391 : Ref sig .tc := ⟨.hbm, 508, rfl⟩
abbrev main_v392 : Ref sig .tc := ⟨.hbm, 509, rfl⟩
abbrev main_v393 : Ref sig .tc := ⟨.hbm, 510, rfl⟩
abbrev main_v394 : Ref sig .tc := ⟨.hbm, 511, rfl⟩
abbrev main_v395 : Ref sig .tc := ⟨.hbm, 512, rfl⟩
abbrev main_v396 : Ref sig .tc := ⟨.hbm, 513, rfl⟩
abbrev main_v397 : Ref sig .tc := ⟨.hbm, 514, rfl⟩
abbrev main_v398 : Ref sig .tc := ⟨.hbm, 515, rfl⟩
abbrev main_v399 : Ref sig .tc := ⟨.hbm, 516, rfl⟩
abbrev main_v400 : Ref sig .tc := ⟨.hbm, 517, rfl⟩
abbrev main_v401 : Ref sig .tc := ⟨.hbm, 518, rfl⟩
abbrev main_v402 : Ref sig .tc := ⟨.hbm, 519, rfl⟩
abbrev main_v403 : Ref sig .tc := ⟨.hbm, 520, rfl⟩
abbrev main_v404 : Ref sig .tc := ⟨.hbm, 521, rfl⟩
abbrev main_v405 : Ref sig .tc := ⟨.hbm, 522, rfl⟩
abbrev main_v406 : Ref sig .tc := ⟨.hbm, 523, rfl⟩
abbrev main_v407 : Ref sig .tc := ⟨.hbm, 524, rfl⟩
abbrev main_v408 : Ref sig .tc := ⟨.hbm, 525, rfl⟩
abbrev main_v409 : Ref sig .tc := ⟨.hbm, 526, rfl⟩
abbrev main_v410 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_v415 : Ref sig .tc := ⟨.hbm, 532, rfl⟩
abbrev main_v416 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_v420 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_v429 : Ref sig .tc := ⟨.hbm, 546, rfl⟩
abbrev main_v430 : Ref sig .tc := ⟨.hbm, 547, rfl⟩
abbrev main_v431 : Ref sig .tc := ⟨.hbm, 548, rfl⟩
abbrev main_v432 : Ref sig .tc := ⟨.hbm, 549, rfl⟩
abbrev main_v433 : Ref sig .tc := ⟨.hbm, 550, rfl⟩
abbrev main_v434 : Ref sig .tc := ⟨.hbm, 551, rfl⟩
abbrev main_v435 : Ref sig .tc := ⟨.hbm, 552, rfl⟩
abbrev main_v436 : Ref sig .tc := ⟨.hbm, 553, rfl⟩
abbrev main_v437 : Ref sig .tc := ⟨.hbm, 554, rfl⟩
abbrev main_v438 : Ref sig .tc := ⟨.hbm, 555, rfl⟩
abbrev main_v439 : Ref sig .tc := ⟨.hbm, 556, rfl⟩
abbrev main_v440 : Ref sig .tc := ⟨.hbm, 557, rfl⟩
abbrev main_v441 : Ref sig .tc := ⟨.hbm, 558, rfl⟩
abbrev main_v442 : Ref sig .tc := ⟨.hbm, 559, rfl⟩
abbrev main_v443 : Ref sig .tc := ⟨.hbm, 560, rfl⟩
abbrev main_v444 : Ref sig .tc := ⟨.hbm, 561, rfl⟩
abbrev main_v445 : Ref sig .tc := ⟨.hbm, 562, rfl⟩
abbrev main_v446 : Ref sig .tc := ⟨.hbm, 563, rfl⟩
abbrev main_v447 : Ref sig .tc := ⟨.hbm, 564, rfl⟩
abbrev main_call13_v0 : Ref sig .tc := ⟨.hbm, 565, rfl⟩
abbrev main_call13_v1 : Ref sig .tc := ⟨.hbm, 566, rfl⟩
abbrev main_call13_cst : Ref sig .tc := ⟨.hbm, 567, rfl⟩
abbrev main_call13_v2 : Ref sig .tc := ⟨.hbm, 568, rfl⟩
abbrev main_call13_v3 : Ref sig .tc := ⟨.hbm, 569, rfl⟩
abbrev main_call13_cst_0 : Ref sig .tc := ⟨.hbm, 570, rfl⟩
abbrev main_call13_v4 : Ref sig .tc := ⟨.hbm, 571, rfl⟩
abbrev main_call13_v5 : Ref sig .tc := ⟨.hbm, 572, rfl⟩
abbrev main_v448 : Ref sig .tc := ⟨.hbm, 573, rfl⟩
abbrev main_v449 : Ref sig .tc := ⟨.hbm, 574, rfl⟩
abbrev main_v450 : Ref sig .tc := ⟨.hbm, 575, rfl⟩
abbrev main_v451 : Ref sig .tc := ⟨.hbm, 576, rfl⟩
abbrev main_v452 : Ref sig .tc := ⟨.hbm, 577, rfl⟩
abbrev main_v453 : Ref sig .tc := ⟨.hbm, 578, rfl⟩
abbrev main_v454 : Ref sig .tc := ⟨.hbm, 579, rfl⟩
abbrev main_v455 : Ref sig .tc := ⟨.hbm, 580, rfl⟩
abbrev main_v456 : Ref sig .tc := ⟨.hbm, 581, rfl⟩
abbrev main_v457 : Ref sig .tc := ⟨.hbm, 582, rfl⟩
abbrev main_v458 : Ref sig .tc := ⟨.hbm, 583, rfl⟩
abbrev main_v459 : Ref sig .tc := ⟨.hbm, 584, rfl⟩
abbrev main_v460 : Ref sig .tc := ⟨.hbm, 585, rfl⟩
abbrev main_v461 : Ref sig .tc := ⟨.hbm, 586, rfl⟩
abbrev main_v462 : Ref sig .tc := ⟨.hbm, 587, rfl⟩
abbrev main_v463 : Ref sig .tc := ⟨.hbm, 588, rfl⟩
abbrev main_v464 : Ref sig .tc := ⟨.hbm, 589, rfl⟩
abbrev main_v465 : Ref sig .tc := ⟨.hbm, 590, rfl⟩
abbrev main_v466 : Ref sig .tc := ⟨.hbm, 591, rfl⟩
abbrev main_v467 : Ref sig .tc := ⟨.hbm, 592, rfl⟩
abbrev main_v468 : Ref sig .tc := ⟨.hbm, 593, rfl⟩
abbrev main_v469 : Ref sig .tc := ⟨.hbm, 594, rfl⟩
abbrev main_v470 : Ref sig .tc := ⟨.hbm, 595, rfl⟩
abbrev main_v471 : Ref sig .tc := ⟨.hbm, 596, rfl⟩
abbrev main_v472 : Ref sig .tc := ⟨.hbm, 597, rfl⟩
abbrev main_v473 : Ref sig .tc := ⟨.hbm, 598, rfl⟩
abbrev main_v474 : Ref sig .tc := ⟨.hbm, 599, rfl⟩
abbrev main_v475 : Ref sig .tc := ⟨.hbm, 600, rfl⟩
abbrev main_v476 : Ref sig .tc := ⟨.hbm, 601, rfl⟩
abbrev main_v477 : Ref sig .tc := ⟨.hbm, 602, rfl⟩
abbrev main_v478 : Ref sig .tc := ⟨.hbm, 603, rfl⟩
abbrev main_v479 : Ref sig .tc := ⟨.hbm, 604, rfl⟩
abbrev main_v480 : Ref sig .tc := ⟨.hbm, 605, rfl⟩
abbrev main_v481 : Ref sig .tc := ⟨.hbm, 606, rfl⟩
abbrev main_v482 : Ref sig .tc := ⟨.hbm, 607, rfl⟩
abbrev main_v483 : Ref sig .tc := ⟨.hbm, 608, rfl⟩
abbrev main_v484 : Ref sig .tc := ⟨.hbm, 609, rfl⟩
abbrev main_v485 : Ref sig .tc := ⟨.hbm, 610, rfl⟩
abbrev main_v486 : Ref sig .tc := ⟨.hbm, 611, rfl⟩
abbrev main_v487 : Ref sig .tc := ⟨.hbm, 612, rfl⟩
abbrev main_v488 : Ref sig .tc := ⟨.hbm, 613, rfl⟩
abbrev main_v489 : Ref sig .tc := ⟨.hbm, 614, rfl⟩
abbrev main_v490 : Ref sig .tc := ⟨.hbm, 615, rfl⟩
abbrev main_v491 : Ref sig .tc := ⟨.hbm, 616, rfl⟩
abbrev main_v492 : Ref sig .tc := ⟨.hbm, 617, rfl⟩
abbrev main_v493 : Ref sig .tc := ⟨.hbm, 618, rfl⟩
abbrev main_v494 : Ref sig .tc := ⟨.hbm, 619, rfl⟩
abbrev main_v495 : Ref sig .tc := ⟨.hbm, 620, rfl⟩
abbrev main_v496 : Ref sig .tc := ⟨.hbm, 621, rfl⟩
abbrev main_cst_12 : Ref sig .tc := ⟨.hbm, 622, rfl⟩
abbrev main_v497 : Ref sig .tc := ⟨.hbm, 623, rfl⟩
abbrev main_v498 : Ref sig .tc := ⟨.hbm, 624, rfl⟩
abbrev main_v499 : Ref sig .tc := ⟨.hbm, 625, rfl⟩
abbrev main_v500 : Ref sig .tc := ⟨.hbm, 626, rfl⟩
abbrev main_cst_13 : Ref sig .tc := ⟨.hbm, 627, rfl⟩
abbrev main_v501 : Ref sig .tc := ⟨.hbm, 628, rfl⟩
abbrev main_v502 : Ref sig .tc := ⟨.hbm, 629, rfl⟩
abbrev main_v503 : Ref sig .tc := ⟨.hbm, 630, rfl⟩
abbrev main_v504 : Ref sig .tc := ⟨.hbm, 631, rfl⟩
abbrev main_cst_14 : Ref sig .tc := ⟨.hbm, 632, rfl⟩
abbrev main_v505 : Ref sig .tc := ⟨.hbm, 633, rfl⟩
abbrev main_v506 : Ref sig .tc := ⟨.hbm, 634, rfl⟩
abbrev main_cst_15 : Ref sig .tc := ⟨.hbm, 635, rfl⟩
abbrev main_v507 : Ref sig .tc := ⟨.hbm, 636, rfl⟩
abbrev main_v508 : Ref sig .tc := ⟨.hbm, 637, rfl⟩
abbrev main_v509 : Ref sig .tc := ⟨.hbm, 638, rfl⟩
abbrev main_v510 : Ref sig .tc := ⟨.hbm, 639, rfl⟩
abbrev main_cst_16 : Ref sig .tc := ⟨.hbm, 640, rfl⟩
abbrev main_v511 : Ref sig .tc := ⟨.hbm, 641, rfl⟩
abbrev main_v512 : Ref sig .tc := ⟨.hbm, 642, rfl⟩
abbrev main_cst_17 : Ref sig .tc := ⟨.hbm, 643, rfl⟩
abbrev main_v513 : Ref sig .tc := ⟨.hbm, 644, rfl⟩
abbrev main_v514 : Ref sig .tc := ⟨.hbm, 645, rfl⟩
abbrev main_v515 : Ref sig .tc := ⟨.hbm, 646, rfl⟩
abbrev main_v516 : Ref sig .tc := ⟨.hbm, 647, rfl⟩
abbrev main_v517 : Ref sig .tc := ⟨.hbm, 648, rfl⟩
abbrev main_v518 : Ref sig .tc := ⟨.hbm, 649, rfl⟩
abbrev main_v519 : Ref sig .tc := ⟨.hbm, 650, rfl⟩
abbrev main_v520 : Ref sig .tc := ⟨.hbm, 651, rfl⟩
abbrev main_v521 : Ref sig .tc := ⟨.hbm, 652, rfl⟩
abbrev main_v522 : Ref sig .tc := ⟨.hbm, 653, rfl⟩
abbrev main_v523 : Ref sig .tc := ⟨.hbm, 654, rfl⟩
abbrev main_call14_v0 : Ref sig .tc := ⟨.hbm, 655, rfl⟩
abbrev main_call14_v1 : Ref sig .tc := ⟨.hbm, 656, rfl⟩
abbrev main_call14_cst : Ref sig .tc := ⟨.hbm, 657, rfl⟩
abbrev main_call14_v2 : Ref sig .tc := ⟨.hbm, 658, rfl⟩
abbrev main_call14_v3 : Ref sig .tc := ⟨.hbm, 659, rfl⟩
abbrev main_call14_cst_0 : Ref sig .tc := ⟨.hbm, 660, rfl⟩
abbrev main_call14_v4 : Ref sig .tc := ⟨.hbm, 661, rfl⟩
abbrev main_call14_v5 : Ref sig .tc := ⟨.hbm, 662, rfl⟩
abbrev main_v524 : Ref sig .tc := ⟨.hbm, 663, rfl⟩
abbrev main_v525 : Ref sig .tc := ⟨.hbm, 664, rfl⟩
abbrev main_v526 : Ref sig .tc := ⟨.hbm, 665, rfl⟩
abbrev main_v527 : Ref sig .tc := ⟨.hbm, 666, rfl⟩
abbrev main_v528 : Ref sig .tc := ⟨.hbm, 667, rfl⟩
abbrev main_v529 : Ref sig .tc := ⟨.hbm, 668, rfl⟩
abbrev main_v530 : Ref sig .tc := ⟨.hbm, 669, rfl⟩
abbrev main_v531 : Ref sig .tc := ⟨.hbm, 670, rfl⟩
abbrev main_v532 : Ref sig .tc := ⟨.hbm, 671, rfl⟩
abbrev main_v533 : Ref sig .tc := ⟨.hbm, 672, rfl⟩
abbrev main_v534 : Ref sig .tc := ⟨.hbm, 673, rfl⟩
abbrev main_v535 : Ref sig .tc := ⟨.hbm, 674, rfl⟩
abbrev main_v536 : Ref sig .tc := ⟨.hbm, 675, rfl⟩
abbrev main_v537 : Ref sig .tc := ⟨.hbm, 676, rfl⟩
abbrev main_v538 : Ref sig .tc := ⟨.hbm, 677, rfl⟩
abbrev main_v539 : Ref sig .tc := ⟨.hbm, 678, rfl⟩
abbrev main_v540 : Ref sig .tc := ⟨.hbm, 679, rfl⟩
abbrev main_v541 : Ref sig .tc := ⟨.hbm, 680, rfl⟩
abbrev main_v542 : Ref sig .tc := ⟨.hbm, 681, rfl⟩
abbrev main_call15_v0 : Ref sig .tc := ⟨.hbm, 682, rfl⟩
abbrev main_call15_v1 : Ref sig .tc := ⟨.hbm, 683, rfl⟩
abbrev main_call15_cst : Ref sig .tc := ⟨.hbm, 684, rfl⟩
abbrev main_call15_v2 : Ref sig .tc := ⟨.hbm, 685, rfl⟩
abbrev main_call15_v3 : Ref sig .tc := ⟨.hbm, 686, rfl⟩
abbrev main_call15_cst_0 : Ref sig .tc := ⟨.hbm, 687, rfl⟩
abbrev main_call15_v4 : Ref sig .tc := ⟨.hbm, 688, rfl⟩
abbrev main_call15_v5 : Ref sig .tc := ⟨.hbm, 689, rfl⟩
abbrev main_v543 : Ref sig .tc := ⟨.hbm, 690, rfl⟩
abbrev main_c_18 : Ref sig .tc := ⟨.hbm, 691, rfl⟩
abbrev main_call16_v0 : Ref sig .tc := ⟨.hbm, 692, rfl⟩
abbrev main_v544 : Ref sig .tc := ⟨.hbm, 693, rfl⟩
abbrev main_v545 : Ref sig .tc := ⟨.hbm, 694, rfl⟩
abbrev main_v546 : Ref sig .tc := ⟨.hbm, 695, rfl⟩
abbrev main_v547 : Ref sig .tc := ⟨.hbm, 696, rfl⟩
abbrev main_v548 : Ref sig .tc := ⟨.hbm, 697, rfl⟩
abbrev main_v549 : Ref sig .tc := ⟨.hbm, 698, rfl⟩
abbrev main_v550 : Ref sig .tc := ⟨.hbm, 699, rfl⟩
abbrev main_cst_19 : Ref sig .tc := ⟨.hbm, 700, rfl⟩
abbrev main_v551 : Ref sig .tc := ⟨.hbm, 701, rfl⟩
abbrev main_v552 : Ref sig .tc := ⟨.hbm, 702, rfl⟩
abbrev main_v553 : Ref sig .tc := ⟨.hbm, 703, rfl⟩
abbrev main_v554 : Ref sig .tc := ⟨.hbm, 704, rfl⟩
abbrev main_v555 : Ref sig .tc := ⟨.hbm, 705, rfl⟩
abbrev main_v556 : Ref sig .tc := ⟨.hbm, 706, rfl⟩
abbrev main_v557 : Ref sig .tc := ⟨.hbm, 707, rfl⟩
abbrev main_v558 : Ref sig .tc := ⟨.hbm, 708, rfl⟩
abbrev main_v559 : Ref sig .tc := ⟨.hbm, 709, rfl⟩
abbrev main_v560 : Ref sig .tc := ⟨.hbm, 710, rfl⟩
abbrev main_v561 : Ref sig .tc := ⟨.hbm, 711, rfl⟩
abbrev main_v562 : Ref sig .tc := ⟨.hbm, 712, rfl⟩
abbrev main_v563 : Ref sig .tc := ⟨.hbm, 713, rfl⟩
abbrev main_v564 : Ref sig .tc := ⟨.hbm, 714, rfl⟩
abbrev main_v565 : Ref sig .tc := ⟨.hbm, 715, rfl⟩
abbrev main_v566 : Ref sig .tc := ⟨.hbm, 716, rfl⟩
abbrev main_v567 : Ref sig .tc := ⟨.hbm, 717, rfl⟩
abbrev main_v568 : Ref sig .tc := ⟨.hbm, 718, rfl⟩
abbrev main_v569 : Ref sig .tc := ⟨.hbm, 719, rfl⟩
abbrev main_v570 : Ref sig .tc := ⟨.hbm, 720, rfl⟩
abbrev main_v571 : Ref sig .tc := ⟨.hbm, 721, rfl⟩
abbrev main_v572 : Ref sig .tc := ⟨.hbm, 722, rfl⟩
abbrev main_v573 : Ref sig .tc := ⟨.hbm, 723, rfl⟩
abbrev main_v574 : Ref sig .tc := ⟨.hbm, 724, rfl⟩
abbrev main_v575 : Ref sig .tc := ⟨.hbm, 725, rfl⟩
abbrev main_v576 : Ref sig .tc := ⟨.hbm, 726, rfl⟩
abbrev main_v577 : Ref sig .tc := ⟨.hbm, 727, rfl⟩
abbrev main_v578 : Ref sig .tc := ⟨.hbm, 728, rfl⟩
abbrev main_v579 : Ref sig .tc := ⟨.hbm, 729, rfl⟩
abbrev main_v580 : Ref sig .tc := ⟨.hbm, 730, rfl⟩
abbrev main_v581 : Ref sig .tc := ⟨.hbm, 731, rfl⟩
abbrev main_v582 : Ref sig .tc := ⟨.hbm, 732, rfl⟩
abbrev main_v583 : Ref sig .tc := ⟨.hbm, 733, rfl⟩
abbrev main_v584 : Ref sig .tc := ⟨.hbm, 734, rfl⟩
abbrev main_v585 : Ref sig .tc := ⟨.hbm, 735, rfl⟩
abbrev main_v586 : Ref sig .tc := ⟨.hbm, 736, rfl⟩
abbrev main_v587 : Ref sig .tc := ⟨.hbm, 737, rfl⟩
abbrev main_v588 : Ref sig .tc := ⟨.hbm, 738, rfl⟩
abbrev main_v589 : Ref sig .tc := ⟨.hbm, 739, rfl⟩
abbrev main_v590 : Ref sig .tc := ⟨.hbm, 740, rfl⟩
abbrev main_v591 : Ref sig .tc := ⟨.hbm, 741, rfl⟩
abbrev main_v592 : Ref sig .tc := ⟨.hbm, 742, rfl⟩
abbrev main_v593 : Ref sig .tc := ⟨.hbm, 743, rfl⟩
abbrev main_v594 : Ref sig .tc := ⟨.hbm, 744, rfl⟩
abbrev main_v595 : Ref sig .tc := ⟨.hbm, 745, rfl⟩
abbrev main_v596 : Ref sig .tc := ⟨.hbm, 746, rfl⟩
abbrev main_v597 : Ref sig .tc := ⟨.hbm, 747, rfl⟩
abbrev main_v598 : Ref sig .tc := ⟨.hbm, 748, rfl⟩
abbrev main_v599 : Ref sig .tc := ⟨.hbm, 749, rfl⟩
abbrev main_v600 : Ref sig .tc := ⟨.hbm, 750, rfl⟩
abbrev main_v601 : Ref sig .tc := ⟨.hbm, 751, rfl⟩
abbrev main_v602 : Ref sig .tc := ⟨.hbm, 752, rfl⟩
abbrev main_v603 : Ref sig .tc := ⟨.hbm, 753, rfl⟩
abbrev main_v604 : Ref sig .tc := ⟨.hbm, 754, rfl⟩
abbrev main_v605 : Ref sig .tc := ⟨.hbm, 755, rfl⟩
abbrev main_v606 : Ref sig .tc := ⟨.hbm, 756, rfl⟩
abbrev main_v607 : Ref sig .tc := ⟨.hbm, 757, rfl⟩
abbrev main_v608 : Ref sig .tc := ⟨.hbm, 758, rfl⟩
abbrev main_v609 : Ref sig .tc := ⟨.hbm, 759, rfl⟩
abbrev main_v610 : Ref sig .tc := ⟨.hbm, 760, rfl⟩
abbrev main_v611 : Ref sig .tc := ⟨.hbm, 761, rfl⟩
abbrev main_call17_v0 : Ref sig .tc := ⟨.hbm, 762, rfl⟩
abbrev main_call17_v1 : Ref sig .tc := ⟨.hbm, 763, rfl⟩
abbrev main_call17_cst : Ref sig .tc := ⟨.hbm, 764, rfl⟩
abbrev main_call17_v2 : Ref sig .tc := ⟨.hbm, 765, rfl⟩
abbrev main_call17_v3 : Ref sig .tc := ⟨.hbm, 766, rfl⟩
abbrev main_call17_cst_0 : Ref sig .tc := ⟨.hbm, 767, rfl⟩
abbrev main_call17_v4 : Ref sig .tc := ⟨.hbm, 768, rfl⟩
abbrev main_call17_v5 : Ref sig .tc := ⟨.hbm, 769, rfl⟩
abbrev main_v612 : Ref sig .tc := ⟨.hbm, 770, rfl⟩
abbrev main_v613 : Ref sig .tc := ⟨.hbm, 771, rfl⟩
abbrev main_v614 : Ref sig .tc := ⟨.hbm, 772, rfl⟩
abbrev main_v615 : Ref sig .tc := ⟨.hbm, 773, rfl⟩
abbrev main_v616 : Ref sig .tc := ⟨.hbm, 774, rfl⟩
abbrev main_v617 : Ref sig .tc := ⟨.hbm, 775, rfl⟩
abbrev main_v618 : Ref sig .tc := ⟨.hbm, 776, rfl⟩
abbrev main_v619 : Ref sig .tc := ⟨.hbm, 777, rfl⟩
abbrev main_v620 : Ref sig .tc := ⟨.hbm, 778, rfl⟩
abbrev main_v621 : Ref sig .tc := ⟨.hbm, 779, rfl⟩
abbrev main_v622 : Ref sig .tc := ⟨.hbm, 780, rfl⟩
abbrev main_v623 : Ref sig .tc := ⟨.hbm, 781, rfl⟩
abbrev main_v624 : Ref sig .tc := ⟨.hbm, 782, rfl⟩
abbrev main_v625 : Ref sig .tc := ⟨.hbm, 783, rfl⟩
abbrev main_v626 : Ref sig .tc := ⟨.hbm, 784, rfl⟩
abbrev main_v627 : Ref sig .tc := ⟨.hbm, 785, rfl⟩
abbrev main_v628 : Ref sig .tc := ⟨.hbm, 786, rfl⟩
abbrev main_v629 : Ref sig .tc := ⟨.hbm, 787, rfl⟩
abbrev main_v630 : Ref sig .tc := ⟨.hbm, 788, rfl⟩
abbrev main_v631 : Ref sig .tc := ⟨.hbm, 789, rfl⟩
abbrev main_v632 : Ref sig .tc := ⟨.hbm, 790, rfl⟩
abbrev main_v633 : Ref sig .tc := ⟨.hbm, 791, rfl⟩
abbrev main_v634 : Ref sig .tc := ⟨.hbm, 792, rfl⟩
abbrev main_v635 : Ref sig .tc := ⟨.hbm, 793, rfl⟩
abbrev main_v636 : Ref sig .tc := ⟨.hbm, 794, rfl⟩
abbrev main_v637 : Ref sig .tc := ⟨.hbm, 795, rfl⟩
abbrev main_call18_v0 : Ref sig .tc := ⟨.hbm, 796, rfl⟩
abbrev main_call18_v1 : Ref sig .tc := ⟨.hbm, 797, rfl⟩
abbrev main_call18_cst : Ref sig .tc := ⟨.hbm, 798, rfl⟩
abbrev main_call18_v2 : Ref sig .tc := ⟨.hbm, 799, rfl⟩
abbrev main_call18_v3 : Ref sig .tc := ⟨.hbm, 800, rfl⟩
abbrev main_call18_cst_0 : Ref sig .tc := ⟨.hbm, 801, rfl⟩
abbrev main_call18_v4 : Ref sig .tc := ⟨.hbm, 802, rfl⟩
abbrev main_call18_v5 : Ref sig .tc := ⟨.hbm, 803, rfl⟩
abbrev main_v638 : Ref sig .tc := ⟨.hbm, 804, rfl⟩
abbrev main_c_20 : Ref sig .tc := ⟨.hbm, 805, rfl⟩
abbrev main_call19_v0 : Ref sig .tc := ⟨.hbm, 806, rfl⟩
abbrev main_v639 : Ref sig .tc := ⟨.hbm, 807, rfl⟩
abbrev main_v640 : Ref sig .tc := ⟨.hbm, 808, rfl⟩
abbrev main_v641 : Ref sig .tc := ⟨.hbm, 809, rfl⟩
abbrev main_v642 : Ref sig .tc := ⟨.hbm, 810, rfl⟩
abbrev main_v643 : Ref sig .tc := ⟨.hbm, 811, rfl⟩
abbrev main_v644 : Ref sig .tc := ⟨.hbm, 812, rfl⟩
abbrev main_v645 : Ref sig .tc := ⟨.hbm, 813, rfl⟩
abbrev main_cst_21 : Ref sig .tc := ⟨.hbm, 814, rfl⟩
abbrev main_v646 : Ref sig .tc := ⟨.hbm, 815, rfl⟩
abbrev main_v647 : Ref sig .tc := ⟨.hbm, 816, rfl⟩
abbrev main_v648 : Ref sig .tc := ⟨.hbm, 817, rfl⟩
abbrev main_v649 : Ref sig .tc := ⟨.hbm, 818, rfl⟩
abbrev main_v650 : Ref sig .tc := ⟨.hbm, 819, rfl⟩
abbrev main_v651 : Ref sig .tc := ⟨.hbm, 820, rfl⟩
abbrev main_v652 : Ref sig .tc := ⟨.hbm, 821, rfl⟩
abbrev main_v653 : Ref sig .tc := ⟨.hbm, 822, rfl⟩
abbrev main_v654 : Ref sig .tc := ⟨.hbm, 823, rfl⟩
abbrev main_v655 : Ref sig .tc := ⟨.hbm, 824, rfl⟩
abbrev main_v656 : Ref sig .tc := ⟨.hbm, 825, rfl⟩
abbrev main_v657 : Ref sig .tc := ⟨.hbm, 826, rfl⟩
abbrev main_v658 : Ref sig .tc := ⟨.hbm, 827, rfl⟩
abbrev main_v659 : Ref sig .tc := ⟨.hbm, 828, rfl⟩
abbrev main_v660 : Ref sig .tc := ⟨.hbm, 829, rfl⟩
abbrev main_v661 : Ref sig .tc := ⟨.hbm, 830, rfl⟩
abbrev main_v662 : Ref sig .tc := ⟨.hbm, 831, rfl⟩
abbrev main_v663 : Ref sig .tc := ⟨.hbm, 832, rfl⟩
abbrev main_v664 : Ref sig .tc := ⟨.hbm, 833, rfl⟩
abbrev main_v665 : Ref sig .tc := ⟨.hbm, 834, rfl⟩
abbrev main_v666 : Ref sig .tc := ⟨.hbm, 835, rfl⟩
abbrev main_v667 : Ref sig .tc := ⟨.hbm, 836, rfl⟩
abbrev main_v668 : Ref sig .tc := ⟨.hbm, 837, rfl⟩
abbrev main_v669 : Ref sig .tc := ⟨.hbm, 838, rfl⟩
abbrev main_v670 : Ref sig .tc := ⟨.hbm, 839, rfl⟩
abbrev main_v671 : Ref sig .tc := ⟨.hbm, 840, rfl⟩
abbrev main_v672 : Ref sig .tc := ⟨.hbm, 841, rfl⟩
abbrev main_v673 : Ref sig .tc := ⟨.hbm, 842, rfl⟩
abbrev main_v674 : Ref sig .tc := ⟨.hbm, 843, rfl⟩
abbrev main_v675 : Ref sig .tc := ⟨.hbm, 844, rfl⟩
abbrev main_v676 : Ref sig .tc := ⟨.hbm, 845, rfl⟩
abbrev main_v677 : Ref sig .tc := ⟨.hbm, 846, rfl⟩
abbrev main_v678 : Ref sig .tc := ⟨.hbm, 847, rfl⟩
abbrev main_v679 : Ref sig .tc := ⟨.hbm, 848, rfl⟩
abbrev main_v680 : Ref sig .tc := ⟨.hbm, 849, rfl⟩
abbrev main_v681 : Ref sig .tc := ⟨.hbm, 850, rfl⟩
abbrev main_v682 : Ref sig .tc := ⟨.hbm, 851, rfl⟩
abbrev main_v683 : Ref sig .tc := ⟨.hbm, 852, rfl⟩
abbrev main_v684 : Ref sig .tc := ⟨.hbm, 853, rfl⟩
abbrev main_v685 : Ref sig .tc := ⟨.hbm, 854, rfl⟩
abbrev main_v686 : Ref sig .tc := ⟨.hbm, 855, rfl⟩
abbrev main_v687 : Ref sig .tc := ⟨.hbm, 856, rfl⟩
abbrev main_v688 : Ref sig .tc := ⟨.hbm, 857, rfl⟩
abbrev main_v689 : Ref sig .tc := ⟨.hbm, 858, rfl⟩
abbrev main_v690 : Ref sig .tc := ⟨.hbm, 859, rfl⟩
abbrev main_v691 : Ref sig .tc := ⟨.hbm, 860, rfl⟩
abbrev main_v692 : Ref sig .tc := ⟨.hbm, 861, rfl⟩
abbrev main_v693 : Ref sig .tc := ⟨.hbm, 862, rfl⟩
abbrev main_v694 : Ref sig .tc := ⟨.hbm, 863, rfl⟩
abbrev main_v695 : Ref sig .tc := ⟨.hbm, 864, rfl⟩
abbrev main_v696 : Ref sig .tc := ⟨.hbm, 865, rfl⟩
abbrev main_v697 : Ref sig .tc := ⟨.hbm, 866, rfl⟩
abbrev main_v698 : Ref sig .tc := ⟨.hbm, 867, rfl⟩
abbrev main_v699 : Ref sig .tc := ⟨.hbm, 868, rfl⟩
abbrev main_v700 : Ref sig .tc := ⟨.hbm, 869, rfl⟩
abbrev main_v701 : Ref sig .tc := ⟨.hbm, 870, rfl⟩
abbrev main_v702 : Ref sig .tc := ⟨.hbm, 871, rfl⟩
abbrev main_v703 : Ref sig .tc := ⟨.hbm, 872, rfl⟩
abbrev main_v704 : Ref sig .tc := ⟨.hbm, 873, rfl⟩
abbrev main_v705 : Ref sig .tc := ⟨.hbm, 874, rfl⟩
abbrev main_v706 : Ref sig .tc := ⟨.hbm, 875, rfl⟩
abbrev main_call20_v0 : Ref sig .tc := ⟨.hbm, 876, rfl⟩
abbrev main_call20_v1 : Ref sig .tc := ⟨.hbm, 877, rfl⟩
abbrev main_call20_cst : Ref sig .tc := ⟨.hbm, 878, rfl⟩
abbrev main_call20_v2 : Ref sig .tc := ⟨.hbm, 879, rfl⟩
abbrev main_call20_v3 : Ref sig .tc := ⟨.hbm, 880, rfl⟩
abbrev main_call20_cst_0 : Ref sig .tc := ⟨.hbm, 881, rfl⟩
abbrev main_call20_v4 : Ref sig .tc := ⟨.hbm, 882, rfl⟩
abbrev main_call20_v5 : Ref sig .tc := ⟨.hbm, 883, rfl⟩
abbrev main_v707 : Ref sig .tc := ⟨.hbm, 884, rfl⟩
abbrev main_v708 : Ref sig .tc := ⟨.hbm, 885, rfl⟩
abbrev main_v709 : Ref sig .tc := ⟨.hbm, 886, rfl⟩
abbrev main_v710 : Ref sig .tc := ⟨.hbm, 887, rfl⟩
abbrev main_v711 : Ref sig .tc := ⟨.hbm, 888, rfl⟩
abbrev main_v712 : Ref sig .tc := ⟨.hbm, 889, rfl⟩
abbrev main_v713 : Ref sig .tc := ⟨.hbm, 890, rfl⟩
abbrev main_v714 : Ref sig .tc := ⟨.hbm, 891, rfl⟩
abbrev main_v715 : Ref sig .tc := ⟨.hbm, 892, rfl⟩
abbrev main_v716 : Ref sig .tc := ⟨.hbm, 893, rfl⟩
abbrev main_v717 : Ref sig .tc := ⟨.hbm, 894, rfl⟩
abbrev main_v718 : Ref sig .tc := ⟨.hbm, 895, rfl⟩
abbrev main_v719 : Ref sig .tc := ⟨.hbm, 896, rfl⟩
abbrev main_v720 : Ref sig .tc := ⟨.hbm, 897, rfl⟩
abbrev main_v721 : Ref sig .tc := ⟨.hbm, 898, rfl⟩
abbrev main_v722 : Ref sig .tc := ⟨.hbm, 899, rfl⟩
abbrev main_v723 : Ref sig .tc := ⟨.hbm, 900, rfl⟩
abbrev main_v724 : Ref sig .tc := ⟨.hbm, 901, rfl⟩
abbrev main_v725 : Ref sig .tc := ⟨.hbm, 902, rfl⟩
abbrev main_v726 : Ref sig .tc := ⟨.hbm, 903, rfl⟩
abbrev main_v727 : Ref sig .tc := ⟨.hbm, 904, rfl⟩
abbrev main_v728 : Ref sig .tc := ⟨.hbm, 905, rfl⟩
abbrev main_v729 : Ref sig .tc := ⟨.hbm, 906, rfl⟩
abbrev main_v730 : Ref sig .tc := ⟨.hbm, 907, rfl⟩
abbrev main_v731 : Ref sig .tc := ⟨.hbm, 908, rfl⟩
abbrev main_v732 : Ref sig .tc := ⟨.hbm, 909, rfl⟩
abbrev main_v733 : Ref sig .tc := ⟨.hbm, 910, rfl⟩
abbrev main_v734 : Ref sig .tc := ⟨.hbm, 911, rfl⟩
abbrev main_v735 : Ref sig .tc := ⟨.hbm, 912, rfl⟩
abbrev main_v736 : Ref sig .tc := ⟨.hbm, 913, rfl⟩
abbrev main_v737 : Ref sig .tc := ⟨.hbm, 914, rfl⟩
abbrev main_v738 : Ref sig .tc := ⟨.hbm, 915, rfl⟩
abbrev main_v739 : Ref sig .tc := ⟨.hbm, 916, rfl⟩
abbrev main_v740 : Ref sig .tc := ⟨.hbm, 917, rfl⟩
abbrev main_v741 : Ref sig .tc := ⟨.hbm, 918, rfl⟩
abbrev main_v742 : Ref sig .tc := ⟨.hbm, 919, rfl⟩
abbrev main_v743 : Ref sig .tc := ⟨.hbm, 920, rfl⟩
abbrev main_v744 : Ref sig .tc := ⟨.hbm, 921, rfl⟩
abbrev main_v745 : Ref sig .tc := ⟨.hbm, 922, rfl⟩
abbrev main_v746 : Ref sig .tc := ⟨.hbm, 923, rfl⟩
abbrev main_v747 : Ref sig .tc := ⟨.hbm, 924, rfl⟩
abbrev main_v748 : Ref sig .tc := ⟨.hbm, 925, rfl⟩
abbrev main_v749 : Ref sig .tc := ⟨.hbm, 926, rfl⟩
abbrev main_v750 : Ref sig .tc := ⟨.hbm, 927, rfl⟩
abbrev main_v751 : Ref sig .tc := ⟨.hbm, 928, rfl⟩
abbrev main_v752 : Ref sig .tc := ⟨.hbm, 929, rfl⟩
abbrev main_v753 : Ref sig .tc := ⟨.hbm, 930, rfl⟩
abbrev main_v754 : Ref sig .tc := ⟨.hbm, 931, rfl⟩
abbrev main_v755 : Ref sig .tc := ⟨.hbm, 932, rfl⟩
abbrev main_cst_22 : Ref sig .tc := ⟨.hbm, 933, rfl⟩
abbrev main_v756 : Ref sig .tc := ⟨.hbm, 934, rfl⟩
abbrev main_v757 : Ref sig .tc := ⟨.hbm, 935, rfl⟩
abbrev main_v758 : Ref sig .tc := ⟨.hbm, 936, rfl⟩
abbrev main_v759 : Ref sig .tc := ⟨.hbm, 937, rfl⟩
abbrev main_cst_23 : Ref sig .tc := ⟨.hbm, 938, rfl⟩
abbrev main_v760 : Ref sig .tc := ⟨.hbm, 939, rfl⟩
abbrev main_v761 : Ref sig .tc := ⟨.hbm, 940, rfl⟩
abbrev main_v762 : Ref sig .tc := ⟨.hbm, 941, rfl⟩
abbrev main_v763 : Ref sig .tc := ⟨.hbm, 942, rfl⟩
abbrev main_cst_24 : Ref sig .tc := ⟨.hbm, 943, rfl⟩
abbrev main_v764 : Ref sig .tc := ⟨.hbm, 944, rfl⟩
abbrev main_v765 : Ref sig .tc := ⟨.hbm, 945, rfl⟩
abbrev main_cst_25 : Ref sig .tc := ⟨.hbm, 946, rfl⟩
abbrev main_v766 : Ref sig .tc := ⟨.hbm, 947, rfl⟩
abbrev main_v767 : Ref sig .tc := ⟨.hbm, 948, rfl⟩
abbrev main_v768 : Ref sig .tc := ⟨.hbm, 949, rfl⟩
abbrev main_v769 : Ref sig .tc := ⟨.hbm, 950, rfl⟩
abbrev main_cst_26 : Ref sig .tc := ⟨.hbm, 951, rfl⟩
abbrev main_v770 : Ref sig .tc := ⟨.hbm, 952, rfl⟩
abbrev main_v771 : Ref sig .tc := ⟨.hbm, 953, rfl⟩
abbrev main_cst_27 : Ref sig .tc := ⟨.hbm, 954, rfl⟩
abbrev main_v772 : Ref sig .tc := ⟨.hbm, 955, rfl⟩
abbrev main_v773 : Ref sig .tc := ⟨.hbm, 956, rfl⟩
abbrev main_v774 : Ref sig .tc := ⟨.hbm, 957, rfl⟩
abbrev main_v775 : Ref sig .tc := ⟨.hbm, 958, rfl⟩
abbrev main_v776 : Ref sig .tc := ⟨.hbm, 959, rfl⟩
abbrev main_v777 : Ref sig .tc := ⟨.hbm, 960, rfl⟩

abbrev nD : Nat := 1
abbrev τ : Topo := Topo.v7x

variable {F : FTy → Type} [FloatOps F]
-- ==== Proof.Head.Spec.lean ====
/- The detection head over the real numbers: what both programs are shown to compute, at one level of the pyramid and at
   one image of the batch. Pixels are named by a row and a column, natural numbers; channels by `Fin`. -/
module

public import Idealize.ShloMosaic.PureOps.Ideal

@[expose] public section

noncomputable section

namespace Cert.Head

open scoped BigOperators

/-- The logistic function. -/
def sigmoid (r : ℝ) : ℝ := (1 + Real.exp (-r))⁻¹

/-- A number times its logistic. -/
def silu (r : ℝ) : ℝ := r * sigmoid r

/-- An image of `H` by `W` pixels with a border of zeros one pixel wide: row and column 0 are border, and the image's
    own pixel `(h, w)` stands at `(h + 1, w + 1)`. -/
def border (H W : ℕ) (E : ℕ → ℕ → ℝ) (h w : ℕ) : ℝ :=
  if (1 ≤ h ∧ h ≤ H) ∧ (1 ≤ w ∧ w ≤ W) then E (h - 1) (w - 1) else 0

/-- The 3 by 3 convolution of one channel at pixel `(h, w)`, the nine products added from the first tap on. -/
def taps (H W : ℕ) (E : ℕ → ℕ → ℝ) (k : Fin 9 → ℝ) (h w : ℕ) : ℝ :=
  border H W E h w * k 0 + border H W E h (w + 1) * k 1 + border H W E h (w + 2) * k 2
    + border H W E (h + 1) w * k 3 + border H W E (h + 1) (w + 1) * k 4 + border H W E (h + 1) (w + 2) * k 5
    + border H W E (h + 2) w * k 6 + border H W E (h + 2) (w + 1) * k 7 + border H W E (h + 2) (w + 2) * k 8

/-- The weights of one branch (classification or regression) of one level. -/
structure Branch where
  /-- the expansion, 96 channels to 192 -/
  w1 : Fin 192 → Fin 96 → ℝ
  /-- the nine taps of each channel -/
  wd : Fin 192 → Fin 9 → ℝ
  /-- the projection, 192 channels to 96 -/
  w2 : Fin 96 → Fin 192 → ℝ
  /-- the projection's bias -/
  b2 : Fin 96 → ℝ

/-- The weights of one level whose input has `K` channels. -/
structure Level (K : ℕ) where
  /-- the stem's weights -/
  sw : Fin 96 → Fin K → ℝ
  /-- the classification branch -/
  cls : Branch
  /-- the regression branch -/
  reg : Branch
  /-- the prediction weights: four rows for the box, one for the object score, eighty for the classes -/
  hw : Fin 85 → Fin 96 → ℝ
  /-- the prediction biases, in the same order -/
  hb : Fin 85 → ℝ

/-- The stem at a pixel whose input channels are `x`. -/
def stem {K : ℕ} (sw : Fin 96 → Fin K → ℝ) (x : Fin K → ℝ) (c : Fin 96) : ℝ := silu (∑ i, x i * sw c i)

/-- The expansion of a pixel whose stem channels are `a`. -/
def expand (w1 : Fin 192 → Fin 96 → ℝ) (a : Fin 96 → ℝ) (o : Fin 192) : ℝ := silu (∑ j, a j * w1 o j)

/-- The depthwise stage of a branch at a pixel. -/
def depth (H W : ℕ) (B : Branch) (A : ℕ → ℕ → Fin 96 → ℝ) (h w : ℕ) (o : Fin 192) : ℝ :=
  silu (taps H W (fun h w => expand B.w1 (A h w) o) (B.wd o) h w)

/-- The features of a branch at a pixel: the stem's channels plus the projection of the depthwise stage. -/
def feat (H W : ℕ) (B : Branch) (A : ℕ → ℕ → Fin 96 → ℝ) (h w : ℕ) (j : Fin 96) : ℝ :=
  A h w j + ((∑ o, depth H W B A h w o * B.w2 j o) + B.b2 j)

/-- The prediction of a level at a pixel, before it is decoded: box and object from the regression branch, classes from
    the classification branch. -/
def score {K : ℕ} (H W : ℕ) (L : Level K) (X : ℕ → ℕ → Fin K → ℝ) (h w : ℕ) (l : Fin 85) : ℝ :=
  (∑ j, feat H W (if l.val < 5 then L.reg else L.cls) (fun h w => stem L.sw (X h w)) h w j * L.hw l j) + L.hb l

/-- The decoding of a prediction `r` at pixel `(h, w)` of a level of stride `s`. -/
def decode (s : ℝ) (h w : ℕ) (l : Fin 85) (r : ℝ) : ℝ :=
  if l.val = 0 then (r + w) * s else if l.val = 1 then (r + h) * s else if l.val < 4 then Real.exp r * s else sigmoid r

/-- The result of a level at a pixel. -/
def result {K : ℕ} (s : ℝ) (H W : ℕ) (L : Level K) (X : ℕ → ℕ → Fin K → ℝ) (h w : ℕ) (l : Fin 85) : ℝ :=
  decode s h w l (score H W L X h w l)

/-! ## The same with the two branches side by side and the projections folded into the predictions -/

/-- A weight of 384 side by side channels: the first 192 are the classification branch's. -/
def side {α : Type} (f g : Fin 192 → α) (o : Fin 384) : α :=
  if h : o.val < 192 then f ⟨o.val, h⟩ else g ⟨o.val - 192, by omega⟩

/-- The two projections as one block-diagonal matrix. -/
def blockDiag {K : ℕ} (L : Level K) (o : Fin 384) (q : Fin 192) : ℝ :=
  if ho : o.val < 192 then (if hq : q.val < 96 then L.cls.w2 ⟨q.val, hq⟩ ⟨o.val, ho⟩ else 0)
  else (if hq : q.val < 96 then 0 else L.reg.w2 ⟨q.val - 96, by omega⟩ ⟨o.val - 192, by omega⟩)

/-- The predictions as one matrix over the two branches' features side by side. -/
def headMat {K : ℕ} (L : Level K) (q : Fin 192) (l : Fin 85) : ℝ :=
  if hq : q.val < 96 then (if l.val < 5 then 0 else L.hw l ⟨q.val, hq⟩)
  else (if l.val < 5 then L.hw l ⟨q.val - 96, by omega⟩ else 0)

/-- The two projections' biases side by side. -/
def sideBias {K : ℕ} (L : Level K) (q : Fin 192) : ℝ :=
  if hq : q.val < 96 then L.cls.b2 ⟨q.val, hq⟩ else L.reg.b2 ⟨q.val - 96, by omega⟩

/-- The folded weights of the depthwise channels, of the stem's channels, and the folded bias. -/
def foldD {K : ℕ} (L : Level K) (o : Fin 384) (l : Fin 85) : ℝ := ∑ q, blockDiag L o q * headMat L q l
@[inherit_doc foldD] def foldA {K : ℕ} (L : Level K) (j : Fin 96) (l : Fin 85) : ℝ :=
  headMat L ⟨j.val, by omega⟩ l + headMat L ⟨96 + j.val, by omega⟩ l
@[inherit_doc foldD] def foldB {K : ℕ} (L : Level K) (l : Fin 85) : ℝ := (∑ q, sideBias L q * headMat L q l) + L.hb l

/-- The expansion of a pixel to both branches' channels. -/
def expand2 (w1 : Fin 384 → Fin 96 → ℝ) (a : Fin 96 → ℝ) (o : Fin 384) : ℝ := silu (∑ j, a j * w1 o j)

/-- The depthwise stage of both branches' channels. -/
def depth2 (H W : ℕ) (w1 : Fin 384 → Fin 96 → ℝ) (wd : Fin 384 → Fin 9 → ℝ) (A : ℕ → ℕ → Fin 96 → ℝ) (h w : ℕ)
    (o : Fin 384) : ℝ :=
  silu (taps H W (fun h w => expand2 w1 (A h w) o) (wd o) h w)

/-- The folded prediction from arbitrary folded weights. -/
def score2 (H W : ℕ) (w1 : Fin 384 → Fin 96 → ℝ) (wd : Fin 384 → Fin 9 → ℝ) (fd : Fin 384 → Fin 85 → ℝ)
    (fa : Fin 96 → Fin 85 → ℝ) (fb : Fin 85 → ℝ) (A : ℕ → ℕ → Fin 96 → ℝ) (h w : ℕ) (l : Fin 85) : ℝ :=
  (∑ o, depth2 H W w1 wd A h w o * fd o l) + (∑ j, A h w j * fa j l) + fb l

/-- A sum over 384 channels is the sum over the first 192 plus the sum over the last 192. -/
theorem sum_side (f : Fin 384 → ℝ) :
    ∑ o, f o = (∑ o : Fin 192, f ⟨o.val, by omega⟩) + ∑ o : Fin 192, f ⟨192 + o.val, by omega⟩ := by
  exact Fin.sum_univ_add (a := 192) (b := 192) f

/-- A sum over 192 features is the sum over the first 96 plus the sum over the last 96. -/
theorem sum_half (f : Fin 192 → ℝ) :
    ∑ o, f o = (∑ o : Fin 96, f ⟨o.val, by omega⟩) + ∑ o : Fin 96, f ⟨96 + o.val, by omega⟩ := by
  exact Fin.sum_univ_add (a := 96) (b := 96) f

/-- Projecting, adding the bias and the stem's channels and predicting is one linear map of the depthwise channels and
    one of the stem's channels. -/
theorem fold_branch (d : Fin 192 → ℝ) (w2 : Fin 96 → Fin 192 → ℝ) (b2 a : Fin 96 → ℝ) (hw : Fin 96 → ℝ) :
    ∑ j, (a j + ((∑ o, d o * w2 j o) + b2 j)) * hw j
      = (∑ o, d o * ∑ j, w2 j o * hw j) + (∑ j, a j * hw j) + ∑ j, b2 j * hw j := by
  have h1 : ∑ o, d o * ∑ j, w2 j o * hw j = ∑ j, (∑ o, d o * w2 j o) * hw j := by
    simp only [Finset.mul_sum, Finset.sum_mul]
    rw [Finset.sum_comm]
    exact Finset.sum_congr rfl fun j _ => Finset.sum_congr rfl fun o _ => by ring
  rw [h1, ← Finset.sum_add_distrib, ← Finset.sum_add_distrib]
  exact Finset.sum_congr rfl fun j _ => by ring

/-- The folded form predicts what the two branches predict. -/
theorem score2_eq {K : ℕ} (H W : ℕ) (L : Level K) (X : ℕ → ℕ → Fin K → ℝ) (h w : ℕ) (l : Fin 85) :
    score2 H W (side L.cls.w1 L.reg.w1) (side L.cls.wd L.reg.wd) (foldD L) (foldA L) (foldB L)
      (fun h w => stem L.sw (X h w)) h w l = score H W L X h w l := by
  unfold score2 score feat foldB
  rw [fold_branch, sum_side]
  by_cases hl : l.val < 5 <;>
    simp [foldD, foldA, sum_half, headMat, blockDiag, sideBias, hl, depth2, depth, side, expand2, expand] <;> ring

end Cert.Head

end
-- ==== Proof.Head.Args.lean ====
/- The arguments as real numbers: the weights of the three levels, and what it means that the arrays hold them. -/
module

public import proofs.«01_k».proof.Proof.Head.Spec
public import proofs.«01_k».proof.KernelIdeal
public import Idealize.ShloMosaic.Lib.Pointwise

@[expose] public section

noncomputable section

namespace Cert.Head

open Idealize.ShloMosaic Cert.KernelIdeal

/-- The real weights of the branches of the three levels; the first index is the level. -/
structure Branches where
  /-- the expansion -/
  w1 : Fin 3 → Fin 192 → Fin 96 → ℝ
  /-- the nine taps by row and column -/
  wd : Fin 3 → Fin 192 → Fin 3 → Fin 3 → ℝ
  /-- the projection -/
  w2 : Fin 3 → Fin 96 → Fin 192 → ℝ
  /-- the projection's bias -/
  b2 : Fin 3 → Fin 96 → ℝ

/-- The real weights of the predictions of the three levels. -/
structure Heads where
  /-- the class predictions -/
  cw : Fin 3 → Fin 80 → Fin 96 → ℝ
  /-- their biases -/
  cb : Fin 3 → Fin 80 → ℝ
  /-- the box predictions -/
  rw : Fin 3 → Fin 4 → Fin 96 → ℝ
  /-- their biases -/
  rb : Fin 3 → Fin 4 → ℝ
  /-- the object prediction -/
  ow : Fin 3 → Fin 96 → ℝ
  /-- its bias -/
  ob : Fin 3 → ℝ

/-- One branch of one level. -/
def Branches.at (B : Branches) (k : Fin 3) : Branch where
  w1 := B.w1 k
  wd o t := B.wd k o ⟨t.val / 3, by omega⟩ ⟨t.val % 3, by omega⟩
  w2 := B.w2 k
  b2 := B.b2 k

/-- The weights of level `k` whose stem weights are `sw`. -/
def levelAt {K : ℕ} (sw : Fin 96 → Fin K → ℝ) (C R : Branches) (P : Heads) (k : Fin 3) : Level K where
  sw := sw
  cls := C.at k
  reg := R.at k
  hw l j := if h4 : l.val < 4 then P.rw k ⟨l.val, h4⟩ j else if h5 : l.val < 5 then P.ow k j else P.cw k ⟨l.val - 5, by omega⟩ j
  hb l := if h4 : l.val < 4 then P.rb k ⟨l.val, h4⟩ else if h5 : l.val < 5 then P.ob k else P.cb k ⟨l.val - 5, by omega⟩

/-- The arrays of a branch hold the weights `B`. -/
structure HoldsBranch (B : Branches) (w1 : Vec Ideal S3x192x96x1x1 .f32) (wd : Vec Ideal S3x192x1x3x3 .f32)
    (w2 : Vec Ideal S3x96x192x1x1 .f32) (b2 : Vec Ideal S3x96 .f32) : Prop where
  w1 : ∀ k o j, w1 (ix5 k o j 0 0) = ((B.w1 k o j : ℝ) : EReal)
  wd : ∀ k o i j, wd (ix5 k o 0 i j) = ((B.wd k o i j : ℝ) : EReal)
  w2 : ∀ k j o, w2 (ix5 k j o 0 0) = ((B.w2 k j o : ℝ) : EReal)
  b2 : ∀ k j, b2 (ix2 k j) = ((B.b2 k j : ℝ) : EReal)

/-- The arrays of the predictions hold the weights `P`. -/
structure HoldsHeads (P : Heads) (cw : Vec Ideal S3x80x96x1x1 .f32) (cb : Vec Ideal S3x80 .f32)
    (rw : Vec Ideal S3x4x96x1x1 .f32) (rb : Vec Ideal S3x4 .f32)
    (ow : Vec Ideal S3x1x96x1x1 .f32) (ob : Vec Ideal S3x1 .f32) : Prop where
  cw : ∀ k l j, cw (ix5 k l j 0 0) = ((P.cw k l j : ℝ) : EReal)
  cb : ∀ k l, cb (ix2 k l) = ((P.cb k l : ℝ) : EReal)
  rw : ∀ k l j, rw (ix5 k l j 0 0) = ((P.rw k l j : ℝ) : EReal)
  rb : ∀ k l, rb (ix2 k l) = ((P.rb k l : ℝ) : EReal)
  ow : ∀ k j, ow (ix5 k 0 j 0 0) = ((P.ow k j : ℝ) : EReal)
  ob : ∀ k, ob (ix2 k 0) = ((P.ob k : ℝ) : EReal)

end Cert.Head

end
-- ==== Proof.Head.Inputs.lean ====
/- All the arguments as real numbers, and the one result of the head over them. -/
module

public import proofs.«01_k».proof.Proof.Head.Args

@[expose] public section

noncomputable section

namespace Cert.Head

open Idealize.ShloMosaic Cert.KernelIdeal

/-- The arguments the result depends on, as real numbers; the images are read at an image of the batch, a row, a column
    and a channel. -/
structure Inputs where
  /-- the first level's images -/
  X0 : Fin 16 → ℕ → ℕ → Fin 128 → ℝ
  /-- the second level's images -/
  X1 : Fin 16 → ℕ → ℕ → Fin 256 → ℝ
  /-- the third level's images -/
  X2 : Fin 16 → ℕ → ℕ → Fin 512 → ℝ
  /-- the first level's stem weights -/
  s0 : Fin 96 → Fin 128 → ℝ
  /-- the second level's stem weights -/
  s1 : Fin 96 → Fin 256 → ℝ
  /-- the third level's stem weights -/
  s2 : Fin 96 → Fin 512 → ℝ
  /-- the classification branch -/
  C : Branches
  /-- the regression branch -/
  R : Branches
  /-- the predictions -/
  P : Heads

/-- The result at image `b`, row `r` of the 8400 and place `l`: the three levels' rows one below the other, each level's
    pixels in reading order. -/
def Inputs.total (I : Inputs) (b : Fin 16) (r : ℕ) (l : Fin 85) : ℝ :=
  if r < 6400 then result 8 80 80 (levelAt I.s0 I.C I.R I.P 0) (I.X0 b) (r / 80) (r % 80) l
  else if r < 8000 then
    result 16 40 40 (levelAt I.s1 I.C I.R I.P 1) (I.X1 b) ((r - 6400) / 40) ((r - 6400) % 40) l
  else result 32 20 20 (levelAt I.s2 I.C I.R I.P 2) (I.X2 b) ((r - 8000) / 20) ((r - 8000) % 20) l

/-- The whole result array. -/
def whole (I : Inputs) : Vec Ideal S16x8400x85 .f32 := fun y => ((I.total (y 0) (y 1).val (y 2) : ℝ) : EReal)

/-- The argument arrays hold the numbers `I`, and the biases that the kernel does not read are zero. -/
structure Holds (I : Inputs)
    (a0 : Vec Ideal S16x128x80x80 .f32) (a1 : Vec Ideal S16x256x40x40 .f32) (a2 : Vec Ideal S16x512x20x20 .f32)
    (a3 : Vec Ideal S96x128x1x1 .f32) (a4 : Vec Ideal S96 .f32) (a5 : Vec Ideal S96x256x1x1 .f32)
    (a6 : Vec Ideal S96 .f32) (a7 : Vec Ideal S96x512x1x1 .f32) (a8 : Vec Ideal S96 .f32)
    (a9 : Vec Ideal S3x192x96x1x1 .f32) (a10 : Vec Ideal S3x192 .f32) (a11 : Vec Ideal S3x192x1x3x3 .f32)
    (a12 : Vec Ideal S3x192 .f32) (a13 : Vec Ideal S3x96x192x1x1 .f32) (a14 : Vec Ideal S3x96 .f32)
    (a15 : Vec Ideal S3x192x96x1x1 .f32) (a16 : Vec Ideal S3x192 .f32) (a17 : Vec Ideal S3x192x1x3x3 .f32)
    (a18 : Vec Ideal S3x192 .f32) (a19 : Vec Ideal S3x96x192x1x1 .f32) (a20 : Vec Ideal S3x96 .f32)
    (a21 : Vec Ideal S3x80x96x1x1 .f32) (a22 : Vec Ideal S3x80 .f32) (a23 : Vec Ideal S3x4x96x1x1 .f32)
    (a24 : Vec Ideal S3x4 .f32) (a25 : Vec Ideal S3x1x96x1x1 .f32) (a26 : Vec Ideal S3x1 .f32) : Prop where
  x0 : ∀ b i (h w : Fin 80), a0 (ix4 b i h w) = ((I.X0 b h w i : ℝ) : EReal)
  x1 : ∀ b i (h w : Fin 40), a1 (ix4 b i h w) = ((I.X1 b h w i : ℝ) : EReal)
  x2 : ∀ b i (h w : Fin 20), a2 (ix4 b i h w) = ((I.X2 b h w i : ℝ) : EReal)
  s0 : ∀ j i, a3 (ix4 j i 0 0) = ((I.s0 j i : ℝ) : EReal)
  s1 : ∀ j i, a5 (ix4 j i 0 0) = ((I.s1 j i : ℝ) : EReal)
  s2 : ∀ j i, a7 (ix4 j i 0 0) = ((I.s2 j i : ℝ) : EReal)
  cls : HoldsBranch I.C a9 a11 a13 a14
  reg : HoldsBranch I.R a15 a17 a19 a20
  heads : HoldsHeads I.P a21 a22 a23 a24 a25 a26
  z0 : ∀ j, a4 (ix1 j) = 0
  z1 : ∀ j, a6 (ix1 j) = 0
  z2 : ∀ j, a8 (ix1 j) = 0
  zc1 : ∀ k o, a10 (ix2 k o) = 0
  zcd : ∀ k o, a12 (ix2 k o) = 0
  zr1 : ∀ k o, a16 (ix2 k o) = 0
  zrd : ∀ k o, a18 (ix2 k o) = 0

end Cert.Head

end
-- ==== Proof.Head.Scalar.lean ====
/- The programs' scalar arithmetic on the extended reals, at real arguments: each composite of operations the two programs
   apply to one element, and the real number it is. -/
module

public import proofs.«01_k».proof.Proof.Head.Spec
public import proofs.«01_k».proof.KernelIdeal
public import Idealize.ShloMosaic.PureOps.IdealRules
public import Idealize.ShloMosaic.Lib.IdealHost

@[expose] public section

noncomputable section

namespace Cert.Head

open Idealize.ShloMosaic
open scoped BigOperators

/-- The pattern of `8.0` denotes the real 8. -/
theorem ofBits_8 : Ideal.ofBits .f32 0x41000000#32 = ((8 : ℝ) : EReal) := by
  simp [Ideal.ofBits, Ideal.ieee, -EReal.coe_mul]; norm_num

/-- The pattern of `16.0` denotes the real 16. -/
theorem ofBits_16 : Ideal.ofBits .f32 0x41800000#32 = ((16 : ℝ) : EReal) := by
  simp [Ideal.ofBits, Ideal.ieee, -EReal.coe_mul]; norm_num

/-- The pattern of `32.0` denotes the real 32. -/
theorem ofBits_32 : Ideal.ofBits .f32 0x42000000#32 = ((32 : ℝ) : EReal) := by
  simp [Ideal.ofBits, Ideal.ieee, -EReal.coe_mul]; norm_num

/-- The kernel's named constant is minus the reciprocal of the natural logarithm of 2. -/
theorem neg_log2e :
    Named.named (F := Ideal) Cert.KernelIdeal.κ "neg_log2e" (φ := .f32) 0xBFB8AA3B#32
      = ((-(Real.log 2)⁻¹ : ℝ) : EReal) :=
  IdealRules.named_const.ideal_named_scalar _ _ _ _ rfl

/-- A sum of products of real numbers, taken in the extended reals, is the real sum. -/
theorem coe_dot {n : ℕ} (f g : Fin n → ℝ) : ∑ i, (f i : EReal) * (g i : EReal) = ((∑ i, f i * g i : ℝ) : EReal) := by
  simp only [← EReal.coe_mul]
  exact (map_sum (⟨⟨((↑) : ℝ → EReal), EReal.coe_zero⟩, EReal.coe_add⟩ : ℝ →+ EReal) _ _).symm

/-- The kernel's power of two is the exponential of the negated argument. -/
theorem exp2_neg (r : ℝ) : Ideal.exp2 ((r : EReal) * ((-(Real.log 2)⁻¹ : ℝ) : EReal)) = ((Real.exp (-r) : ℝ) : EReal) := by
  rw [← EReal.coe_mul, Ideal.exp2_coe]
  congr 1
  have h2 : Real.log 2 ≠ 0 := (Real.log_pos (by norm_num)).ne'
  change (2 : ℝ) ^ (r * -(Real.log 2)⁻¹) = _
  rw [Real.rpow_def_of_pos (by norm_num)]
  congr 1
  field_simp

/-- One plus an exponential is not zero. -/
theorem one_add_exp_ne (r : ℝ) : (1 : ℝ) + Real.exp r ≠ 0 := by positivity

/-- The reciprocal of one plus the exponential of the negated argument is the logistic function. -/
theorem div_sigmoid (r : ℝ) : Ideal.div 1 (1 + ((Real.exp (-r) : ℝ) : EReal)) = ((sigmoid r : ℝ) : EReal) := by
  rw [← EReal.coe_one, ← EReal.coe_add, Ideal.div_coe (one_add_exp_ne _), one_div, EReal.coe_one, one_mul]
  rfl

/-- The kernel's activation. -/
theorem kernel_silu (r : ℝ) :
    (r : EReal) * Ideal.div 1 (1 + FloatOps.exp2 (F := Ideal) (φ := .f32) ((r : EReal) * ((-(Real.log 2)⁻¹ : ℝ) : EReal))) = ((silu r : ℝ) : EReal) := by
  change (r : EReal) * Ideal.div 1 (1 + Ideal.exp2 _) = _
  rw [exp2_neg, div_sigmoid, ← EReal.coe_mul]; rfl

/-- The reference's activation. -/
theorem ref_silu (r : ℝ) : (r : EReal) * Ideal.div 1 (1 + Ideal.exp (-(r : EReal))) = ((silu r : ℝ) : EReal) := by
  rw [← EReal.coe_neg, Ideal.exp_coe, div_sigmoid, ← EReal.coe_mul]; rfl

/-- The reference's logistic function. -/
theorem ref_sigmoid (r : ℝ) : Ideal.div 1 (1 + Ideal.exp (-(r : EReal))) = ((sigmoid r : ℝ) : EReal) := by
  rw [← EReal.coe_neg, Ideal.exp_coe, div_sigmoid]

/-- The kernel's quotient of the stride by the exponential of the negated prediction. -/
theorem div_exp (s r : ℝ) : Ideal.div (s : EReal) ((Real.exp (-r) : ℝ) : EReal) = ((Real.exp r * s : ℝ) : EReal) := by
  rw [Ideal.div_coe (Real.exp_pos _).ne', ← EReal.coe_mul, one_div, Real.exp_neg, inv_inv, mul_comm]

/-- The first eight of the nine products of the 3 by 3 convolution, added in the extended reals. -/
def taps8 (H W : ℕ) (E : ℕ → ℕ → ℝ) (k : Fin 9 → ℝ) (h w : ℕ) : EReal :=
  (border H W E h w : EReal) * (k 0 : EReal) + (border H W E h (w + 1) : EReal) * (k 1 : EReal)
    + (border H W E h (w + 2) : EReal) * (k 2 : EReal)
    + (border H W E (h + 1) w : EReal) * (k 3 : EReal) + (border H W E (h + 1) (w + 1) : EReal) * (k 4 : EReal)
    + (border H W E (h + 1) (w + 2) : EReal) * (k 5 : EReal)
    + (border H W E (h + 2) w : EReal) * (k 6 : EReal) + (border H W E (h + 2) (w + 1) : EReal) * (k 7 : EReal)

/-- Nine products of real numbers added in the extended reals. -/
theorem taps8_add (H W : ℕ) (E : ℕ → ℕ → ℝ) (k : Fin 9 → ℝ) (h w : ℕ) :
    taps8 H W E k h w + (border H W E (h + 2) (w + 2) : EReal) * (k 8 : EReal) = ((taps H W E k h w : ℝ) : EReal) := by
  unfold taps8
  simp only [← EReal.coe_mul, ← EReal.coe_add]; rfl

/-! ## The depthwise stage's shifted copies of an image, as reads of the bordered image -/

section Shift

variable {H W h w : ℕ} (E : ℕ → ℕ → ℝ)

/-- One pixel to the left, zero in the first column. -/
theorem shift_left (hh : h < H) (hw : w < W) :
    (if w < 1 then (0 : EReal) else ((E h (w - 1) : ℝ) : EReal)) = ((border H W E (h + 1) w : ℝ) : EReal) := by
  unfold border
  split_ifs with h1 h2 h2 <;> first | rfl | omega

/-- The pixel itself. -/
theorem shift_none (hh : h < H) (hw : w < W) : ((E h w : ℝ) : EReal) = ((border H W E (h + 1) (w + 1) : ℝ) : EReal) := by
  unfold border
  split_ifs with h2 <;> first | rfl | omega

/-- One pixel to the right, zero in the last column. -/
theorem shift_right (hh : h < H) (hw : w < W) :
    (if w < W - 1 then ((E h (1 + w) : ℝ) : EReal) else 0) = ((border H W E (h + 1) (w + 2) : ℝ) : EReal) := by
  unfold border
  split_ifs with h1 h2 h2 <;> first | rfl | omega | (rw [Nat.add_comm 1 w]; rfl)

/-- One row up, zero in the first row. -/
theorem shift_up (hh : h < H) :
    (if h < 1 then (0 : EReal) else ((border H W E (h - 1 + 1) w : ℝ) : EReal)) = ((border H W E h w : ℝ) : EReal) := by
  rcases Nat.eq_zero_or_pos h with h0 | h0
  · subst h0; simp [border]
  · rw [if_neg (by omega), Nat.sub_add_cancel h0]

/-- One row down, zero in the last row. -/
theorem shift_down (hh : h < H) :
    (if h < H - 1 then ((border H W E (1 + h + 1) w : ℝ) : EReal) else 0) = ((border H W E (h + 2) w : ℝ) : EReal) := by
  by_cases h0 : h < H - 1
  · rw [if_pos h0, show 1 + h + 1 = h + 2 by omega]
  · rw [if_neg h0]; unfold border; rw [if_neg (by omega)]; rfl

end Shift

/-! ## The same in the third level, whose images of 20 by 20 pixels are kept as 400 rows -/

section Flat

variable (E : ℕ → ℕ → ℝ) {p : ℕ}

/-- A shift towards later rows by `d`, masked in the first column: the pixel above left (`d = 21`), left (`d = 1`). -/
theorem flat_left (a : ℕ) (ha : a ≤ 1) (hp : p < 400) :
    (if 1 ≤ p % 20 then (if p < 20 * (1 - a) + 1 then (0 : EReal)
        else ((E ((p - (20 * (1 - a) + 1)) / 20) ((p - (20 * (1 - a) + 1)) % 20) : ℝ) : EReal)) else 0)
      = ((border 20 20 E (p / 20 + a) (p % 20) : ℝ) : EReal) := by
  unfold border
  split_ifs with h1 h2 h3 h3 h3 <;> first | rfl | omega | skip
  have e1 : (p - (20 * (1 - a) + 1)) / 20 = p / 20 + a - 1 := by omega
  have e2 : (p - (20 * (1 - a) + 1)) % 20 = p % 20 - 1 := by omega
  rw [e1, e2]

/-- A shift towards later rows by 20: the pixel above. -/
theorem flat_up (hp : p < 400) :
    (if p < 20 then (0 : EReal) else ((E ((p - 20) / 20) ((p - 20) % 20) : ℝ) : EReal))
      = ((border 20 20 E (p / 20) (p % 20 + 1) : ℝ) : EReal) := by
  unfold border
  split_ifs with h1 h2 h2 <;> first | rfl | omega | skip
  have e1 : (p - 20) / 20 = p / 20 - 1 := by omega
  have e2 : (p - 20) % 20 = p % 20 + 1 - 1 := by omega
  rw [e1, e2]

/-- A shift towards later rows by 19, masked in the last column: the pixel above right. -/
theorem flat_up_right (hp : p < 400) :
    (if p % 20 ≤ 18 then (if p < 19 then (0 : EReal) else ((E ((p - 19) / 20) ((p - 19) % 20) : ℝ) : EReal)) else 0)
      = ((border 20 20 E (p / 20) (p % 20 + 2) : ℝ) : EReal) := by
  unfold border
  split_ifs with h1 h2 h3 h3 h3 <;> first | rfl | omega | skip
  have e1 : (p - 19) / 20 = p / 20 - 1 := by omega
  have e2 : (p - 19) % 20 = p % 20 + 2 - 1 := by omega
  rw [e1, e2]

/-- A shift towards earlier rows by `d`, masked in the last column: the pixel right (`d = 1`), below right (`d = 21`). -/
theorem flat_right (a : ℕ) (ha : a ≤ 1) (hp : p < 400) :
    (if p % 20 ≤ 18 then (if p < 400 - (20 * a + 1) then
        ((E ((20 * a + 1 + p) / 20) ((20 * a + 1 + p) % 20) : ℝ) : EReal) else (0 : EReal)) else 0)
      = ((border 20 20 E (p / 20 + 1 + a) (p % 20 + 2) : ℝ) : EReal) := by
  unfold border
  split_ifs with h1 h2 h3 h3 h3 <;> first | rfl | omega | skip
  have e1 : (20 * a + 1 + p) / 20 = p / 20 + 1 + a - 1 := by omega
  have e2 : (20 * a + 1 + p) % 20 = p % 20 + 2 - 1 := by omega
  rw [e1, e2]

/-- A shift towards earlier rows by 20: the pixel below. -/
theorem flat_down (hp : p < 400) :
    (if p < 380 then ((E ((20 + p) / 20) ((20 + p) % 20) : ℝ) : EReal) else (0 : EReal))
      = ((border 20 20 E (p / 20 + 2) (p % 20 + 1) : ℝ) : EReal) := by
  unfold border
  split_ifs with h1 h2 h2 <;> first | rfl | omega | skip
  have e1 : (20 + p) / 20 = p / 20 + 2 - 1 := by omega
  have e2 : (20 + p) % 20 = p % 20 + 1 - 1 := by omega
  rw [e1, e2]

/-- A shift towards earlier rows by 19, masked in the first column: the pixel below left. -/
theorem flat_down_left (hp : p < 400) :
    (if 1 ≤ p % 20 then (if p < 381 then ((E ((19 + p) / 20) ((19 + p) % 20) : ℝ) : EReal) else (0 : EReal)) else 0)
      = ((border 20 20 E (p / 20 + 2) (p % 20) : ℝ) : EReal) := by
  unfold border
  split_ifs with h1 h2 h3 h3 h3 <;> first | rfl | omega | skip
  have e1 : (19 + p) / 20 = p / 20 + 2 - 1 := by omega
  have e2 : (19 + p) % 20 = p % 20 - 1 := by omega
  rw [e1, e2]

end Flat

end Cert.Head

end
-- ==== Proof.Head.Host.lean ====
/- What the kernel's host part hands to the launch, level by level: the weights side by side, the projections folded into
   the predictions, and the inputs with their pixels in one line. -/
module

public import proofs.«01_k».proof.Proof.Head.Args
public import proofs.«01_k».proof.Proof.Head.Scalar
public import proofs.«01_k».proof.Proof.Gen.KernelIdeal.Frame
public import Idealize.ShloMosaic.Lib.StableHlo.ReadAt

@[expose] public section

set_option maxRecDepth 16384

noncomputable section

namespace Cert.Head.Host

open Idealize.ShloMosaic Cert.KernelIdeal Cert.KernelIdeal.Gen Idealize.ShloMosaic.TcCoe
open scoped BigOperators

/-! ## The folding, whatever the level -/

/-- The product of the two projections' matrix with the predictions' matrix, as the host part computes it. -/
def foldArr (w2 : FVec Ideal S384x192 .f32) (wh : FVec Ideal S192x85 .f32) : Vec Ideal S384x85 .bf16 :=
  truncf .bf16 (Host.dotGeneral dot_S384x192_S192x85_S384x85_1_0_0_1_n_n none w2 wh : FVec Ideal S384x85 .f32) bitsLt_bf16_f32

/-- The upper half of the predictions' matrix plus the lower half. -/
def addArr (wh : FVec Ideal S192x85 .f32) : Vec Ideal S96x85 .bf16 :=
  truncf .bf16 (addf (F := Ideal) (φ := .f32) (extractStridedSlice S96x85 ![0, 0] wh slices_S192x85_S96x85_0_0)
    (extractStridedSlice S96x85 ![96, 0] wh slices_S192x85_S96x85_96_0)) bitsLt_bf16_f32

/-- The projections' biases sent through the predictions, plus the predictions' biases. -/
def biasArr (b2 : FVec Ideal S1x192 .f32) (wh : FVec Ideal S192x85 .f32) (bh : FVec Ideal S1x85 .f32) : Vec Ideal S1x85 .f32 :=
  addf (F := Ideal) (φ := .f32) (Host.dotGeneral dot_S1x192_S192x85_S1x85_1_0_0_1_n_n none b2 wh : FVec Ideal S1x85 .f32) bh

section Fold

variable {K : ℕ} {L : Level K} {w2 : Vec Ideal S384x192 .f32} {wh : Vec Ideal S192x85 .f32} {b2 : Vec Ideal S1x192 .f32}
  {bh : Vec Ideal S1x85 .f32}

/-- The folded weights of the depthwise channels. -/
theorem foldArr_apply (h2 : ∀ o q, w2 (ix2 o q) = ((blockDiag L o q : ℝ) : EReal))
    (hh : ∀ q l, wh (ix2 q l) = ((headMat L q l : ℝ) : EReal)) (o : Fin 384) (l : Fin 85) :
    foldArr w2 wh (ix2 o l) = ((foldD L o l : ℝ) : EReal) := by
  pointwise [foldArr, dot_S384x192_S192x85_S384x85_1_0_0_1_n_n]
  simp only [h2, hh, coe_dot]
  rfl

/-- The folded weights of the stem's channels. -/
theorem addArr_apply (hh : ∀ q l, wh (ix2 q l) = ((headMat L q l : ℝ) : EReal)) (j : Fin 96) (l : Fin 85) :
    addArr wh (ix2 j l) = ((foldA L j l : ℝ) : EReal) := by
  pointwise [addArr]
  simp only [hh]
  rfl

/-- The folded bias. -/
theorem biasArr_apply (h2 : ∀ q, b2 (ix2 0 q) = ((sideBias L q : ℝ) : EReal))
    (hh : ∀ q l, wh (ix2 q l) = ((headMat L q l : ℝ) : EReal)) (hb : ∀ l, bh (ix2 0 l) = ((L.hb l : ℝ) : EReal))
    (l : Fin 85) : biasArr b2 wh bh (ix2 0 l) = ((foldB L l : ℝ) : EReal) := by
  pointwise [biasArr, dot_S1x192_S192x85_S1x85_1_0_0_1_n_n]
  simp only [h2, hh, hb, coe_dot]
  rfl

end Fold

/-! ## The entries of the arrays put side by side -/

section Side

variable {K : ℕ} {sw : Fin 96 → Fin K → ℝ} {C R : Branches} {P : Heads}
  {c1 r1 : Vec Ideal S3x192x96x1x1 .f32} {cd rd : Vec Ideal S3x192x1x3x3 .f32} {c2 r2 : Vec Ideal S3x96x192x1x1 .f32}
  {cb rb : Vec Ideal S3x96 .f32} {pcw : Vec Ideal S3x80x96x1x1 .f32} {pcb : Vec Ideal S3x80 .f32}
  {prw : Vec Ideal S3x4x96x1x1 .f32} {prb : Vec Ideal S3x4 .f32} {pow : Vec Ideal S3x1x96x1x1 .f32} {pob : Vec Ideal S3x1 .f32}

/-- The expansion's weights side by side. -/
theorem side_w1 (hC : HoldsBranch C c1 cd c2 cb) (hR : HoldsBranch R r1 rd r2 rb) (k : Fin 3) (j : Fin 96) (o : Fin 384) :
    (if h : o.val < 192 then c1 (ix5 k ⟨o.val, h⟩ j 0 0) else r1 (ix5 k ⟨o.val - 192, by omega⟩ j 0 0))
      = ((side (levelAt sw C R P k).cls.w1 (levelAt sw C R P k).reg.w1 o j : ℝ) : EReal) := by
  unfold side
  split_ifs
  · exact hC.w1 ..
  · exact hR.w1 ..

/-- The taps side by side. -/
theorem side_wd (hC : HoldsBranch C c1 cd c2 cb) (hR : HoldsBranch R r1 rd r2 rb) (k : Fin 3) (t : Fin 9) (o : Fin 384) :
    (if h : o.val < 192 then cd (ix5 k ⟨o.val, h⟩ 0 ⟨t.val / 3, by omega⟩ ⟨t.val % 3, by omega⟩)
        else rd (ix5 k ⟨o.val - 192, by omega⟩ 0 ⟨t.val / 3, by omega⟩ ⟨t.val % 3, by omega⟩))
      = ((side (levelAt sw C R P k).cls.wd (levelAt sw C R P k).reg.wd o t : ℝ) : EReal) := by
  unfold side
  split_ifs
  · exact hC.wd ..
  · exact hR.wd ..

/-- The two projections as a block-diagonal matrix. -/
theorem block_w2 (hC : HoldsBranch C c1 cd c2 cb) (hR : HoldsBranch R r1 rd r2 rb) (k : Fin 3) (o : Fin 384) (q : Fin 192) :
    (if h : o.val < 192 then (if h' : q.val < 96 then c2 (ix5 k ⟨q.val, h'⟩ ⟨o.val, h⟩ 0 0) else (0 : EReal))
        else (if h' : q.val < 96 then (0 : EReal) else r2 (ix5 k ⟨q.val - 96, by omega⟩ ⟨o.val - 192, by omega⟩ 0 0)))
      = ((blockDiag (levelAt sw C R P k) o q : ℝ) : EReal) := by
  unfold blockDiag
  split_ifs
  · exact hC.w2 ..
  · rfl
  · rfl
  · exact hR.w2 ..

/-- The projections' biases side by side. -/
theorem side_b2 (hC : HoldsBranch C c1 cd c2 cb) (hR : HoldsBranch R r1 rd r2 rb) (k : Fin 3) (q : Fin 192) :
    (if h : q.val < 96 then cb (ix2 k ⟨q.val, h⟩) else rb (ix2 k ⟨q.val - 96, by omega⟩))
      = ((sideBias (levelAt sw C R P k) q : ℝ) : EReal) := by
  unfold sideBias
  split_ifs
  · exact hC.b2 ..
  · exact hR.b2 ..

/-- The predictions' matrix. -/
theorem head_w (hP : HoldsHeads P pcw pcb prw prb pow pob) (k : Fin 3) (q : Fin 192) (l : Fin 85) :
    (if h : q.val < 96 then (if h' : l.val < 5 then (0 : EReal) else pcw (ix5 k ⟨l.val - 5, by omega⟩ ⟨q.val, h⟩ 0 0))
      else if h' : l.val < 5 then (if h4 : l.val < 4 then prw (ix5 k ⟨l.val, h4⟩ ⟨q.val - 96, by omega⟩ 0 0)
          else pow (ix5 k 0 ⟨q.val - 96, by omega⟩ 0 0))
        else (0 : EReal))
      = ((headMat (levelAt sw C R P k) q l : ℝ) : EReal) := by
  unfold headMat levelAt
  dsimp only
  split_ifs with h1 h2 h3 h4
  · rfl
  · omega
  · exact hP.cw ..
  · exact hP.rw ..
  · exact hP.ow ..
  · rfl

/-- The predictions' biases. -/
theorem head_b (hP : HoldsHeads P pcw pcb prw prb pow pob) (k : Fin 3) (l : Fin 85) :
    (if h : l.val < 4 then prb (ix2 k ⟨l.val, h⟩)
      else if h' : l.val - 4 < 1 then pob (ix2 k 0) else pcb (ix2 k ⟨l.val - 4 - 1, by omega⟩))
      = (((levelAt sw C R P k).hb l : ℝ) : EReal) := by
  unfold levelAt
  dsimp only
  split_ifs with h1 h2 h3 h4
  · exact hP.rb ..
  · exact hP.ob ..
  · omega
  · omega
  · exact hP.cb ..

end Side

/-! ## The arrays the launch is given -/

variable (m : (ℓ : Loc nD τ sig) → Buf (Elt Ideal) ℓ) (c : Dev nD)

/-- The program's memory on core `c` holds the weights of the branches and of the predictions. -/
structure HoldsW (C R : Branches) (P : Heads) : Prop where
  cls : HoldsBranch C (m ((c : Thread nD τ).loc main_arg9)) (m ((c : Thread nD τ).loc main_arg11))
    (m ((c : Thread nD τ).loc main_arg13)) (m ((c : Thread nD τ).loc main_arg14))
  reg : HoldsBranch R (m ((c : Thread nD τ).loc main_arg15)) (m ((c : Thread nD τ).loc main_arg17))
    (m ((c : Thread nD τ).loc main_arg19)) (m ((c : Thread nD τ).loc main_arg20))
  heads : HoldsHeads P (m ((c : Thread nD τ).loc main_arg21)) (m ((c : Thread nD τ).loc main_arg22))
    (m ((c : Thread nD τ).loc main_arg23)) (m ((c : Thread nD τ).loc main_arg24))
    (m ((c : Thread nD τ).loc main_arg25)) (m ((c : Thread nD τ).loc main_arg26))

variable {m c} {C R : Branches} {P : Heads}

/-! ### Level 0 -/

section Level0

/-- The stem's weights, input channel first. -/
theorem sw0 (i : Fin 128) (j : Fin 96) : @Eq EReal ((V m c main_v81) (ix2 i j)) (m ((c : Thread nD τ).loc main_arg3) (ix4 j i 0 0)) := by
  repeat after_reads_at

/-- The input with its pixels in one line. -/
theorem x0 (b : Fin 16) (i : Fin 128) (p : Fin 6400) : @Eq EReal ((V m c main_v85) (ix3 b i p))
    (m ((c : Thread nD τ).loc main_arg0) (ix4 b i ⟨p.val / 80, by omega⟩ ⟨p.val % 80, by omega⟩)) := by
  repeat after_reads_at

variable {sw : Fin 96 → Fin 128 → ℝ}

/-- The expansion's weights. -/
theorem w10 (H : HoldsW m c C R P) (j : Fin 96) (o : Fin 384) : @Eq EReal ((V m c main_v82) (ix2 j o))
    ((side (levelAt sw C R P 0).cls.w1 (levelAt sw C R P 0).reg.w1 o j : ℝ) : EReal) := by
  repeat after_reads_at
  exact side_w1 H.cls H.reg 0 j o

/-- The taps. -/
theorem wd0 (H : HoldsW m c C R P) (t : Fin 9) (o : Fin 384) : @Eq EReal ((V m c main_v23) (ix2 t o))
    ((side (levelAt sw C R P 0).cls.wd (levelAt sw C R P 0).reg.wd o t : ℝ) : EReal) := by
  repeat after_reads_at
  exact side_wd H.cls H.reg 0 t o

/-- The predictions' matrix. -/
theorem wh0 (H : HoldsW m c C R P) (q : Fin 192) (l : Fin 85) : @Eq EReal ((V m c main_v64) (ix2 q l))
    ((headMat (levelAt sw C R P 0) q l : ℝ) : EReal) := by
  repeat after_reads_at
  exact head_w H.heads 0 q l

/-- The folded weights of the depthwise channels. -/
theorem fd0 (H : HoldsW m c C R P) (o : Fin 384) (l : Fin 85) : @Eq EReal ((V m c main_v83) (ix2 o l))
    ((foldD (levelAt sw C R P 0) o l : ℝ) : EReal) := by
  have e : @Eq (Vec Ideal S384x85 .bf16) (V m c main_v83) (foldArr (V m c main_v41) (V m c main_v64)) := by
    unfold foldArr
    after_reads_simp
  refine (congrFun e _).trans (foldArr_apply (fun o q => ?_) (wh0 H) o l)
  repeat after_reads_at
  exact block_w2 H.cls H.reg 0 o q

/-- The folded weights of the stem's channels. -/
theorem fa0 (H : HoldsW m c C R P) (j : Fin 96) (l : Fin 85) : @Eq EReal ((V m c main_v84) (ix2 j l))
    ((foldA (levelAt sw C R P 0) j l : ℝ) : EReal) := by
  have e : @Eq (Vec Ideal S96x85 .bf16) (V m c main_v84) (addArr (V m c main_v64)) := by
    unfold addArr
    after_reads_simp
  exact (congrFun e _).trans (addArr_apply (wh0 H) j l)

/-- The folded bias. -/
theorem fb0 (H : HoldsW m c C R P) (l : Fin 85) : @Eq EReal ((V m c main_v78) (ix2 0 l))
    ((foldB (levelAt sw C R P 0) l : ℝ) : EReal) := by
  have e : @Eq (Vec Ideal S1x85 .f32) (V m c main_v78) (biasArr (V m c main_v47) (V m c main_v64) (V m c main_v72)) := by
    unfold biasArr
    after_reads_simp
  refine (congrFun e _).trans (biasArr_apply (fun q => ?_) (wh0 H) (fun l => ?_) l)
  · repeat after_reads_at
    exact side_b2 H.cls H.reg 0 q
  · repeat after_reads_at
    exact head_b H.heads 0 l

end Level0

/-! ### Level 1 -/

section Level1

/-- The stem's weights, input channel first. -/
theorem sw1 (i : Fin 256) (j : Fin 96) : @Eq EReal ((V m c main_v167) (ix2 i j)) (m ((c : Thread nD τ).loc main_arg5) (ix4 j i 0 0)) := by
  repeat after_reads_at

/-- The input with its pixels in one line. -/
theorem x1 (b : Fin 16) (i : Fin 256) (p : Fin 1600) : @Eq EReal ((V m c main_v171) (ix3 b i p))
    (m ((c : Thread nD τ).loc main_arg1) (ix4 b i ⟨p.val / 40, by omega⟩ ⟨p.val % 40, by omega⟩)) := by
  repeat after_reads_at

variable {sw : Fin 96 → Fin 256 → ℝ}

/-- The expansion's weights. -/
theorem w11 (H : HoldsW m c C R P) (j : Fin 96) (o : Fin 384) : @Eq EReal ((V m c main_v168) (ix2 j o))
    ((side (levelAt sw C R P 1).cls.w1 (levelAt sw C R P 1).reg.w1 o j : ℝ) : EReal) := by
  repeat after_reads_at
  exact side_w1 H.cls H.reg 1 j o

/-- The taps. -/
theorem wd1 (H : HoldsW m c C R P) (t : Fin 9) (o : Fin 384) : @Eq EReal ((V m c main_v109) (ix2 t o))
    ((side (levelAt sw C R P 1).cls.wd (levelAt sw C R P 1).reg.wd o t : ℝ) : EReal) := by
  repeat after_reads_at
  exact side_wd H.cls H.reg 1 t o

/-- The predictions' matrix. -/
theorem wh1 (H : HoldsW m c C R P) (q : Fin 192) (l : Fin 85) : @Eq EReal ((V m c main_v150) (ix2 q l))
    ((headMat (levelAt sw C R P 1) q l : ℝ) : EReal) := by
  repeat after_reads_at
  exact head_w H.heads 1 q l

/-- The folded weights of the depthwise channels. -/
theorem fd1 (H : HoldsW m c C R P) (o : Fin 384) (l : Fin 85) : @Eq EReal ((V m c main_v169) (ix2 o l))
    ((foldD (levelAt sw C R P 1) o l : ℝ) : EReal) := by
  have e : @Eq (Vec Ideal S384x85 .bf16) (V m c main_v169) (foldArr (V m c main_v127) (V m c main_v150)) := by
    unfold foldArr
    after_reads_simp
  refine (congrFun e _).trans (foldArr_apply (fun o q => ?_) (wh1 H) o l)
  repeat after_reads_at
  exact block_w2 H.cls H.reg 1 o q

/-- The folded weights of the stem's channels. -/
theorem fa1 (H : HoldsW m c C R P) (j : Fin 96) (l : Fin 85) : @Eq EReal ((V m c main_v170) (ix2 j l))
    ((foldA (levelAt sw C R P 1) j l : ℝ) : EReal) := by
  have e : @Eq (Vec Ideal S96x85 .bf16) (V m c main_v170) (addArr (V m c main_v150)) := by
    unfold addArr
    after_reads_simp
  exact (congrFun e _).trans (addArr_apply (wh1 H) j l)

/-- The folded bias. -/
theorem fb1 (H : HoldsW m c C R P) (l : Fin 85) : @Eq EReal ((V m c main_v164) (ix2 0 l))
    ((foldB (levelAt sw C R P 1) l : ℝ) : EReal) := by
  have e : @Eq (Vec Ideal S1x85 .f32) (V m c main_v164) (biasArr (V m c main_v133) (V m c main_v150) (V m c main_v158)) := by
    unfold biasArr
    after_reads_simp
  refine (congrFun e _).trans (biasArr_apply (fun q => ?_) (wh1 H) (fun l => ?_) l)
  · repeat after_reads_at
    exact side_b2 H.cls H.reg 1 q
  · repeat after_reads_at
    exact head_b H.heads 1 l

end Level1

/-! ### Level 2 -/

section Level2

/-- The stem's weights, input channel first. -/
theorem sw2 (i : Fin 512) (j : Fin 96) : @Eq EReal ((V m c main_v253) (ix2 i j)) (m ((c : Thread nD τ).loc main_arg7) (ix4 j i 0 0)) := by
  repeat after_reads_at

/-- The input with its pixels in one line. -/
theorem x2 (b : Fin 16) (i : Fin 512) (p : Fin 400) : @Eq EReal ((V m c main_v257) (ix3 b i p))
    (m ((c : Thread nD τ).loc main_arg2) (ix4 b i ⟨p.val / 20, by omega⟩ ⟨p.val % 20, by omega⟩)) := by
  repeat after_reads_at

variable {sw : Fin 96 → Fin 512 → ℝ}

/-- The expansion's weights. -/
theorem w12 (H : HoldsW m c C R P) (j : Fin 96) (o : Fin 384) : @Eq EReal ((V m c main_v254) (ix2 j o))
    ((side (levelAt sw C R P 2).cls.w1 (levelAt sw C R P 2).reg.w1 o j : ℝ) : EReal) := by
  repeat after_reads_at
  exact side_w1 H.cls H.reg 2 j o

/-- The taps. -/
theorem wd2 (H : HoldsW m c C R P) (t : Fin 9) (o : Fin 384) : @Eq EReal ((V m c main_v195) (ix2 t o))
    ((side (levelAt sw C R P 2).cls.wd (levelAt sw C R P 2).reg.wd o t : ℝ) : EReal) := by
  repeat after_reads_at
  exact side_wd H.cls H.reg 2 t o

/-- The predictions' matrix. -/
theorem wh2 (H : HoldsW m c C R P) (q : Fin 192) (l : Fin 85) : @Eq EReal ((V m c main_v236) (ix2 q l))
    ((headMat (levelAt sw C R P 2) q l : ℝ) : EReal) := by
  repeat after_reads_at
  exact head_w H.heads 2 q l

/-- The folded weights of the depthwise channels. -/
theorem fd2 (H : HoldsW m c C R P) (o : Fin 384) (l : Fin 85) : @Eq EReal ((V m c main_v255) (ix2 o l))
    ((foldD (levelAt sw C R P 2) o l : ℝ) : EReal) := by
  have e : @Eq (Vec Ideal S384x85 .bf16) (V m c main_v255) (foldArr (V m c main_v213) (V m c main_v236)) := by
    unfold foldArr
    after_reads_simp
  refine (congrFun e _).trans (foldArr_apply (fun o q => ?_) (wh2 H) o l)
  repeat after_reads_at
  exact block_w2 H.cls H.reg 2 o q

/-- The folded weights of the stem's channels. -/
theorem fa2 (H : HoldsW m c C R P) (j : Fin 96) (l : Fin 85) : @Eq EReal ((V m c main_v256) (ix2 j l))
    ((foldA (levelAt sw C R P 2) j l : ℝ) : EReal) := by
  have e : @Eq (Vec Ideal S96x85 .bf16) (V m c main_v256) (addArr (V m c main_v236)) := by
    unfold addArr
    after_reads_simp
  exact (congrFun e _).trans (addArr_apply (wh2 H) j l)

/-- The folded bias. -/
theorem fb2 (H : HoldsW m c C R P) (l : Fin 85) : @Eq EReal ((V m c main_v250) (ix2 0 l))
    ((foldB (levelAt sw C R P 2) l : ℝ) : EReal) := by
  have e : @Eq (Vec Ideal S1x85 .f32) (V m c main_v250) (biasArr (V m c main_v219) (V m c main_v236) (V m c main_v244)) := by
    unfold biasArr
    after_reads_simp
  refine (congrFun e _).trans (biasArr_apply (fun q => ?_) (wh2 H) (fun l => ?_) l)
  · repeat after_reads_at
    exact side_b2 H.cls H.reg 2 q
  · repeat after_reads_at
    exact head_b H.heads 2 l

end Level2

end Cert.Head.Host

end
-- ==== Proof.Head.Stores.lean ====
/- What a grid point leaves in the output's staging buffer: the three levels' rows, one below the other. -/
module

public import proofs.«01_k».proof.Proof.Gen.KernelIdeal.Value

@[expose] public section

set_option maxRecDepth 16384

noncomputable section

namespace Cert.Head.Stores

open Idealize.ShloMosaic Idealize.ShloMosaic.TcCoe Cert.KernelIdeal Cert.KernelIdeal.Gen

variable {F : FTy → Type} [FloatOps F] [Named F]

/-- What the first level stores, from its input block, its stem, expansion and tap weights and the folded weights. -/
def stored0 (v0 : Vec F S1x128x6400 .f32) (v3 : Vec F S128x96 .bf16) (v15 : Vec F S96x384 .bf16) (v26 : Vec F S9x384 .f32)
    (v112 : Vec F S384x85 .bf16) (v115 : Vec F S96x85 .bf16) (v119 : Vec F S1x85 .f32) : Vec F S1x6400x85 .f32 :=
  k0_pay14
    (k0_pay11 (k0_pay2 v0 v3) (k0_pay6 v0 v3 v15)
      (k0_pay9 (k0_pay4 v0 v3 v15) (k0_pay5 v0 v3 v15) (k0_pay6 v0 v3 v15) (k0_pay7 v26) (k0_pay8 v26))
      (k0_pay10 (k0_pay7 v26)) v112 v115 v119)
    (iota .tc S6400x85 32 [1] iota_S6400x85_d1_w32) (iota .tc S6400x85 32 [0] iota_S6400x85_d0_w32) 80#32
    k0_pay12 k0_pay13 1#32 0#32

/-- What the second level stores. -/
def stored1 (v0 : Vec F S1x256x1600 .f32) (v3 : Vec F S256x96 .bf16) (v15 : Vec F S96x384 .bf16) (v26 : Vec F S9x384 .f32)
    (v112 : Vec F S384x85 .bf16) (v115 : Vec F S96x85 .bf16) (v119 : Vec F S1x85 .f32) : Vec F S1x1600x85 .f32 :=
  k0_pay27
    (k0_pay24 (k0_pay15 v0 v3) (k0_pay19 v0 v3 v15)
      (k0_pay22 (k0_pay17 v0 v3 v15) (k0_pay18 v0 v3 v15) (k0_pay19 v0 v3 v15) (k0_pay20 v26) (k0_pay21 v26))
      (k0_pay23 (k0_pay20 v26)) (Scalar.ofBits .bf16 0x0000#16) v112 v115 v119)
    (iota .tc S1600x85 32 [1] iota_S1600x85_d1_w32) (iota .tc S1600x85 32 [0] iota_S1600x85_d0_w32) 40#32
    k0_pay25 k0_pay26 1#32

/-- The row numbers of the third level's pixels. -/
def rows2 : IVec S400x384 32 := iota .tc S400x384 32 [0] iota_S400x384_d0_w32

/-- What the third level stores. -/
def stored2 (v0 : Vec F S1x512x400 .f32) (v3 : Vec F S512x96 .bf16) (v15 : Vec F S96x384 .bf16) (v26 : Vec F S9x384 .f32)
    (v112 : Vec F S384x85 .bf16) (v115 : Vec F S96x85 .bf16) (v119 : Vec F S1x85 .f32) : Vec F S1x400x85 .f32 :=
  k0_pay1
    (k0_pay42 (k0_pay28 v0 v3)
      (k0_pay39 (k0_pay29 v0 v3 v15) (k0_pay30 v26) (k0_pay34 rows2 20#32 k0_pay31 k0_pay32 1#32)
        (k0_pay35 rows2 20#32 k0_pay31 k0_pay32 1#32) (k0_pay36 (k0_pay29 v0 v3 v15) (k0_pay30 v26) rows2 20#32 k0_pay31 k0_pay32 1#32)
        (k0_pay37 (k0_pay30 v26)) (k0_pay38 (k0_pay29 v0 v3 v15)))
      (k0_pay40 (k0_pay29 v0 v3 v15) (k0_pay30 v26) (k0_pay34 rows2 20#32 k0_pay31 k0_pay32 1#32)
        (k0_pay35 rows2 20#32 k0_pay31 k0_pay32 1#32) (k0_pay36 (k0_pay29 v0 v3 v15) (k0_pay30 v26) rows2 20#32 k0_pay31 k0_pay32 1#32)
        (k0_pay37 (k0_pay30 v26)) (k0_pay38 (k0_pay29 v0 v3 v15)))
      k0_pay41 v112 v115 v119)
    (iota .tc S400x85 32 [1] iota_S400x85_d1_w32) k0_pay43 k0_pay44 0#32

/-- Three zero offsets. -/
theorem off3 : (![0, 0, 0] : Fin 3 → Nat) = fun _ => 0 := funext fun a => by fin_cases a <;> rfl
/-- Two zero offsets. -/
theorem off2 : (![0, 0] : Fin 2 → Nat) = fun _ => 0 := funext fun a => by fin_cases a <;> rfl

/-- A load of the whole of a rank-3 memref reads its contents. -/
theorem load3 {s0 s1 s2 : ℕ} {e : EltTy} {a : Memref sig .tc .vmem ⟨3, ![s0, s1, s2]⟩ e} (h : a.IsWhole)
    (x : Vec F ⟨3, ![s0, s1, s2]⟩ e) (inb) :
    View.readAt (Elt F) a.view (Rect.unit (s := ⟨3, ![s0, s1, s2]⟩) ![0, 0, 0] (Shape.size ⟨3, ![s0, s1, s2]⟩) inb).toLoadRect (h.unread x) = x := by
  rw [View.readAt_eq_ld, h.read_unread, View.ld_unit_zero off3]

/-- A load of the whole of a rank-2 memref reads its contents. -/
theorem load2 {s0 s1 : ℕ} {e : EltTy} {a : Memref sig .tc .vmem ⟨2, ![s0, s1]⟩ e} (h : a.IsWhole)
    (x : Vec F ⟨2, ![s0, s1]⟩ e) (inb) :
    View.readAt (Elt F) a.view (Rect.unit (s := ⟨2, ![s0, s1]⟩) ![0, 0] (Shape.size ⟨2, ![s0, s1]⟩) inb).toLoadRect (h.unread x) = x := by
  rw [View.readAt_eq_ld, h.read_unread, View.ld_unit_zero off2]

/-- The staging buffer after the body, when each level's rows agree with `G`. -/
theorem out_eq (c : Dev nD) (i : grid0.Coords)
    (a1 : Memref sig .tc .vmem S1x128x6400 .f32) (h1 : a1.IsWhole)
    (a2 : Memref sig .tc .vmem S1x256x1600 .f32) (h2 : a2.IsWhole)
    (a3 : Memref sig .tc .vmem S1x512x400 .f32) (h3 : a3.IsWhole)
    (a4 : Memref sig .tc .vmem S128x96 .bf16) (h4 : a4.IsWhole)
    (a5 : Memref sig .tc .vmem S96x384 .bf16) (h5 : a5.IsWhole)
    (a6 : Memref sig .tc .vmem S9x384 .f32) (h6 : a6.IsWhole)
    (a7 : Memref sig .tc .vmem S384x85 .bf16) (h7 : a7.IsWhole)
    (a8 : Memref sig .tc .vmem S96x85 .bf16) (h8 : a8.IsWhole)
    (a9 : Memref sig .tc .vmem S1x85 .f32) (h9 : a9.IsWhole)
    (a10 : Memref sig .tc .vmem S256x96 .bf16) (h10 : a10.IsWhole)
    (a11 : Memref sig .tc .vmem S96x384 .bf16) (h11 : a11.IsWhole)
    (a12 : Memref sig .tc .vmem S9x384 .f32) (h12 : a12.IsWhole)
    (a13 : Memref sig .tc .vmem S384x85 .bf16) (h13 : a13.IsWhole)
    (a14 : Memref sig .tc .vmem S96x85 .bf16) (h14 : a14.IsWhole)
    (a15 : Memref sig .tc .vmem S1x85 .f32) (h15 : a15.IsWhole)
    (a16 : Memref sig .tc .vmem S512x96 .bf16) (h16 : a16.IsWhole)
    (a17 : Memref sig .tc .vmem S96x384 .bf16) (h17 : a17.IsWhole)
    (a18 : Memref sig .tc .vmem S9x384 .f32) (h18 : a18.IsWhole)
    (a19 : Memref sig .tc .vmem S384x85 .bf16) (h19 : a19.IsWhole)
    (a20 : Memref sig .tc .vmem S96x85 .bf16) (h20 : a20.IsWhole)
    (a21 : Memref sig .tc .vmem S1x85 .f32) (h21 : a21.IsWhole)
    (a22 : Memref sig .tc .vmem S1x8400x85 .f32) (h22 : a22.IsWhole)
    (x0 : Vec F S1x128x6400 .f32) (x1 : Vec F S1x256x1600 .f32) (x2 : Vec F S1x512x400 .f32) (x3 : Vec F S128x96 .bf16) (x4 : Vec F S96x384 .bf16) (x5 : Vec F S9x384 .f32) (x6 : Vec F S384x85 .bf16) (x7 : Vec F S96x85 .bf16) (x8 : Vec F S1x85 .f32) (x9 : Vec F S256x96 .bf16) (x10 : Vec F S96x384 .bf16) (x11 : Vec F S9x384 .f32) (x12 : Vec F S384x85 .bf16) (x13 : Vec F S96x85 .bf16) (x14 : Vec F S1x85 .f32) (x15 : Vec F S512x96 .bf16) (x16 : Vec F S96x384 .bf16) (x17 : Vec F S9x384 .f32) (x18 : Vec F S384x85 .bf16) (x19 : Vec F S96x85 .bf16) (x20 : Vec F S1x85 .f32)
    (G : Vec F S1x8400x85 .f32)
    (g0 : ∀ x, stored0 x0 x3 x4 x5 x6 x7 x8 x = G ((Rect.unit (s := S1x8400x85) ![0, 0, 0] S1x6400x85.size inb_S1x8400x85_S1x6400x85_0_0_0).emb x))
    (g1 : ∀ x, stored1 x1 x9 x10 x11 x12 x13 x14 x = G ((Rect.unit (s := S1x8400x85) ![0, 6400, 0] S1x1600x85.size inb_S1x8400x85_S1x1600x85_0_6400_0).emb x))
    (g2 : ∀ x, stored2 x2 x15 x16 x17 x18 x19 x20 x = G ((Rect.unit (s := S1x8400x85) ![0, 8000, 0] S1x400x85.size inb_S1x8400x85_S1x400x85_0_8000_0).emb x)) :
    out0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 x20 = G := by
  funext y
  unfold out0_A_21
  rw [View.read_writes_junk_eq_canon]
  refine View.canon_apply_of_pieces G _ ?_ y (cover0_A_21 ..)
  unfold kernelRun0_A
  dsimp only
  sl_unfold_words
  show ∀ p ∈ ([⟨Rect.unit (s := S1x8400x85) ![0, 8000, 0] S1x400x85.size inb_S1x8400x85_S1x400x85_0_8000_0,
      stored2 (View.readAt (Elt F) a3.view (Rect.unit (s := S1x512x400) ![0, 0, 0] S1x512x400.size inb_S1x512x400_S1x512x400_0_0_0).toLoadRect (h3.unread x2))
        (View.readAt (Elt F) a16.view (Rect.unit (s := S512x96) ![0, 0] S512x96.size inb_S512x96_S512x96_0_0).toLoadRect (h16.unread x15))
        (View.readAt (Elt F) a17.view (Rect.unit (s := S96x384) ![0, 0] S96x384.size inb_S96x384_S96x384_0_0).toLoadRect (h17.unread x16))
        (View.readAt (Elt F) a18.view (Rect.unit (s := S9x384) ![0, 0] S9x384.size inb_S9x384_S9x384_0_0).toLoadRect (h18.unread x17))
        (View.readAt (Elt F) a19.view (Rect.unit (s := S384x85) ![0, 0] S384x85.size inb_S384x85_S384x85_0_0).toLoadRect (h19.unread x18))
        (View.readAt (Elt F) a20.view (Rect.unit (s := S96x85) ![0, 0] S96x85.size inb_S96x85_S96x85_0_0).toLoadRect (h20.unread x19))
        (View.readAt (Elt F) a21.view (Rect.unit (s := S1x85) ![0, 0] S1x85.size inb_S1x85_S1x85_0_0).toLoadRect (h21.unread x20))⟩,
    ⟨Rect.unit (s := S1x8400x85) ![0, 6400, 0] S1x1600x85.size inb_S1x8400x85_S1x1600x85_0_6400_0,
      stored1 (View.readAt (Elt F) a2.view (Rect.unit (s := S1x256x1600) ![0, 0, 0] S1x256x1600.size inb_S1x256x1600_S1x256x1600_0_0_0).toLoadRect (h2.unread x1))
        (View.readAt (Elt F) a10.view (Rect.unit (s := S256x96) ![0, 0] S256x96.size inb_S256x96_S256x96_0_0).toLoadRect (h10.unread x9))
        (View.readAt (Elt F) a11.view (Rect.unit (s := S96x384) ![0, 0] S96x384.size inb_S96x384_S96x384_0_0).toLoadRect (h11.unread x10))
        (View.readAt (Elt F) a12.view (Rect.unit (s := S9x384) ![0, 0] S9x384.size inb_S9x384_S9x384_0_0).toLoadRect (h12.unread x11))
        (View.readAt (Elt F) a13.view (Rect.unit (s := S384x85) ![0, 0] S384x85.size inb_S384x85_S384x85_0_0).toLoadRect (h13.unread x12))
        (View.readAt (Elt F) a14.view (Rect.unit (s := S96x85) ![0, 0] S96x85.size inb_S96x85_S96x85_0_0).toLoadRect (h14.unread x13))
        (View.readAt (Elt F) a15.view (Rect.unit (s := S1x85) ![0, 0] S1x85.size inb_S1x85_S1x85_0_0).toLoadRect (h15.unread x14))⟩,
    ⟨Rect.unit (s := S1x8400x85) ![0, 0, 0] S1x6400x85.size inb_S1x8400x85_S1x6400x85_0_0_0,
      stored0 (View.readAt (Elt F) a1.view (Rect.unit (s := S1x128x6400) ![0, 0, 0] S1x128x6400.size inb_S1x128x6400_S1x128x6400_0_0_0).toLoadRect (h1.unread x0))
        (View.readAt (Elt F) a4.view (Rect.unit (s := S128x96) ![0, 0] S128x96.size inb_S128x96_S128x96_0_0).toLoadRect (h4.unread x3))
        (View.readAt (Elt F) a5.view (Rect.unit (s := S96x384) ![0, 0] S96x384.size inb_S96x384_S96x384_0_0).toLoadRect (h5.unread x4))
        (View.readAt (Elt F) a6.view (Rect.unit (s := S9x384) ![0, 0] S9x384.size inb_S9x384_S9x384_0_0).toLoadRect (h6.unread x5))
        (View.readAt (Elt F) a7.view (Rect.unit (s := S384x85) ![0, 0] S384x85.size inb_S384x85_S384x85_0_0).toLoadRect (h7.unread x6))
        (View.readAt (Elt F) a8.view (Rect.unit (s := S96x85) ![0, 0] S96x85.size inb_S96x85_S96x85_0_0).toLoadRect (h8.unread x7))
        (View.readAt (Elt F) a9.view (Rect.unit (s := S1x85) ![0, 0] S1x85.size inb_S1x85_S1x85_0_0).toLoadRect (h9.unread x8))⟩] :
      List (View.Piece (Elt F) S1x8400x85 .f32)), _
  rw [show (View.readAt (Elt F) a1.view (Rect.unit (s := S1x128x6400) ![0, 0, 0] S1x128x6400.size inb_S1x128x6400_S1x128x6400_0_0_0).toLoadRect (h1.unread x0)) = x0 from load3 ..]
  rw [show (View.readAt (Elt F) a2.view (Rect.unit (s := S1x256x1600) ![0, 0, 0] S1x256x1600.size inb_S1x256x1600_S1x256x1600_0_0_0).toLoadRect (h2.unread x1)) = x1 from load3 ..]
  rw [show (View.readAt (Elt F) a3.view (Rect.unit (s := S1x512x400) ![0, 0, 0] S1x512x400.size inb_S1x512x400_S1x512x400_0_0_0).toLoadRect (h3.unread x2)) = x2 from load3 ..]
  rw [show (View.readAt (Elt F) a4.view (Rect.unit (s := S128x96) ![0, 0] S128x96.size inb_S128x96_S128x96_0_0).toLoadRect (h4.unread x3)) = x3 from load2 ..]
  rw [show (View.readAt (Elt F) a5.view (Rect.unit (s := S96x384) ![0, 0] S96x384.size inb_S96x384_S96x384_0_0).toLoadRect (h5.unread x4)) = x4 from load2 ..]
  rw [show (View.readAt (Elt F) a6.view (Rect.unit (s := S9x384) ![0, 0] S9x384.size inb_S9x384_S9x384_0_0).toLoadRect (h6.unread x5)) = x5 from load2 ..]
  rw [show (View.readAt (Elt F) a7.view (Rect.unit (s := S384x85) ![0, 0] S384x85.size inb_S384x85_S384x85_0_0).toLoadRect (h7.unread x6)) = x6 from load2 ..]
  rw [show (View.readAt (Elt F) a8.view (Rect.unit (s := S96x85) ![0, 0] S96x85.size inb_S96x85_S96x85_0_0).toLoadRect (h8.unread x7)) = x7 from load2 ..]
  rw [show (View.readAt (Elt F) a9.view (Rect.unit (s := S1x85) ![0, 0] S1x85.size inb_S1x85_S1x85_0_0).toLoadRect (h9.unread x8)) = x8 from load2 ..]
  rw [show (View.readAt (Elt F) a10.view (Rect.unit (s := S256x96) ![0, 0] S256x96.size inb_S256x96_S256x96_0_0).toLoadRect (h10.unread x9)) = x9 from load2 ..]
  rw [show (View.readAt (Elt F) a11.view (Rect.unit (s := S96x384) ![0, 0] S96x384.size inb_S96x384_S96x384_0_0).toLoadRect (h11.unread x10)) = x10 from load2 ..]
  rw [show (View.readAt (Elt F) a12.view (Rect.unit (s := S9x384) ![0, 0] S9x384.size inb_S9x384_S9x384_0_0).toLoadRect (h12.unread x11)) = x11 from load2 ..]
  rw [show (View.readAt (Elt F) a13.view (Rect.unit (s := S384x85) ![0, 0] S384x85.size inb_S384x85_S384x85_0_0).toLoadRect (h13.unread x12)) = x12 from load2 ..]
  rw [show (View.readAt (Elt F) a14.view (Rect.unit (s := S96x85) ![0, 0] S96x85.size inb_S96x85_S96x85_0_0).toLoadRect (h14.unread x13)) = x13 from load2 ..]
  rw [show (View.readAt (Elt F) a15.view (Rect.unit (s := S1x85) ![0, 0] S1x85.size inb_S1x85_S1x85_0_0).toLoadRect (h15.unread x14)) = x14 from load2 ..]
  rw [show (View.readAt (Elt F) a16.view (Rect.unit (s := S512x96) ![0, 0] S512x96.size inb_S512x96_S512x96_0_0).toLoadRect (h16.unread x15)) = x15 from load2 ..]
  rw [show (View.readAt (Elt F) a17.view (Rect.unit (s := S96x384) ![0, 0] S96x384.size inb_S96x384_S96x384_0_0).toLoadRect (h17.unread x16)) = x16 from load2 ..]
  rw [show (View.readAt (Elt F) a18.view (Rect.unit (s := S9x384) ![0, 0] S9x384.size inb_S9x384_S9x384_0_0).toLoadRect (h18.unread x17)) = x17 from load2 ..]
  rw [show (View.readAt (Elt F) a19.view (Rect.unit (s := S384x85) ![0, 0] S384x85.size inb_S384x85_S384x85_0_0).toLoadRect (h19.unread x18)) = x18 from load2 ..]
  rw [show (View.readAt (Elt F) a20.view (Rect.unit (s := S96x85) ![0, 0] S96x85.size inb_S96x85_S96x85_0_0).toLoadRect (h20.unread x19)) = x19 from load2 ..]
  rw [show (View.readAt (Elt F) a21.view (Rect.unit (s := S1x85) ![0, 0] S1x85.size inb_S1x85_S1x85_0_0).toLoadRect (h21.unread x20)) = x20 from load2 ..]
  intro p hp
  simp only [List.mem_cons, List.mem_nil_iff, or_false] at hp
  rcases hp with rfl | rfl | rfl
  · exact g2
  · exact g1
  · exact g0

end Cert.Head.Stores

end
-- ==== Proof.Head.Decode.lean ====
/- The decoding of a prediction: the kernel finds a pixel's row and column from its flat number by integer arithmetic on
   32-bit words, and picks the box, size or probability formula by the prediction's lane. -/
module

public import proofs.«01_k».proof.Proof.Head.Scalar
public import Idealize.ShloMosaic.Lib.WordCmp
public import Idealize.ShloMosaic.Lib.Affine

@[expose] public section

noncomputable section

namespace Cert.Head

open Idealize.ShloMosaic Idealize.ShloMosaic.WordCmp

/-- The quotient of two small numbers, as words. -/
theorem quot_word (W p : ℕ) (hW : 1 ≤ W) (hW' : W < 2 ^ 16) (hp : p < 2 ^ 16) :
    IntOp.divsi ArithUnit.vector (BitVec.ofNat 32 p) (BitVec.ofNat 32 W) = BitVec.ofNat 32 (p / W) := by
  have h := Affine.divsi (a := BitVec.ofNat 32 p) (b := BitVec.ofNat 32 W) (ea := p) (eb := W) (e := ((p / W : ℕ) : ℤ))
    (Affine.ofNat _ ⟨rfl, by omega⟩) (Affine.ofNat _ ⟨rfl, by omega⟩) ⟨by simp, by omega, by omega⟩
  have h2 := Affine.eq_of h (p / W) rfl
  rw [← h2]
  unfold Scalar.divsi IntOp.divsi
  rw [if_neg, if_neg]
  all_goals
    apply IntOp.not_corner_of_pos
    rw [BitVec.toInt_eq_toNat_of_lt] <;> simp only [BitVec.toNat_ofNat] <;> omega

/-- The kernel's floor division of a pixel's flat number by the width, as it spells it: the quotient toward zero, less
    one where the signs differ and there is a remainder, is the quotient. -/
theorem row_word (W p : ℕ) (hW : 1 ≤ W) (hW' : W < 2 ^ 16) (hp : p < 2 ^ 16) :
    Scalar.select
      (IntOp.andi
        (IntOp.cmpi .ne
          (IntOp.subi (BitVec.setWidth 32 (IntOp.cmpi .sgt (BitVec.ofNat 32 p) 0#32))
            (BitVec.setWidth 32 (IntOp.cmpi .slt (BitVec.ofNat 32 p) 0#32)))
          (Scalar.subi (Scalar.extui (Scalar.cmpi .sgt (BitVec.ofNat 32 W) 0#32))
            (Scalar.extui (Scalar.cmpi .slt (BitVec.ofNat 32 W) 0#32))))
        (IntOp.cmpi .ne (IntOp.remsi ArithUnit.vector (BitVec.ofNat 32 p) (BitVec.ofNat 32 W)) 0#32))
      (IntOp.subi (IntOp.divsi ArithUnit.vector (BitVec.ofNat 32 p) (BitVec.ofNat 32 W)) 1#32)
      (IntOp.divsi ArithUnit.vector (BitVec.ofNat 32 p) (BitVec.ofNat 32 W)) = BitVec.ofNat 32 (p / W) := by
  rw [quot_word W p hW hW' hp]
  have hn : ∀ n : ℕ, n < 2 ^ 16 → (BitVec.ofNat 32 n).toInt = (n : ℤ) := fun n hn => by
    rw [BitVec.toInt_eq_toNat_of_lt] <;> simp only [BitVec.toNat_ofNat] <;> omega
  have hgt : ∀ n : ℕ, 1 ≤ n → n < 2 ^ 16 → IntOp.cmpi .sgt (BitVec.ofNat 32 n) 0#32 = 1#1 := fun n h1 h2 =>
    IntOp.cmpi_sgt.2 (by rw [hn n h2]; simp; omega)
  have hlt : ∀ n : ℕ, n < 2 ^ 16 → IntOp.cmpi .slt (BitVec.ofNat 32 n) 0#32 = 0#1 := fun n h2 => by
    rw [cmpi_slt_eq, hn n h2, decide_eq_false (by simp)]; rfl
  rcases Nat.eq_zero_or_pos p with h0 | h0
  · subst h0
    have : IntOp.remsi ArithUnit.vector (BitVec.ofNat 32 0) (BitVec.ofNat 32 W) = 0#32 :=
      (IntOp.remsi_eq_zero_iff _ (by simp) W (by omega) (by omega)).2 (by simp)
    rw [this, show IntOp.cmpi .ne 0#32 0#32 = 0#1 from by decide]
    refine select_of_eq_zero ?_ _ _
    simp [IntOp.andi]
  · refine select_of_eq_zero ?_ _ _
    rw [hgt p h0 hp, hlt p hp]
    unfold Scalar.cmpi
    rw [hgt W hW hW', hlt W hW']
    have : IntOp.cmpi .ne (IntOp.subi (BitVec.setWidth 32 1#1) (BitVec.setWidth 32 0#1))
      (Scalar.subi (Scalar.extui 1#1) (Scalar.extui 0#1)) = 0#1 := by decide
    rw [this]
    simp [IntOp.andi]

/-- A small number as a word, made a real number. -/
theorem float_word (n : ℕ) (hn : n < 2 ^ 16) :
    FloatOps.sitofp (F := Ideal) .f32 (BitVec.ofNat 32 n) = ((n : ℝ) : EReal) := by
  change (((BitVec.ofNat 32 n).toInt : ℝ) : EReal) = _
  rw [BitVec.toInt_eq_toNat_of_lt] <;> simp only [BitVec.toNat_ofNat]
  · rw [Nat.mod_eq_of_lt (by omega)]; norm_cast
  · omega

/-- A pixel's column: its flat number less its row times the width. -/
theorem col_word (W p : ℕ) : IntOp.subi (BitVec.ofNat 32 p) (IntOp.muli (BitVec.ofNat 32 (p / W)) (BitVec.ofNat 32 W))
    = BitVec.ofNat 32 (p % W) := by
  rw [muli_ofNat]
  have h : p = p % W + p / W * W := by rw [Nat.mul_comm]; exact (Nat.mod_add_div p W).symm
  conv_lhs => rw [h]
  rw [← h]
  apply BitVec.eq_of_toNat_eq
  have h2 : p / W * W ≤ p := Nat.div_mul_le_self p W
  have h3 : p % W = p - p / W * W := by omega
  rw [h3]
  unfold IntOp.subi
  simp only [BitVec.toNat_sub, BitVec.toNat_ofNat]
  omega

/-- Whether a lane is a given one, as a word. -/
theorem lane_eq (l k : ℕ) (hl : l < 2 ^ 16) (hk : k < 2 ^ 16) {α : Type} (x y : α) :
    Scalar.select (IntOp.cmpi .eq (BitVec.ofNat 32 l) (BitVec.ofNat 32 k)) x y = if l = k then x else y := by
  unfold Scalar.select
  refine if_congr ?_ rfl rfl
  change _ = 1#1 ↔ _
  rw [cmpi_eq_ofNat_eq_one_iff (by omega) (by omega)]

/-- Whether a lane is below a given one, as a word. -/
theorem lane_lt (l k : ℕ) (hl : l < 2 ^ 16) (hk : k < 2 ^ 16) {α : Type} (x y : α) :
    Scalar.select (IntOp.cmpi .slt (BitVec.ofNat 32 l) (BitVec.ofNat 32 k)) x y = if l < k then x else y := by
  unfold Scalar.select
  refine if_congr ?_ rfl rfl
  change _ = 1#1 ↔ _
  rw [cmpi_slt_ofNat_eq_one_iff (by omega) (by omega)]

/-- Whether a column is at least a given one, as a word. -/
theorem lane_ge (l k : ℕ) (hl : l < 2 ^ 16) (hk : k < 2 ^ 16) {α : Type} (x y : α) :
    Scalar.select (IntOp.cmpi .sge (BitVec.ofNat 32 l) (BitVec.ofNat 32 k)) x y = if k ≤ l then x else y := by
  unfold Scalar.select
  refine if_congr ?_ rfl rfl
  change _ = 1#1 ↔ _
  rw [cmpi_sge_ofNat_eq_one_iff (by omega) (by omega)]

/-- Whether a column is at most a given one, as a word. -/
theorem lane_le (l k : ℕ) (hl : l < 2 ^ 16) (hk : k < 2 ^ 16) {α : Type} (x y : α) :
    Scalar.select (IntOp.cmpi .sle (BitVec.ofNat 32 l) (BitVec.ofNat 32 k)) x y = if l ≤ k then x else y := by
  unfold Scalar.select
  refine if_congr ?_ rfl rfl
  change _ = 1#1 ↔ _
  rw [cmpi_sle_ofNat_eq_one_iff (by omega) (by omega)]

/-- The kernel's decoding of a prediction. -/
theorem kernel_decode (s : ℝ) (W p : ℕ) (l : Fin 85) (hp : p < 2 ^ 16) (r : ℝ) :
    Scalar.select (IntOp.cmpi .slt (BitVec.ofNat 32 l) 2#32)
      (((r : EReal) + FloatOps.sitofp (F := Ideal) .f32
            (Scalar.select (IntOp.cmpi .eq (BitVec.ofNat 32 l) 0#32)
              (IntOp.subi (BitVec.ofNat 32 p) (IntOp.muli (BitVec.ofNat 32 (p / W)) (BitVec.ofNat 32 W)))
              (Scalar.select (IntOp.cmpi .eq (BitVec.ofNat 32 l) 1#32) (BitVec.ofNat 32 (p / W)) 0#32)))
        * (s : EReal))
      (Scalar.select (IntOp.cmpi .slt (BitVec.ofNat 32 l) 4#32)
        (Ideal.div (s : EReal) (FloatOps.exp2 (F := Ideal) (φ := .f32) ((r : EReal) * ((-(Real.log 2)⁻¹ : ℝ) : EReal))))
        (Ideal.div 1 (1 + FloatOps.exp2 (F := Ideal) (φ := .f32) ((r : EReal) * ((-(Real.log 2)⁻¹ : ℝ) : EReal)))))
      = ((decode s (p / W) (p % W) l r : ℝ) : EReal) := by
  have hl : l.val < 2 ^ 16 := by omega
  have he : FloatOps.exp2 (F := Ideal) (φ := .f32) ((r : EReal) * ((-(Real.log 2)⁻¹ : ℝ) : EReal)) = ((Real.exp (-r) : ℝ) : EReal) :=
    exp2_neg r
  have hc : p % W < 2 ^ 16 := lt_of_le_of_lt (Nat.mod_le p W) hp
  have hd : p / W < 2 ^ 16 := lt_of_le_of_lt (Nat.div_le_self p W) hp
  rw [he, div_exp, div_sigmoid, col_word, lane_lt l 2 hl (by norm_num), lane_lt l 4 hl (by norm_num),
    lane_eq l 0 hl (by norm_num), lane_eq l 1 hl (by norm_num)]
  unfold decode
  by_cases h0 : l.val = 0
  · rw [if_pos (by omega), if_pos h0, if_pos h0, float_word _ hc, ← EReal.coe_add, ← EReal.coe_mul]
  · by_cases h1 : l.val = 1
    · rw [if_pos (by omega), if_neg h0, if_pos h1, if_neg h0, if_pos h1, float_word _ hd, ← EReal.coe_add, ← EReal.coe_mul]
    · rw [if_neg (by omega), if_neg h0, if_neg h1]
      by_cases h4 : l.val < 4
      · rw [if_pos h4, if_pos h4]
      · rw [if_neg h4, if_neg h4]

end Cert.Head

end
-- ==== Proof.Head.K0.lean ====
/- The kernel's first level, 80 by 80 pixels: what each value it computes is over the real numbers. -/
module

public import proofs.«01_k».proof.Proof.Head.Decode
public import proofs.«01_k».proof.Proof.Gen.KernelIdeal.Skeleton
public import Idealize.ShloMosaic.Lib.Pointwise

@[expose] public section

set_option maxRecDepth 16384

noncomputable section

namespace Cert.Head.K0

open Idealize.ShloMosaic Cert.KernelIdeal Cert.KernelIdeal.Gen
open scoped BigOperators

section Stem

variable {X : ℕ → ℕ → Fin 128 → ℝ} {sw : Fin 96 → Fin 128 → ℝ} {w1 : Fin 384 → Fin 96 → ℝ}
  {v0 : Vec Ideal S1x128x6400 .f32} {v3 : Vec Ideal S128x96 .bf16} {v15 : Vec Ideal S96x384 .bf16}

/-- The stem at a pixel. -/
theorem stem_apply (h0 : ∀ i (p : Fin 6400), v0 (ix3 0 i p) = ((X (p.val / 80) (p.val % 80) i : ℝ) : EReal))
    (h3 : ∀ i c, v3 (ix2 i c) = ((sw c i : ℝ) : EReal)) (p : Fin 6400) (c : Fin 96) :
    k0_pay2 v0 v3 (ix2 p c) = ((stem sw (X (p.val / 80) (p.val % 80)) c : ℝ) : EReal) := by
  pointwise [k0_pay2, dot_S128x6400_S128x96_S6400x96_0_0_1_1_n_n]
  simp only [neg_log2e, h0, h3, coe_dot, kernel_silu]
  rfl

variable {A : ℕ → ℕ → Fin 96 → ℝ} {E : Fin 384 → ℕ → ℕ → ℝ}

/-- The expansion to both branches' channels. -/
theorem expand_apply
    (hA : ∀ (p : Fin 6400) c, k0_pay2 v0 v3 (ix2 p c) = ((A (p.val / 80) (p.val % 80) c : ℝ) : EReal))
    (h15 : ∀ j o, v15 (ix2 j o) = ((w1 o j : ℝ) : EReal)) (h w : Fin 80) (o : Fin 384) :
    k0_pay3 v0 v3 v15 (ix3 h w o) = ((expand2 w1 (A h w) o : ℝ) : EReal) := by
  pointwise [k0_pay3, dot_S6400x96_S96x384_S6400x384_1_0_0_1_n_n]
  have hq : (h.val * 80 + w.val) / 80 = h.val := by omega
  have hr : (h.val * 80 + w.val) % 80 = w.val := by omega
  simp only [neg_log2e, hA, h15, hq, hr, coe_dot, kernel_silu]
  rfl

/-- The expansion one pixel to the left. -/
theorem row_left
    (hE : ∀ (h w : Fin 80) o, k0_pay3 v0 v3 v15 (ix3 h w o) = ((E o h w : ℝ) : EReal)) (h w : Fin 80) (o : Fin 384) :
    k0_pay4 v0 v3 v15 (ix3 h w o) = ((border 80 80 (E o) (h + 1) w : ℝ) : EReal) := by
  pointwise [k0_pay4]
  simp only [hE]
  exact shift_left (E o) h.isLt w.isLt

/-- The expansion at the pixel itself. -/
theorem row_none
    (hE : ∀ (h w : Fin 80) o, k0_pay3 v0 v3 v15 (ix3 h w o) = ((E o h w : ℝ) : EReal)) (h w : Fin 80) (o : Fin 384) :
    k0_pay5 v0 v3 v15 (ix3 h w o) = ((border 80 80 (E o) (h + 1) (w + 1) : ℝ) : EReal) := by
  pointwise [k0_pay5]
  rw [hE]
  exact shift_none (E o) h.isLt w.isLt

/-- The expansion one pixel to the right. -/
theorem row_right
    (hE : ∀ (h w : Fin 80) o, k0_pay3 v0 v3 v15 (ix3 h w o) = ((E o h w : ℝ) : EReal)) (h w : Fin 80) (o : Fin 384) :
    k0_pay6 v0 v3 v15 (ix3 h w o) = ((border 80 80 (E o) (h + 1) (w + 2) : ℝ) : EReal) := by
  pointwise [k0_pay6]
  simp only [hE]
  exact shift_right (E o) h.isLt w.isLt

end Stem

section Depth

variable {E : Fin 384 → ℕ → ℕ → ℝ} {wd : Fin 384 → Fin 9 → ℝ}
  {v32 v33 v37 : FVec Ideal S80x80x384 .bf16} {v26 : Vec Ideal S9x384 .f32}

/-- The first eight products of the depthwise stage. -/
theorem taps_apply
    (hl : ∀ (h w : Fin 80) o, v32 (ix3 h w o) = ((border 80 80 (E o) (h + 1) w : ℝ) : EReal))
    (hn : ∀ (h w : Fin 80) o, v33 (ix3 h w o) = ((border 80 80 (E o) (h + 1) (w + 1) : ℝ) : EReal))
    (hr : ∀ (h w : Fin 80) o, v37 (ix3 h w o) = ((border 80 80 (E o) (h + 1) (w + 2) : ℝ) : EReal))
    (hd : ∀ t o, v26 (ix2 t o) = ((wd o t : ℝ) : EReal)) (h w : Fin 80) (o : Fin 384) :
    k0_pay9 v32 v33 v37 (k0_pay7 v26) (k0_pay8 v26) (ix3 h w o) = taps8 80 80 (E o) (wd o) h w := by
  pointwise [k0_pay9, k0_pay7, k0_pay8]
  simp only [hl, hn, hr, hd]
  unfold taps8
  rw [← shift_up (W := 80) (w := w) (E o) h.isLt, ← shift_up (W := 80) (w := w + 1) (E o) h.isLt,
    ← shift_up (W := 80) (w := w + 2) (E o) h.isLt, ← shift_down (W := 80) (w := w) (E o) h.isLt,
    ← shift_down (W := 80) (w := w + 1) (E o) h.isLt]
  rfl

variable {A : ℕ → ℕ → Fin 96 → ℝ} {fd : Fin 384 → Fin 85 → ℝ} {fa : Fin 96 → Fin 85 → ℝ} {fb : Fin 85 → ℝ}
  {v14 : FVec Ideal S6400x96 .bf16} {v92 : FVec Ideal S80x80x384 .bf16} {v112 : Vec Ideal S384x85 .bf16}
  {v115 : Vec Ideal S96x85 .bf16} {v119 : Vec Ideal S1x85 .f32}

/-- The prediction at a pixel. -/
theorem score_apply
    (hA : ∀ (p : Fin 6400) c, v14 (ix2 p c) = ((A (p.val / 80) (p.val % 80) c : ℝ) : EReal))
    (hr : ∀ (h w : Fin 80) o, v37 (ix3 h w o) = ((border 80 80 (E o) (h + 1) (w + 2) : ℝ) : EReal))
    (h92 : ∀ (h w : Fin 80) o, v92 (ix3 h w o) = taps8 80 80 (E o) (wd o) h w)
    (hd : ∀ t o, v26 (ix2 t o) = ((wd o t : ℝ) : EReal))
    (h112 : ∀ o l, v112 (ix2 o l) = ((fd o l : ℝ) : EReal))
    (h115 : ∀ j l, v115 (ix2 j l) = ((fa j l : ℝ) : EReal))
    (h119 : ∀ l, v119 (ix2 0 l) = ((fb l : ℝ) : EReal)) (p : Fin 6400) (l : Fin 85) :
    k0_pay11 v14 v37 v92 (k0_pay10 (k0_pay7 v26)) v112 v115 v119 (ix2 p l)
      = (((∑ o, silu (taps 80 80 (E o) (wd o) (p / 80) (p % 80)) * fd o l)
          + (∑ j, A (p / 80) (p % 80) j * fa j l) + fb l : ℝ) : EReal) := by
  have hd (h w o) : (v92 (ix3 h w o) + (if h' : h.val < 79 then v37 (ix3 ⟨1 + h, by omega⟩ w o) else 0) * v26 (ix2 8 o))
      = ((taps 80 80 (E o) (wd o) h w : ℝ) : EReal) := by
    rw [h92, hd, ← taps8_add, ← shift_down (E o) h.isLt]
    simp only [hr]
    rfl
  pointwise [k0_pay11, k0_pay10, k0_pay7, dot_S6400x384_S384x85_S6400x85_1_0_0_1_n_n, dot_S6400x96_S96x85_S6400x85_1_0_0_1_n_n]
  simp only [hd, neg_log2e, kernel_silu, h112, h115, h119, hA, coe_dot, ← EReal.coe_add]

/-- The decoded prediction at a pixel. -/
theorem decode_apply (v122 : FVec Ideal S6400x85 .f32) (p : Fin 6400) (l : Fin 85) (r : ℝ) (hr : v122 (ix2 p l) = (r : EReal)) :
    k0_pay14 v122 (iota .tc S6400x85 32 [1] iota_S6400x85_d1_w32) (iota .tc S6400x85 32 [0] iota_S6400x85_d0_w32) 80#32
      k0_pay12 k0_pay13 (Scalar.extui (Scalar.cmpi .sgt 80#32 0#32)) (Scalar.extui (Scalar.cmpi .slt 80#32 0#32)) (ix3 0 p l)
      = ((decode 8 (p / 80) (p % 80) l r : ℝ) : EReal) := by
  pointwise [k0_pay14, k0_pay12, k0_pay13]
  rw [row_word 80 p (by norm_num) (by norm_num) (by omega), hr, neg_log2e, ofBits_8]
  exact kernel_decode 8 80 p l (by omega) r

end Depth

/-- The value stored for the first level: the decoded prediction at each of its pixels. -/
theorem stored_apply {X : ℕ → ℕ → Fin 128 → ℝ} {sw : Fin 96 → Fin 128 → ℝ} {w1 : Fin 384 → Fin 96 → ℝ}
    {wd : Fin 384 → Fin 9 → ℝ} {fd : Fin 384 → Fin 85 → ℝ} {fa : Fin 96 → Fin 85 → ℝ} {fb : Fin 85 → ℝ}
    {v0 : Vec Ideal S1x128x6400 .f32} {v3 : Vec Ideal S128x96 .bf16} {v15 : Vec Ideal S96x384 .bf16}
    {v26 : Vec Ideal S9x384 .f32} {v112 : Vec Ideal S384x85 .bf16} {v115 : Vec Ideal S96x85 .bf16} {v119 : Vec Ideal S1x85 .f32}
    (h0 : ∀ i (p : Fin 6400), v0 (ix3 0 i p) = ((X (p.val / 80) (p.val % 80) i : ℝ) : EReal))
    (h3 : ∀ i c, v3 (ix2 i c) = ((sw c i : ℝ) : EReal)) (h15 : ∀ j o, v15 (ix2 j o) = ((w1 o j : ℝ) : EReal))
    (h26 : ∀ t o, v26 (ix2 t o) = ((wd o t : ℝ) : EReal)) (h112 : ∀ o l, v112 (ix2 o l) = ((fd o l : ℝ) : EReal))
    (h115 : ∀ j l, v115 (ix2 j l) = ((fa j l : ℝ) : EReal)) (h119 : ∀ l, v119 (ix2 0 l) = ((fb l : ℝ) : EReal))
    (p : Fin 6400) (l : Fin 85) :
    k0_pay14
      (k0_pay11 (k0_pay2 v0 v3) (k0_pay6 v0 v3 v15)
        (k0_pay9 (k0_pay4 v0 v3 v15) (k0_pay5 v0 v3 v15) (k0_pay6 v0 v3 v15) (k0_pay7 v26) (k0_pay8 v26))
        (k0_pay10 (k0_pay7 v26)) v112 v115 v119)
      (iota .tc S6400x85 32 [1] iota_S6400x85_d1_w32) (iota .tc S6400x85 32 [0] iota_S6400x85_d0_w32) 80#32
      k0_pay12 k0_pay13 (Scalar.extui (Scalar.cmpi .sgt 80#32 0#32)) (Scalar.extui (Scalar.cmpi .slt 80#32 0#32)) (ix3 0 p l)
      = ((decode 8 (p / 80) (p % 80) l
          (score2 80 80 w1 wd fd fa fb (fun h w => stem sw (X h w)) (p / 80) (p % 80) l) : ℝ) : EReal) := by
  have hA := stem_apply h0 h3
  have hE := expand_apply (A := fun h w => stem sw (X h w)) hA h15
  have hE' : ∀ (h w : Fin 80) o, k0_pay3 v0 v3 v15 (ix3 h w o)
      = (((fun o h w => expand2 w1 (stem sw (X h w)) o) o h w : ℝ) : EReal) := hE
  exact decode_apply _ p l _ (score_apply (A := fun h w => stem sw (X h w))
    (E := fun o h w => expand2 w1 (stem sw (X h w)) o) hA (row_right hE')
    (taps_apply (row_left hE') (row_none hE') (row_right hE') h26) h26 h112 h115 h119 p l)

end Cert.Head.K0

end
-- ==== Proof.Head.K1.lean ====
/- The kernel's second level, 40 by 40 pixels: what each value it computes is over the real numbers. -/
module

public import proofs.«01_k».proof.Proof.Head.Decode
public import proofs.«01_k».proof.Proof.Gen.KernelIdeal.Skeleton
public import Idealize.ShloMosaic.Lib.Pointwise

@[expose] public section

set_option maxRecDepth 16384

noncomputable section

namespace Cert.Head.K1

open Idealize.ShloMosaic Cert.KernelIdeal Cert.KernelIdeal.Gen
open scoped BigOperators

section Stem

variable {X : ℕ → ℕ → Fin 256 → ℝ} {sw : Fin 96 → Fin 256 → ℝ} {w1 : Fin 384 → Fin 96 → ℝ}
  {v0 : Vec Ideal S1x256x1600 .f32} {v3 : Vec Ideal S256x96 .bf16} {v15 : Vec Ideal S96x384 .bf16}

/-- The stem at a pixel. -/
theorem stem_apply (h0 : ∀ i (p : Fin 1600), v0 (ix3 0 i p) = ((X (p.val / 40) (p.val % 40) i : ℝ) : EReal))
    (h3 : ∀ i c, v3 (ix2 i c) = ((sw c i : ℝ) : EReal)) (p : Fin 1600) (c : Fin 96) :
    k0_pay15 v0 v3 (ix2 p c) = ((stem sw (X (p.val / 40) (p.val % 40)) c : ℝ) : EReal) := by
  pointwise [k0_pay15, dot_S256x1600_S256x96_S1600x96_0_0_1_1_n_n]
  simp only [neg_log2e, h0, h3, coe_dot, kernel_silu]
  rfl

variable {A : ℕ → ℕ → Fin 96 → ℝ} {E : Fin 384 → ℕ → ℕ → ℝ}

/-- The expansion to both branches' channels. -/
theorem expand_apply
    (hA : ∀ (p : Fin 1600) c, k0_pay15 v0 v3 (ix2 p c) = ((A (p.val / 40) (p.val % 40) c : ℝ) : EReal))
    (h15 : ∀ j o, v15 (ix2 j o) = ((w1 o j : ℝ) : EReal)) (h w : Fin 40) (o : Fin 384) :
    k0_pay16 v0 v3 v15 (ix3 h w o) = ((expand2 w1 (A h w) o : ℝ) : EReal) := by
  pointwise [k0_pay16, dot_S1600x96_S96x384_S1600x384_1_0_0_1_n_n]
  have hq : (h.val * 40 + w.val) / 40 = h.val := by omega
  have hr : (h.val * 40 + w.val) % 40 = w.val := by omega
  simp only [neg_log2e, hA, h15, hq, hr, coe_dot, kernel_silu]
  rfl

/-- The expansion one pixel to the left. -/
theorem row_left
    (hE : ∀ (h w : Fin 40) o, k0_pay16 v0 v3 v15 (ix3 h w o) = ((E o h w : ℝ) : EReal)) (h w : Fin 40) (o : Fin 384) :
    k0_pay17 v0 v3 v15 (ix3 h w o) = ((border 40 40 (E o) (h + 1) w : ℝ) : EReal) := by
  pointwise [k0_pay17]
  simp only [hE]
  exact shift_left (E o) h.isLt w.isLt

/-- The expansion at the pixel itself. -/
theorem row_none
    (hE : ∀ (h w : Fin 40) o, k0_pay16 v0 v3 v15 (ix3 h w o) = ((E o h w : ℝ) : EReal)) (h w : Fin 40) (o : Fin 384) :
    k0_pay18 v0 v3 v15 (ix3 h w o) = ((border 40 40 (E o) (h + 1) (w + 1) : ℝ) : EReal) := by
  pointwise [k0_pay18]
  rw [hE]
  exact shift_none (E o) h.isLt w.isLt

/-- The expansion one pixel to the right. -/
theorem row_right
    (hE : ∀ (h w : Fin 40) o, k0_pay16 v0 v3 v15 (ix3 h w o) = ((E o h w : ℝ) : EReal)) (h w : Fin 40) (o : Fin 384) :
    k0_pay19 v0 v3 v15 (ix3 h w o) = ((border 40 40 (E o) (h + 1) (w + 2) : ℝ) : EReal) := by
  pointwise [k0_pay19]
  simp only [hE]
  exact shift_right (E o) h.isLt w.isLt

end Stem

section Depth

variable {E : Fin 384 → ℕ → ℕ → ℝ} {wd : Fin 384 → Fin 9 → ℝ}
  {v32 v33 v37 : FVec Ideal S40x40x384 .bf16} {v26 : Vec Ideal S9x384 .f32}

/-- The first eight products of the depthwise stage. -/
theorem taps_apply
    (hl : ∀ (h w : Fin 40) o, v32 (ix3 h w o) = ((border 40 40 (E o) (h + 1) w : ℝ) : EReal))
    (hn : ∀ (h w : Fin 40) o, v33 (ix3 h w o) = ((border 40 40 (E o) (h + 1) (w + 1) : ℝ) : EReal))
    (hr : ∀ (h w : Fin 40) o, v37 (ix3 h w o) = ((border 40 40 (E o) (h + 1) (w + 2) : ℝ) : EReal))
    (hd : ∀ t o, v26 (ix2 t o) = ((wd o t : ℝ) : EReal)) (h w : Fin 40) (o : Fin 384) :
    k0_pay22 v32 v33 v37 (k0_pay20 v26) (k0_pay21 v26) (ix3 h w o) = taps8 40 40 (E o) (wd o) h w := by
  pointwise [k0_pay22, k0_pay20, k0_pay21]
  simp only [hl, hn, hr, hd]
  unfold taps8
  rw [← shift_up (W := 40) (w := w) (E o) h.isLt, ← shift_up (W := 40) (w := w + 1) (E o) h.isLt,
    ← shift_up (W := 40) (w := w + 2) (E o) h.isLt, ← shift_down (W := 40) (w := w) (E o) h.isLt,
    ← shift_down (W := 40) (w := w + 1) (E o) h.isLt]
  rfl

variable {A : ℕ → ℕ → Fin 96 → ℝ} {fd : Fin 384 → Fin 85 → ℝ} {fa : Fin 96 → Fin 85 → ℝ} {fb : Fin 85 → ℝ}
  {v14 : FVec Ideal S1600x96 .bf16} {v92 : FVec Ideal S40x40x384 .bf16} {v112 : Vec Ideal S384x85 .bf16}
  {v115 : Vec Ideal S96x85 .bf16} {v119 : Vec Ideal S1x85 .f32}

/-- The prediction at a pixel. -/
theorem score_apply
    (hA : ∀ (p : Fin 1600) c, v14 (ix2 p c) = ((A (p.val / 40) (p.val % 40) c : ℝ) : EReal))
    (hr : ∀ (h w : Fin 40) o, v37 (ix3 h w o) = ((border 40 40 (E o) (h + 1) (w + 2) : ℝ) : EReal))
    (h92 : ∀ (h w : Fin 40) o, v92 (ix3 h w o) = taps8 40 40 (E o) (wd o) h w)
    (hd : ∀ t o, v26 (ix2 t o) = ((wd o t : ℝ) : EReal))
    (h112 : ∀ o l, v112 (ix2 o l) = ((fd o l : ℝ) : EReal))
    (h115 : ∀ j l, v115 (ix2 j l) = ((fa j l : ℝ) : EReal))
    (h119 : ∀ l, v119 (ix2 0 l) = ((fb l : ℝ) : EReal)) (p : Fin 1600) (l : Fin 85) :
    k0_pay24 v14 v37 v92 (k0_pay23 (k0_pay20 v26)) (Scalar.ofBits .bf16 0x0000#16) v112 v115 v119 (ix2 p l)
      = (((∑ o, silu (taps 40 40 (E o) (wd o) (p / 40) (p % 40)) * fd o l)
          + (∑ j, A (p / 40) (p % 40) j * fa j l) + fb l : ℝ) : EReal) := by
  have hd (h w o) : (v92 (ix3 h w o) + (if h' : h.val < 39 then v37 (ix3 ⟨1 + h, by omega⟩ w o) else 0) * v26 (ix2 8 o))
      = ((taps 40 40 (E o) (wd o) h w : ℝ) : EReal) := by
    rw [h92, hd, ← taps8_add, ← shift_down (E o) h.isLt]
    simp only [hr]
    rfl
  pointwise [k0_pay24, k0_pay23, k0_pay20, dot_S1600x384_S384x85_S1600x85_1_0_0_1_n_n, dot_S1600x96_S96x85_S1600x85_1_0_0_1_n_n]
  simp only [hd, neg_log2e, kernel_silu, h112, h115, h119, hA, coe_dot, ← EReal.coe_add]

/-- The decoded prediction at a pixel. -/
theorem decode_apply (v122 : FVec Ideal S1600x85 .f32) (p : Fin 1600) (l : Fin 85) (r : ℝ) (hr : v122 (ix2 p l) = (r : EReal)) :
    k0_pay27 v122 (iota .tc S1600x85 32 [1] iota_S1600x85_d1_w32) (iota .tc S1600x85 32 [0] iota_S1600x85_d0_w32) 40#32
      k0_pay25 k0_pay26 (Scalar.subi (Scalar.extui (Scalar.cmpi .sgt 40#32 0#32)) (Scalar.extui (Scalar.cmpi .slt 40#32 0#32))) (ix3 0 p l)
      = ((decode 16 (p / 40) (p % 40) l r : ℝ) : EReal) := by
  pointwise [k0_pay27, k0_pay25, k0_pay26]
  rw [row_word 40 p (by norm_num) (by norm_num) (by omega), hr, neg_log2e, ofBits_16]
  exact kernel_decode 16 40 p l (by omega) r

end Depth

/-- The value stored for the second level: the decoded prediction at each of its pixels. -/
theorem stored_apply {X : ℕ → ℕ → Fin 256 → ℝ} {sw : Fin 96 → Fin 256 → ℝ} {w1 : Fin 384 → Fin 96 → ℝ}
    {wd : Fin 384 → Fin 9 → ℝ} {fd : Fin 384 → Fin 85 → ℝ} {fa : Fin 96 → Fin 85 → ℝ} {fb : Fin 85 → ℝ}
    {v0 : Vec Ideal S1x256x1600 .f32} {v3 : Vec Ideal S256x96 .bf16} {v15 : Vec Ideal S96x384 .bf16}
    {v26 : Vec Ideal S9x384 .f32} {v112 : Vec Ideal S384x85 .bf16} {v115 : Vec Ideal S96x85 .bf16} {v119 : Vec Ideal S1x85 .f32}
    (h0 : ∀ i (p : Fin 1600), v0 (ix3 0 i p) = ((X (p.val / 40) (p.val % 40) i : ℝ) : EReal))
    (h3 : ∀ i c, v3 (ix2 i c) = ((sw c i : ℝ) : EReal)) (h15 : ∀ j o, v15 (ix2 j o) = ((w1 o j : ℝ) : EReal))
    (h26 : ∀ t o, v26 (ix2 t o) = ((wd o t : ℝ) : EReal)) (h112 : ∀ o l, v112 (ix2 o l) = ((fd o l : ℝ) : EReal))
    (h115 : ∀ j l, v115 (ix2 j l) = ((fa j l : ℝ) : EReal)) (h119 : ∀ l, v119 (ix2 0 l) = ((fb l : ℝ) : EReal))
    (p : Fin 1600) (l : Fin 85) :
    k0_pay27
      (k0_pay24 (k0_pay15 v0 v3) (k0_pay19 v0 v3 v15)
        (k0_pay22 (k0_pay17 v0 v3 v15) (k0_pay18 v0 v3 v15) (k0_pay19 v0 v3 v15) (k0_pay20 v26) (k0_pay21 v26))
        (k0_pay23 (k0_pay20 v26)) (Scalar.ofBits .bf16 0x0000#16) v112 v115 v119)
      (iota .tc S1600x85 32 [1] iota_S1600x85_d1_w32) (iota .tc S1600x85 32 [0] iota_S1600x85_d0_w32) 40#32
      k0_pay25 k0_pay26 (Scalar.subi (Scalar.extui (Scalar.cmpi .sgt 40#32 0#32)) (Scalar.extui (Scalar.cmpi .slt 40#32 0#32))) (ix3 0 p l)
      = ((decode 16 (p / 40) (p % 40) l
          (score2 40 40 w1 wd fd fa fb (fun h w => stem sw (X h w)) (p / 40) (p % 40) l) : ℝ) : EReal) := by
  have hA := stem_apply h0 h3
  have hE := expand_apply (A := fun h w => stem sw (X h w)) hA h15
  have hE' : ∀ (h w : Fin 40) o, k0_pay16 v0 v3 v15 (ix3 h w o)
      = (((fun o h w => expand2 w1 (stem sw (X h w)) o) o h w : ℝ) : EReal) := hE
  exact decode_apply _ p l _ (score_apply (A := fun h w => stem sw (X h w))
    (E := fun o h w => expand2 w1 (stem sw (X h w)) o) hA (row_right hE')
    (taps_apply (row_left hE') (row_none hE') (row_right hE') h26) h26 h112 h115 h119 p l)

end Cert.Head.K1

end
-- ==== Proof.Head.K2.lean ====
/- The kernel's third level, 20 by 20 pixels kept as 400 rows: what each value it computes is over the real numbers. -/
module

public import proofs.«01_k».proof.Proof.Head.Decode
public import proofs.«01_k».proof.Proof.Gen.KernelIdeal.Skeleton
public import Idealize.ShloMosaic.Lib.Pointwise

@[expose] public section

set_option maxRecDepth 16384

noncomputable section

namespace Cert.Head.K2

open Idealize.ShloMosaic Cert.KernelIdeal Cert.KernelIdeal.Gen
open scoped BigOperators

section Stem

variable {X : ℕ → ℕ → Fin 512 → ℝ} {sw : Fin 96 → Fin 512 → ℝ} {w1 : Fin 384 → Fin 96 → ℝ}
  {v0 : Vec Ideal S1x512x400 .f32} {v3 : Vec Ideal S512x96 .bf16} {v15 : Vec Ideal S96x384 .bf16}

/-- The stem at a pixel. -/
theorem stem_apply (h0 : ∀ i (p : Fin 400), v0 (ix3 0 i p) = ((X (p.val / 20) (p.val % 20) i : ℝ) : EReal))
    (h3 : ∀ i c, v3 (ix2 i c) = ((sw c i : ℝ) : EReal)) (p : Fin 400) (c : Fin 96) :
    k0_pay28 v0 v3 (ix2 p c) = ((stem sw (X (p.val / 20) (p.val % 20)) c : ℝ) : EReal) := by
  pointwise [k0_pay28, dot_S512x400_S512x96_S400x96_0_0_1_1_n_n]
  simp only [neg_log2e, h0, h3, coe_dot, kernel_silu]
  rfl

variable {A : ℕ → ℕ → Fin 96 → ℝ}

/-- The expansion to both branches' channels. -/
theorem expand_apply
    (hA : ∀ (p : Fin 400) c, k0_pay28 v0 v3 (ix2 p c) = ((A (p.val / 20) (p.val % 20) c : ℝ) : EReal))
    (h15 : ∀ j o, v15 (ix2 j o) = ((w1 o j : ℝ) : EReal)) (p : Fin 400) (o : Fin 384) :
    k0_pay29 v0 v3 v15 (ix2 p o) = ((expand2 w1 (A (p / 20) (p % 20)) o : ℝ) : EReal) := by
  pointwise [k0_pay29, dot_S400x96_S96x384_S400x384_1_0_0_1_n_n]
  simp only [neg_log2e, hA, h15, coe_dot, kernel_silu]
  rfl

end Stem

section Depth

/-- A product kept only at the pixels that have a left neighbour. -/
theorem mask_left (p : Fin 400) (o : Fin 384) (x y : EReal) :
    Scalar.select (k0_pay34 (iota .tc S400x384 32 [0] iota_S400x384_d0_w32) 20#32 k0_pay31 k0_pay32
      (Scalar.extui (Scalar.cmpi .sgt 20#32 0#32)) (ix2 p o)) (x * y) 0 = (if 1 ≤ p.val % 20 then x else 0) * y := by
  pointwise [k0_pay34, k0_pay33, k0_pay31, k0_pay32]
  rw [row_word 20 p (by norm_num) (by norm_num) (by omega), col_word, ite_zero_mul]
  exact lane_ge _ _ (by omega) (by norm_num) _ _

/-- A product kept only at the pixels that have a right neighbour. -/
theorem mask_right (p : Fin 400) (o : Fin 384) (x y : EReal) :
    Scalar.select (k0_pay35 (iota .tc S400x384 32 [0] iota_S400x384_d0_w32) 20#32 k0_pay31 k0_pay32
      (Scalar.extui (Scalar.cmpi .sgt 20#32 0#32)) (ix2 p o)) (x * y) 0 = (if p.val % 20 ≤ 18 then x else 0) * y := by
  pointwise [k0_pay35, k0_pay33, k0_pay31, k0_pay32]
  rw [row_word 20 p (by norm_num) (by norm_num) (by omega), col_word, ite_zero_mul]
  exact lane_le _ _ (by omega) (by norm_num) _ _

variable {E : Fin 384 → ℕ → ℕ → ℝ} {wd : Fin 384 → Fin 9 → ℝ} {v387 : FVec Ideal S400x384 .f32} {v388 : Vec Ideal S9x384 .f32}

/-- The first three products of the depthwise stage. -/
theorem top_apply (hE : ∀ (p : Fin 400) o, v387 (ix2 p o) = ((E o (p / 20) (p % 20) : ℝ) : EReal))
    (hd : ∀ t o, v388 (ix2 t o) = ((wd o t : ℝ) : EReal)) {v390 v392 v399 : IVec S400x384 32} {c s : BitVec 32}
    (hl : ∀ (p : Fin 400) o (x y : EReal), Scalar.select (k0_pay34 v390 c v392 v399 s (ix2 p o)) (x * y) 0
      = (if 1 ≤ p.val % 20 then x else 0) * y)
    (hr : ∀ (p : Fin 400) o (x y : EReal), Scalar.select (k0_pay35 v390 c v392 v399 s (ix2 p o)) (x * y) 0
      = (if p.val % 20 ≤ 18 then x else 0) * y) (p : Fin 400) (o : Fin 384) :
    k0_pay36 v387 (k0_pay30 v388) v390 c v392 v399 s (ix2 p o)
      = (border 20 20 (E o) (p / 20) (p % 20) : EReal) * (wd o 0 : EReal)
        + (border 20 20 (E o) (p / 20) (p % 20 + 1) : EReal) * (wd o 1 : EReal)
        + (border 20 20 (E o) (p / 20) (p % 20 + 2) : EReal) * (wd o 2 : EReal) := by
  pointwise [k0_pay36, k0_pay30]
  simp only [hl, hr, hd, hE]
  have h0 : _ = ((border 20 20 (E o) (p / 20) (p % 20) : ℝ) : EReal) := flat_left (E o) 0 (by norm_num) p.isLt
  rw [← flat_up (E o) p.isLt, ← flat_up_right (E o) p.isLt, ← h0]
  rfl

/-- All nine products of the depthwise stage. -/
theorem taps_apply (hE : ∀ (p : Fin 400) o, v387 (ix2 p o) = ((E o (p / 20) (p % 20) : ℝ) : EReal))
    (hd : ∀ t o, v388 (ix2 t o) = ((wd o t : ℝ) : EReal)) {v419 v421 : IVec S400x384 1} {v445 : FVec Ideal S400x384 .f32}
    (hl : ∀ (p : Fin 400) o (x y : EReal), Scalar.select (v419 (ix2 p o)) (x * y) 0 = (if 1 ≤ p.val % 20 then x else 0) * y)
    (hr : ∀ (p : Fin 400) o (x y : EReal), Scalar.select (v421 (ix2 p o)) (x * y) 0 = (if p.val % 20 ≤ 18 then x else 0) * y)
    (ht : ∀ (p : Fin 400) o, v445 (ix2 p o) = (border 20 20 (E o) (p / 20) (p % 20) : EReal) * (wd o 0 : EReal)
        + (border 20 20 (E o) (p / 20) (p % 20 + 1) : EReal) * (wd o 1 : EReal)
        + (border 20 20 (E o) (p / 20) (p % 20 + 2) : EReal) * (wd o 2 : EReal)) (p : Fin 400) (o : Fin 384) :
    k0_pay39 v387 (k0_pay30 v388) v419 v421 v445 (k0_pay37 (k0_pay30 v388)) (k0_pay38 v387) (ix2 p o)
      = ((taps 20 20 (E o) (wd o) (p / 20) (p % 20) : ℝ) : EReal) := by
  pointwise [k0_pay39, k0_pay30, k0_pay37, k0_pay38]
  simp only [hl, hr, ht, hd, hE]
  rw [← taps8_add]
  unfold taps8
  rw [← flat_left (E o) 1 (by norm_num) p.isLt, ← shift_none (H := 20) (W := 20) (E o) (by omega) (by omega),
    ← flat_right (E o) 0 (by norm_num) p.isLt, ← flat_down_left (E o) p.isLt, ← flat_down (E o) p.isLt,
    ← flat_right (E o) 1 (by norm_num) p.isLt]
  rfl

variable {A : ℕ → ℕ → Fin 96 → ℝ} {fd : Fin 384 → Fin 85 → ℝ} {fa : Fin 96 → Fin 85 → ℝ} {fb : Fin 85 → ℝ}
  {v376 : FVec Ideal S400x96 .bf16} {v419 v421 : IVec S400x384 1} {v445 : FVec Ideal S400x384 .f32}
  {v389 : FVec Ideal S9x384 .f32} {v446 : FVec Ideal S1x384 .f32} {v449 : FVec Ideal S400x384 .f32} {v502 : Vec Ideal S384x85 .bf16}
  {v505 : Vec Ideal S96x85 .bf16} {v509 : Vec Ideal S1x85 .f32}

/-- The prediction at a pixel. -/
theorem score_apply
    (hA : ∀ (p : Fin 400) c, v376 (ix2 p c) = ((A (p.val / 20) (p.val % 20) c : ℝ) : EReal))
    (hT : ∀ (p : Fin 400) o, k0_pay39 v387 v389 v419 v421 v445 v446 v449 (ix2 p o)
      = ((taps 20 20 (E o) (wd o) (p / 20) (p % 20) : ℝ) : EReal))
    (h502 : ∀ o l, v502 (ix2 o l) = ((fd o l : ℝ) : EReal))
    (h505 : ∀ j l, v505 (ix2 j l) = ((fa j l : ℝ) : EReal))
    (h509 : ∀ l, v509 (ix2 0 l) = ((fb l : ℝ) : EReal)) (p : Fin 400) (l : Fin 85) :
    k0_pay42 v376 (k0_pay39 v387 v389 v419 v421 v445 v446 v449) (k0_pay40 v387 v389 v419 v421 v445 v446 v449) k0_pay41
        v502 v505 v509 (ix2 p l)
      = (((∑ o, silu (taps 20 20 (E o) (wd o) (p / 20) (p % 20)) * fd o l)
          + (∑ j, A (p / 20) (p % 20) j * fa j l) + fb l : ℝ) : EReal) := by
  pointwise [k0_pay42, k0_pay40, k0_pay41, dot_S400x384_S384x85_S400x85_1_0_0_1_n_n, dot_S400x96_S96x85_S400x85_1_0_0_1_n_n]
  simp only [hT, neg_log2e, kernel_silu, h502, h505, h509, hA, coe_dot, ← EReal.coe_add]

/-- The decoded prediction at a pixel. -/
theorem decode_apply (v512 : FVec Ideal S400x85 .f32) (p : Fin 400) (l : Fin 85) (r : ℝ) (hr : v512 (ix2 p l) = (r : EReal)) :
    k0_pay1 v512 (iota .tc S400x85 32 [1] iota_S400x85_d1_w32) k0_pay43 k0_pay44 0#32 (ix3 0 p l)
      = ((decode 32 (p / 20) (p % 20) l r : ℝ) : EReal) := by
  pointwise [k0_pay1, k0_pay43, k0_pay44]
  rw [row_word 20 p (by norm_num) (by norm_num) (by omega), hr, neg_log2e, ofBits_32]
  exact kernel_decode 32 20 p l (by omega) r

end Depth

/-- The value stored for the third level: the decoded prediction at each of its pixels. -/
theorem stored_apply {X : ℕ → ℕ → Fin 512 → ℝ} {sw : Fin 96 → Fin 512 → ℝ} {w1 : Fin 384 → Fin 96 → ℝ}
    {wd : Fin 384 → Fin 9 → ℝ} {fd : Fin 384 → Fin 85 → ℝ} {fa : Fin 96 → Fin 85 → ℝ} {fb : Fin 85 → ℝ}
    {v0 : Vec Ideal S1x512x400 .f32} {v3 : Vec Ideal S512x96 .bf16} {v15 : Vec Ideal S96x384 .bf16}
    {v26 : Vec Ideal S9x384 .f32} {v112 : Vec Ideal S384x85 .bf16} {v115 : Vec Ideal S96x85 .bf16} {v119 : Vec Ideal S1x85 .f32}
    (h0 : ∀ i (p : Fin 400), v0 (ix3 0 i p) = ((X (p.val / 20) (p.val % 20) i : ℝ) : EReal))
    (h3 : ∀ i c, v3 (ix2 i c) = ((sw c i : ℝ) : EReal)) (h15 : ∀ j o, v15 (ix2 j o) = ((w1 o j : ℝ) : EReal))
    (h26 : ∀ t o, v26 (ix2 t o) = ((wd o t : ℝ) : EReal)) (h112 : ∀ o l, v112 (ix2 o l) = ((fd o l : ℝ) : EReal))
    (h115 : ∀ j l, v115 (ix2 j l) = ((fa j l : ℝ) : EReal)) (h119 : ∀ l, v119 (ix2 0 l) = ((fb l : ℝ) : EReal))
    (p : Fin 400) (l : Fin 85) {i0 : IVec S400x384 32} (hi0 : i0 = iota .tc S400x384 32 [0] iota_S400x384_d0_w32)
    {s : BitVec 32} (hs : s = Scalar.extui (Scalar.cmpi .sgt 20#32 0#32)) :
    k0_pay1
      (k0_pay42 (k0_pay28 v0 v3)
        (k0_pay39 (k0_pay29 v0 v3 v15) (k0_pay30 v26) (k0_pay34 i0 20#32 k0_pay31 k0_pay32 s)
          (k0_pay35 i0 20#32 k0_pay31 k0_pay32 s) (k0_pay36 (k0_pay29 v0 v3 v15) (k0_pay30 v26) i0 20#32 k0_pay31 k0_pay32 s)
          (k0_pay37 (k0_pay30 v26)) (k0_pay38 (k0_pay29 v0 v3 v15)))
        (k0_pay40 (k0_pay29 v0 v3 v15) (k0_pay30 v26) (k0_pay34 i0 20#32 k0_pay31 k0_pay32 s)
          (k0_pay35 i0 20#32 k0_pay31 k0_pay32 s) (k0_pay36 (k0_pay29 v0 v3 v15) (k0_pay30 v26) i0 20#32 k0_pay31 k0_pay32 s)
          (k0_pay37 (k0_pay30 v26)) (k0_pay38 (k0_pay29 v0 v3 v15)))
        k0_pay41 v112 v115 v119)
      (iota .tc S400x85 32 [1] iota_S400x85_d1_w32) k0_pay43 k0_pay44 0#32 (ix3 0 p l)
      = ((decode 32 (p / 20) (p % 20) l
          (score2 20 20 w1 wd fd fa fb (fun h w => stem sw (X h w)) (p / 20) (p % 20) l) : ℝ) : EReal) := by
  subst hi0 hs
  have hA := stem_apply h0 h3
  have hE : ∀ (p : Fin 400) o, k0_pay29 v0 v3 v15 (ix2 p o)
      = (((fun o h w => expand2 w1 (stem sw (X h w)) o) o (p / 20) (p % 20) : ℝ) : EReal) :=
    expand_apply (A := fun h w => stem sw (X h w)) hA h15
  exact decode_apply _ p l _ (score_apply (A := fun h w => stem sw (X h w))
    (E := fun o h w => expand2 w1 (stem sw (X h w)) o) hA
    (taps_apply hE h26 mask_left mask_right (top_apply hE h26 mask_left mask_right)) h112 h115 h119 p l)

end Cert.Head.K2

end
-- ==== Proof.Head.Out.lean ====
/- The result array of the kernel's run, element by element, from the argument arrays. -/
module

public import proofs.«01_k».proof.Proof.Gen.KernelIdeal.Value
public import proofs.«01_k».proof.Proof.Head.Inputs
public import proofs.«01_k».proof.Proof.Head.Host
public import proofs.«01_k».proof.Proof.Head.Stores
public import proofs.«01_k».proof.Proof.Head.K0
public import proofs.«01_k».proof.Proof.Head.K1
public import proofs.«01_k».proof.Proof.Head.K2

@[expose] public section

noncomputable section

namespace Cert.Head.Out

open Cert.KernelIdeal Cert.KernelIdeal.Gen Cert.KernelIdeal.Value Idealize.ShloMosaic Idealize.ShloMosaic.TcCoe Idealize.SL.Sem
open Cert.Head.Stores Cert.Head.Host

/-- An image of the batch as a grid point's number. -/
def img (t : Fin cfg0.N) : Fin 16 := t

/-! ## Which block of its array a window shows at a grid point: an image of the batch, or the whole of the array -/

/-- The windows over the weights show the whole of their arrays at every grid point. -/
theorem index_whole : ∀ w : Fin 22, 3 ≤ w.val → w.val ≤ 20 → ∀ (t : Fin cfg0.N) (a : Fin (cfg0.win w).shape.rank),
    (cfg0.win w).index t a = 0 := by
  decide +kernel

/-- An element of a block of a window over the weights is where it is in the array. -/
theorem emb_whole (w : Fin 22) (h3 : 3 ≤ w.val) (h20 : w.val ≤ 20) (t : Fin cfg0.N)
    (y : ((cfg0.win w).xblock (grid0.coords t)).Idx) (a : Fin (cfg0.win w).shape.rank) :
    (((cfg0.win w).rect t).emb y a : ℕ) = y a :=
  (cfg0.win w).rect_emb_val_of_index_zero t a (index_whole w h3 h20 t a) y

/-- The windows over the images and the result show at each grid point that point's image. -/
theorem index_image : ∀ w : Fin 22, (w.val ≤ 2 ∨ w.val = 21) → ∀ (t : Fin cfg0.N) (a : Fin (cfg0.win w).shape.rank),
    (cfg0.win w).index t a = if a.val = 0 then t.val else 0 := by
  decide +kernel

/-- Where the elements of a block of window 0 lie in its array. -/
theorem emb0 (t : Fin cfg0.N) (p : Fin 128) (q : Fin 6400) :
    ((cfg0.win 0).blk t).view.emb (ix3 (n0 := 1) 0 p q) = ix3 (n0 := 16) (img t) p q :=
  funext fun a => Fin.ext (((cfg0.win 0).rect_emb_val_off t _ a).trans (by
    rw [index_image 0 (by decide) t a]
    match a with
    | ⟨0, _⟩ => show t.val * 1 + 0 = t.val; omega
    | ⟨1, _⟩ => show 0 * 128 + p.val = p.val; omega
    | ⟨2, _⟩ => show 0 * 6400 + q.val = q.val; omega))

/-- Where the elements of a block of window 1 lie in its array. -/
theorem emb1 (t : Fin cfg0.N) (p : Fin 256) (q : Fin 1600) :
    ((cfg0.win 1).blk t).view.emb (ix3 (n0 := 1) 0 p q) = ix3 (n0 := 16) (img t) p q :=
  funext fun a => Fin.ext (((cfg0.win 1).rect_emb_val_off t _ a).trans (by
    rw [index_image 1 (by decide) t a]
    match a with
    | ⟨0, _⟩ => show t.val * 1 + 0 = t.val; omega
    | ⟨1, _⟩ => show 0 * 256 + p.val = p.val; omega
    | ⟨2, _⟩ => show 0 * 1600 + q.val = q.val; omega))

/-- Where the elements of a block of window 2 lie in its array. -/
theorem emb2 (t : Fin cfg0.N) (p : Fin 512) (q : Fin 400) :
    ((cfg0.win 2).blk t).view.emb (ix3 (n0 := 1) 0 p q) = ix3 (n0 := 16) (img t) p q :=
  funext fun a => Fin.ext (((cfg0.win 2).rect_emb_val_off t _ a).trans (by
    rw [index_image 2 (by decide) t a]
    match a with
    | ⟨0, _⟩ => show t.val * 1 + 0 = t.val; omega
    | ⟨1, _⟩ => show 0 * 512 + p.val = p.val; omega
    | ⟨2, _⟩ => show 0 * 400 + q.val = q.val; omega))

/-- Where the elements of a block of window 21 lie in its array. -/
theorem emb21 (t : Fin cfg0.N) (p : Fin 8400) (q : Fin 85) :
    ((cfg0.win 21).blk t).view.emb (ix3 (n0 := 1) 0 p q) = ix3 (n0 := 16) (img t) p q :=
  funext fun a => Fin.ext (((cfg0.win 21).rect_emb_val_off t _ a).trans (by
    rw [index_image 21 (by decide) t a]
    match a with
    | ⟨0, _⟩ => show t.val * 1 + 0 = t.val; omega
    | ⟨1, _⟩ => show 0 * 8400 + p.val = p.val; omega
    | ⟨2, _⟩ => show 0 * 85 + q.val = q.val; omega))

variable {m : (ℓ : Loc nD τ sig) → Buf (Elt Ideal) ℓ}

/-! ## The windows' blocks at an index -/

/-- An element of a block of window 0 is an element of the grid point's image. -/
theorem blk0 (c : Dev nD) (t : Fin cfg0.N) (p : Fin 128) (q : Fin 6400) :
    @Eq EReal (iblk m c 0 t (ix3 (n0 := 1) 0 p q)) ((V m c main_v85) (ix3 (n0 := 16) (img t) p q)) := by
  show @Eq EReal (V m c main_v85 (((cfg0.win 0).blk t).view.emb (ix3 (n0 := 1) 0 p q))) _
  rw [emb0]
/-- An element of a block of window 1 is an element of the grid point's image. -/
theorem blk1 (c : Dev nD) (t : Fin cfg0.N) (p : Fin 256) (q : Fin 1600) :
    @Eq EReal (iblk m c 1 t (ix3 (n0 := 1) 0 p q)) ((V m c main_v171) (ix3 (n0 := 16) (img t) p q)) := by
  show @Eq EReal (V m c main_v171 (((cfg0.win 1).blk t).view.emb (ix3 (n0 := 1) 0 p q))) _
  rw [emb1]
/-- An element of a block of window 2 is an element of the grid point's image. -/
theorem blk2 (c : Dev nD) (t : Fin cfg0.N) (p : Fin 512) (q : Fin 400) :
    @Eq EReal (iblk m c 2 t (ix3 (n0 := 1) 0 p q)) ((V m c main_v257) (ix3 (n0 := 16) (img t) p q)) := by
  show @Eq EReal (V m c main_v257 (((cfg0.win 2).blk t).view.emb (ix3 (n0 := 1) 0 p q))) _
  rw [emb2]
/-- An element of a block of window 3 is the same element of its array. -/
theorem blk3 (c : Dev nD) (t : Fin cfg0.N) (j : S128x96.Idx) : @Eq EReal (iblk m c 3 t j) ((V m c main_v81) j) :=
  congrArg (V m c main_v81) (funext fun a => Fin.ext (emb_whole 3 (by decide) (by decide) t j a))
/-- An element of a block of window 4 is the same element of its array. -/
theorem blk4 (c : Dev nD) (t : Fin cfg0.N) (j : S96x384.Idx) : @Eq EReal (iblk m c 4 t j) ((V m c main_v82) j) :=
  congrArg (V m c main_v82) (funext fun a => Fin.ext (emb_whole 4 (by decide) (by decide) t j a))
/-- An element of a block of window 5 is the same element of its array. -/
theorem blk5 (c : Dev nD) (t : Fin cfg0.N) (j : S9x384.Idx) : @Eq EReal (iblk m c 5 t j) ((V m c main_v23) j) :=
  congrArg (V m c main_v23) (funext fun a => Fin.ext (emb_whole 5 (by decide) (by decide) t j a))
/-- An element of a block of window 6 is the same element of its array. -/
theorem blk6 (c : Dev nD) (t : Fin cfg0.N) (j : S384x85.Idx) : @Eq EReal (iblk m c 6 t j) ((V m c main_v83) j) :=
  congrArg (V m c main_v83) (funext fun a => Fin.ext (emb_whole 6 (by decide) (by decide) t j a))
/-- An element of a block of window 7 is the same element of its array. -/
theorem blk7 (c : Dev nD) (t : Fin cfg0.N) (j : S96x85.Idx) : @Eq EReal (iblk m c 7 t j) ((V m c main_v84) j) :=
  congrArg (V m c main_v84) (funext fun a => Fin.ext (emb_whole 7 (by decide) (by decide) t j a))
/-- An element of a block of window 8 is the same element of its array. -/
theorem blk8 (c : Dev nD) (t : Fin cfg0.N) (j : S1x85.Idx) : @Eq EReal (iblk m c 8 t j) ((V m c main_v78) j) :=
  congrArg (V m c main_v78) (funext fun a => Fin.ext (emb_whole 8 (by decide) (by decide) t j a))
/-- An element of a block of window 9 is the same element of its array. -/
theorem blk9 (c : Dev nD) (t : Fin cfg0.N) (j : S256x96.Idx) : @Eq EReal (iblk m c 9 t j) ((V m c main_v167) j) :=
  congrArg (V m c main_v167) (funext fun a => Fin.ext (emb_whole 9 (by decide) (by decide) t j a))
/-- An element of a block of window 10 is the same element of its array. -/
theorem blk10 (c : Dev nD) (t : Fin cfg0.N) (j : S96x384.Idx) : @Eq EReal (iblk m c 10 t j) ((V m c main_v168) j) :=
  congrArg (V m c main_v168) (funext fun a => Fin.ext (emb_whole 10 (by decide) (by decide) t j a))
/-- An element of a block of window 11 is the same element of its array. -/
theorem blk11 (c : Dev nD) (t : Fin cfg0.N) (j : S9x384.Idx) : @Eq EReal (iblk m c 11 t j) ((V m c main_v109) j) :=
  congrArg (V m c main_v109) (funext fun a => Fin.ext (emb_whole 11 (by decide) (by decide) t j a))
/-- An element of a block of window 12 is the same element of its array. -/
theorem blk12 (c : Dev nD) (t : Fin cfg0.N) (j : S384x85.Idx) : @Eq EReal (iblk m c 12 t j) ((V m c main_v169) j) :=
  congrArg (V m c main_v169) (funext fun a => Fin.ext (emb_whole 12 (by decide) (by decide) t j a))
/-- An element of a block of window 13 is the same element of its array. -/
theorem blk13 (c : Dev nD) (t : Fin cfg0.N) (j : S96x85.Idx) : @Eq EReal (iblk m c 13 t j) ((V m c main_v170) j) :=
  congrArg (V m c main_v170) (funext fun a => Fin.ext (emb_whole 13 (by decide) (by decide) t j a))
/-- An element of a block of window 14 is the same element of its array. -/
theorem blk14 (c : Dev nD) (t : Fin cfg0.N) (j : S1x85.Idx) : @Eq EReal (iblk m c 14 t j) ((V m c main_v164) j) :=
  congrArg (V m c main_v164) (funext fun a => Fin.ext (emb_whole 14 (by decide) (by decide) t j a))
/-- An element of a block of window 15 is the same element of its array. -/
theorem blk15 (c : Dev nD) (t : Fin cfg0.N) (j : S512x96.Idx) : @Eq EReal (iblk m c 15 t j) ((V m c main_v253) j) :=
  congrArg (V m c main_v253) (funext fun a => Fin.ext (emb_whole 15 (by decide) (by decide) t j a))
/-- An element of a block of window 16 is the same element of its array. -/
theorem blk16 (c : Dev nD) (t : Fin cfg0.N) (j : S96x384.Idx) : @Eq EReal (iblk m c 16 t j) ((V m c main_v254) j) :=
  congrArg (V m c main_v254) (funext fun a => Fin.ext (emb_whole 16 (by decide) (by decide) t j a))
/-- An element of a block of window 17 is the same element of its array. -/
theorem blk17 (c : Dev nD) (t : Fin cfg0.N) (j : S9x384.Idx) : @Eq EReal (iblk m c 17 t j) ((V m c main_v195) j) :=
  congrArg (V m c main_v195) (funext fun a => Fin.ext (emb_whole 17 (by decide) (by decide) t j a))
/-- An element of a block of window 18 is the same element of its array. -/
theorem blk18 (c : Dev nD) (t : Fin cfg0.N) (j : S384x85.Idx) : @Eq EReal (iblk m c 18 t j) ((V m c main_v255) j) :=
  congrArg (V m c main_v255) (funext fun a => Fin.ext (emb_whole 18 (by decide) (by decide) t j a))
/-- An element of a block of window 19 is the same element of its array. -/
theorem blk19 (c : Dev nD) (t : Fin cfg0.N) (j : S96x85.Idx) : @Eq EReal (iblk m c 19 t j) ((V m c main_v256) j) :=
  congrArg (V m c main_v256) (funext fun a => Fin.ext (emb_whole 19 (by decide) (by decide) t j a))
/-- An element of a block of window 20 is the same element of its array. -/
theorem blk20 (c : Dev nD) (t : Fin cfg0.N) (j : S1x85.Idx) : @Eq EReal (iblk m c 20 t j) ((V m c main_v250) j) :=
  congrArg (V m c main_v250) (funext fun a => Fin.ext (emb_whole 20 (by decide) (by decide) t j a))

/-- Core `c`'s argument arrays hold the numbers `I`. -/
abbrev HoldsAt (m : (ℓ : Loc nD τ sig) → Buf (Elt Ideal) ℓ) (c : Dev nD) (I : Inputs) : Prop :=
  Holds I (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))
    (m ((c : Thread nD τ).loc main_arg24))
    (m ((c : Thread nD τ).loc main_arg25))
    (m ((c : Thread nD τ).loc main_arg26))

variable {c : Dev nD} {I : Inputs}

/-- Arguments that hold all the numbers hold the branches' and the predictions' weights. -/
theorem holdsW (H : HoldsAt m c I) : HoldsW m c I.C I.R I.P := ⟨H.cls, H.reg, H.heads⟩

/-- The staged result at grid point `t`: the rows of image `t`. -/
def rowsOf (I : Inputs) (b : Fin 16) : Vec Ideal S1x8400x85 .f32 := fun y => ((I.total b (y 1).val (y 2) : ℝ) : EReal)

/-- The first level stores its rows of the result. -/
theorem rows0 (H : HoldsAt m c I) (t : Fin cfg0.N) (x : S1x6400x85.Idx) :
    stored0 (F := Ideal) (iblk m c 0 t) (iblk m c 3 t) (iblk m c 4 t) (iblk m c 5 t) (iblk m c 6 t) (iblk m c 7 t)
      (iblk m c 8 t) x
      = rowsOf I (img t) ((Rect.unit (s := S1x8400x85) ![0, 0, 0] S1x6400x85.size inb_S1x8400x85_S1x6400x85_0_0_0).emb x) := by
  obtain ⟨p, l, rfl⟩ : ∃ (p : Fin 6400) (l : Fin 85), x = ix3 0 p l :=
    ⟨x 1, x 2, funext fun a => by match a with | ⟨0, _⟩ => exact Subsingleton.elim (α := Fin 1) _ _ | ⟨1, _⟩ => rfl | ⟨2, _⟩ => rfl⟩
  have HW := holdsW H
  refine (K0.stored_apply (X := I.X0 (img t)) (sw := I.s0)
    (fun i p => (blk0 c t i p).trans ((Host.x0 (img t) i p).trans (H.x0 _ _ _ _)))
    (fun i j => (blk3 c t _).trans ((Host.sw0 i j).trans (H.s0 _ _)))
    (fun j o => (blk4 c t _).trans (w10 (sw := I.s0) HW j o))
    (fun j o => (blk5 c t _).trans (wd0 (sw := I.s0) HW j o))
    (fun j o => (blk6 c t _).trans (fd0 (sw := I.s0) HW j o))
    (fun j o => (blk7 c t _).trans (fa0 (sw := I.s0) HW j o))
    (fun l => (blk8 c t _).trans (fb0 (sw := I.s0) HW l)) p l).trans ?_
  show _ = ((I.total (img t) (0 + 1 * p.val) ⟨0 + 1 * l.val, _⟩ : ℝ) : EReal)
  rw [show (⟨0 + 1 * l.val, by omega⟩ : Fin 85) = l from Fin.ext (by show 0 + 1 * l.val = l.val; omega)]
  unfold Inputs.total
  rw [if_pos (by omega : 0 + 1 * p.val < 6400), show 0 + 1 * p.val = p.val by omega]
  exact congrArg (fun r : ℝ => ((decode 8 (p.val / 80) (p.val % 80) l r : ℝ) : EReal))
    (score2_eq 80 80 (levelAt I.s0 I.C I.R I.P 0) (I.X0 (img t)) (p.val / 80) (p.val % 80) l)

/-- The second level stores its rows of the result. -/
theorem rows1 (H : HoldsAt m c I) (t : Fin cfg0.N) (x : S1x1600x85.Idx) :
    stored1 (F := Ideal) (iblk m c 1 t) (iblk m c 9 t) (iblk m c 10 t) (iblk m c 11 t) (iblk m c 12 t) (iblk m c 13 t)
      (iblk m c 14 t) x
      = rowsOf I (img t) ((Rect.unit (s := S1x8400x85) ![0, 6400, 0] S1x1600x85.size inb_S1x8400x85_S1x1600x85_0_6400_0).emb x) := by
  obtain ⟨p, l, rfl⟩ : ∃ (p : Fin 1600) (l : Fin 85), x = ix3 0 p l :=
    ⟨x 1, x 2, funext fun a => by match a with | ⟨0, _⟩ => exact Subsingleton.elim (α := Fin 1) _ _ | ⟨1, _⟩ => rfl | ⟨2, _⟩ => rfl⟩
  have HW := holdsW H
  refine (K1.stored_apply (X := I.X1 (img t)) (sw := I.s1)
    (fun i p => (blk1 c t i p).trans ((Host.x1 (img t) i p).trans (H.x1 _ _ _ _)))
    (fun i j => (blk9 c t _).trans ((Host.sw1 i j).trans (H.s1 _ _)))
    (fun j o => (blk10 c t _).trans (w11 (sw := I.s1) HW j o))
    (fun j o => (blk11 c t _).trans (wd1 (sw := I.s1) HW j o))
    (fun j o => (blk12 c t _).trans (fd1 (sw := I.s1) HW j o))
    (fun j o => (blk13 c t _).trans (fa1 (sw := I.s1) HW j o))
    (fun l => (blk14 c t _).trans (fb1 (sw := I.s1) HW l)) p l).trans ?_
  show _ = ((I.total (img t) (6400 + 1 * p.val) ⟨0 + 1 * l.val, _⟩ : ℝ) : EReal)
  rw [show (⟨0 + 1 * l.val, by omega⟩ : Fin 85) = l from Fin.ext (by show 0 + 1 * l.val = l.val; omega)]
  unfold Inputs.total
  rw [if_neg (by omega : ¬ 6400 + 1 * p.val < 6400), if_pos (by omega : 6400 + 1 * p.val < 8000),
    show 6400 + 1 * p.val - 6400 = p.val by omega]
  exact congrArg (fun r : ℝ => ((decode 16 (p.val / 40) (p.val % 40) l r : ℝ) : EReal))
    (score2_eq 40 40 (levelAt I.s1 I.C I.R I.P 1) (I.X1 (img t)) (p.val / 40) (p.val % 40) l)

/-- The third level stores its rows of the result. -/
theorem rows2 (H : HoldsAt m c I) (t : Fin cfg0.N) (x : S1x400x85.Idx) :
    stored2 (F := Ideal) (iblk m c 2 t) (iblk m c 15 t) (iblk m c 16 t) (iblk m c 17 t) (iblk m c 18 t) (iblk m c 19 t)
      (iblk m c 20 t) x
      = rowsOf I (img t) ((Rect.unit (s := S1x8400x85) ![0, 8000, 0] S1x400x85.size inb_S1x8400x85_S1x400x85_0_8000_0).emb x) := by
  obtain ⟨p, l, rfl⟩ : ∃ (p : Fin 400) (l : Fin 85), x = ix3 0 p l :=
    ⟨x 1, x 2, funext fun a => by match a with | ⟨0, _⟩ => exact Subsingleton.elim (α := Fin 1) _ _ | ⟨1, _⟩ => rfl | ⟨2, _⟩ => rfl⟩
  have HW := holdsW H
  refine (K2.stored_apply (X := I.X2 (img t)) (sw := I.s2)
    (fun i p => (blk2 c t i p).trans ((Host.x2 (img t) i p).trans (H.x2 _ _ _ _)))
    (fun i j => (blk15 c t _).trans ((Host.sw2 i j).trans (H.s2 _ _)))
    (fun j o => (blk16 c t _).trans (w12 (sw := I.s2) HW j o))
    (fun j o => (blk17 c t _).trans (wd2 (sw := I.s2) HW j o))
    (fun j o => (blk18 c t _).trans (fd2 (sw := I.s2) HW j o))
    (fun j o => (blk19 c t _).trans (fa2 (sw := I.s2) HW j o))
    (fun l => (blk20 c t _).trans (fb2 (sw := I.s2) HW l)) p l rfl rfl).trans ?_
  show _ = ((I.total (img t) (8000 + 1 * p.val) ⟨0 + 1 * l.val, _⟩ : ℝ) : EReal)
  rw [show (⟨0 + 1 * l.val, by omega⟩ : Fin 85) = l from Fin.ext (by show 0 + 1 * l.val = l.val; omega)]
  unfold Inputs.total
  rw [if_neg (by omega : ¬ 8000 + 1 * p.val < 6400), if_neg (by omega : ¬ 8000 + 1 * p.val < 8000),
    show 8000 + 1 * p.val - 8000 = p.val by omega]
  exact congrArg (fun r : ℝ => ((decode 32 (p.val / 20) (p.val % 20) l r : ℝ) : EReal))
    (score2_eq 20 20 (levelAt I.s2 I.C I.R I.P 2) (I.X2 (img t)) (p.val / 20) (p.val % 20) l)

/-- What a grid point writes back is its block of the whole result. -/
theorem flushed_eq (H : HoldsAt m c I) (t : Fin cfg0.N) :
    (dats m 0 c).flushed 21 t = ((cfg0.win 21).blk t).view.read (Elt Ideal) (whole I) := by
  rw [flushed21_A, Stores.out_eq (G := rowsOf I (img t)) (g0 := rows0 H t) (g1 := rows1 H t) (g2 := rows2 H t)]
  funext j
  obtain ⟨p, l, rfl⟩ : ∃ (p : Fin 8400) (l : Fin 85), j = ix3 (n0 := 1) 0 p l :=
    ⟨j 1, j 2, funext fun a => by match a with | ⟨0, _⟩ => exact Subsingleton.elim (α := Fin 1) _ _ | ⟨1, _⟩ => rfl | ⟨2, _⟩ => rfl⟩
  show @Eq EReal (rowsOf I (img t) (ix3 0 p l)) (whole I (((cfg0.win 21).blk t).view.emb (ix3 (n0 := 1) 0 p l)))
  rw [emb21]
  rfl

/-- Every index of the result array is in the block of the grid point of its image. -/
theorem covered (i : S16x8400x85.Idx) :
    ∃ t : Fin cfg0.N, (cfg0.win 21).flush t = true ∧ i ∈ ((cfg0.win 21).blk t).view.set := by
  obtain ⟨t, p, l, rfl⟩ : ∃ (t : Fin cfg0.N) (p : Fin 8400) (l : Fin 85), i = ix3 (n0 := 16) (img t) p l :=
    ⟨(i 0 : Fin 16), i 1, i 2, funext fun a => by match a with | ⟨0, _⟩ => rfl | ⟨1, _⟩ => rfl | ⟨2, _⟩ => rfl⟩
  refine ⟨t, flush0_21 t, ?_⟩
  have h := ((cfg0.win 21).blk t).view.emb_mem_set (ix3 (n0 := 1) 0 p l)
  rwa [emb21] at h

/-- The result array after the run. -/
theorem final (H : HoldsAt m c I) : (dats m 0 c).arrAt 21 cfg0.N = whole I :=
  (dats m 0 c).arrAt_eq_of_cover 21 (whole I) (fun t _ => flushed_eq H t) covered

end Cert.Head.Out

end
-- ==== Proof.Head.Pre.lean ====
/- The precondition read back: the arrays hold real numbers, and the biases the kernel leaves out are zero. -/
module

public import proofs.«01_k».proof.Pre_finite_and_unbiased
public import proofs.«01_k».proof.Proof.Head.Inputs
public import Idealize.ShloMosaic.Lib.ReduceAll
public import Idealize.ShloMosaic.Lib.Decide

@[expose] public section

noncomputable section

namespace Cert.Head.Pre

open Idealize.ShloMosaic Cert.Pre_finite_and_unbiased

/-- The side conditions of the precondition's operations hold. -/
theorem pre_facts : Cert.Pre_finite_and_unbiased.Facts := by constructor <;> decide

/-- The pattern of the float infinity denotes the top element. -/
theorem ofBits_inf : Ideal.ofBits .f32 0x7F800000#32 = ⊤ := by simp [Ideal.ofBits, Ideal.ieee]

/-- A value whose magnitude is below infinity is a real number. -/
theorem real_of_lt (x : EReal) (h : FloatOps.cmpf (F := Ideal) (φ := .f32) .olt (FloatOps.hostAbsf (F := Ideal) (φ := .f32) x)
      (FloatOps.ofBits (F := Ideal) .f32 0x7F800000#32) = 1#1) : x = ((x.toReal : ℝ) : EReal) := by
  change BitVec.ofBool (decide (max x (-x) < Ideal.ofBits .f32 0x7F800000#32)) = 1#1 at h
  rw [ofBits_inf] at h
  have hlt : max x (-x) < ⊤ := by
    by_contra hn
    rw [decide_eq_false hn] at h
    exact absurd h (by decide)
  rw [max_lt_iff] at hlt
  refine (EReal.coe_toReal hlt.1.ne fun hb => ?_).symm
  subst hb
  exact absurd hlt.2 (by simp)

/-- A value that equals the float zero is zero. -/
theorem zero_of_eq (x : EReal) (h : FloatOps.cmpf (F := Ideal) (φ := .f32) .oeq x
      (FloatOps.ofBits (F := Ideal) .f32 0x00000000#32) = 1#1) : x = 0 := by
  change BitVec.ofBool (decide (x = Ideal.ofBits .f32 0x00000000#32)) = 1#1 at h
  by_contra hn
  rw [show Ideal.ofBits .f32 0x00000000#32 = 0 by simp [Ideal.ofBits, Ideal.ieee], decide_eq_false hn] at h
  exact absurd h (by decide)

variable {s : Shape} {axes : List (Fin s.rank)}

/-- An array all of whose magnitudes are below infinity holds real numbers. -/
theorem real_of_all {a : Vec Ideal s .f32} {hb : S_.BroadcastsInDim s (![] : Fin 0 → Fin s.rank)} {h : s.ReducesTo axes S_}
    {hu : 0 < S_.numel} {j : S_.Idx}
    (e : Host.reduce IntOp.andi (cmpf (F := Ideal) .olt (Host.absf (F := Ideal) (φ := .f32) a) (broadcastInDim s ![] hb (constant S_ .f32 0x7F800000#32)))
      (constantI S_ 1 1#1) h hu j = 1#1) (i : s.Idx) : a i = (((a i : EReal).toReal : ℝ) : EReal) :=
  haveI : Subsingleton S_.Idx := ⟨fun a b => funext fun d => d.elim0⟩
  real_of_lt (a i) (Host.reduce_andi_all _ _ h hu j e i)

/-- An array all of whose elements equal zero is zero. -/
theorem zero_of_all {a : Vec Ideal s .f32} {hb : S_.BroadcastsInDim s (![] : Fin 0 → Fin s.rank)} {h : s.ReducesTo axes S_}
    {hu : 0 < S_.numel} {j : S_.Idx}
    (e : Host.reduce IntOp.andi (cmpf (F := Ideal) (φ := .f32) .oeq a (broadcastInDim s ![] hb (constant S_ .f32 0x00000000#32)))
      (constantI S_ 1 1#1) h hu j = 1#1) (i : s.Idx) : a i = (0 : EReal) :=
  haveI : Subsingleton S_.Idx := ⟨fun a b => funext fun d => d.elim0⟩
  zero_of_eq (a i) (Host.reduce_andi_all _ _ h hu j e i)

/-- The numbers that argument arrays hold. -/
def inputsOf (a0 : Vec Ideal S16x128x80x80 .f32) (a1 : Vec Ideal S16x256x40x40 .f32) (a2 : Vec Ideal S16x512x20x20 .f32)
    (a3 : Vec Ideal S96x128x1x1 .f32) (a5 : Vec Ideal S96x256x1x1 .f32) (a7 : Vec Ideal S96x512x1x1 .f32)
    (a9 : Vec Ideal S3x192x96x1x1 .f32) (a11 : Vec Ideal S3x192x1x3x3 .f32)
    (a13 : Vec Ideal S3x96x192x1x1 .f32) (a14 : Vec Ideal S3x96 .f32)
    (a15 : Vec Ideal S3x192x96x1x1 .f32) (a17 : Vec Ideal S3x192x1x3x3 .f32)
    (a19 : Vec Ideal S3x96x192x1x1 .f32) (a20 : Vec Ideal S3x96 .f32)
    (a21 : Vec Ideal S3x80x96x1x1 .f32) (a22 : Vec Ideal S3x80 .f32) (a23 : Vec Ideal S3x4x96x1x1 .f32)
    (a24 : Vec Ideal S3x4 .f32) (a25 : Vec Ideal S3x1x96x1x1 .f32) (a26 : Vec Ideal S3x1 .f32) : Inputs where
  X0 b h w i := (a0 (ix4 b i (Fin.ofNat 80 h) (Fin.ofNat 80 w)) : EReal).toReal
  X1 b h w i := (a1 (ix4 b i (Fin.ofNat 40 h) (Fin.ofNat 40 w)) : EReal).toReal
  X2 b h w i := (a2 (ix4 b i (Fin.ofNat 20 h) (Fin.ofNat 20 w)) : EReal).toReal
  s0 j i := (a3 (ix4 j i 0 0) : EReal).toReal
  s1 j i := (a5 (ix4 j i 0 0) : EReal).toReal
  s2 j i := (a7 (ix4 j i 0 0) : EReal).toReal
  C := ⟨fun k o j => (a9 (ix5 k o j 0 0) : EReal).toReal, fun k o i j => (a11 (ix5 k o 0 i j) : EReal).toReal,
    fun k j o => (a13 (ix5 k j o 0 0) : EReal).toReal, fun k j => (a14 (ix2 k j) : EReal).toReal⟩
  R := ⟨fun k o j => (a15 (ix5 k o j 0 0) : EReal).toReal, fun k o i j => (a17 (ix5 k o 0 i j) : EReal).toReal,
    fun k j o => (a19 (ix5 k j o 0 0) : EReal).toReal, fun k j => (a20 (ix2 k j) : EReal).toReal⟩
  P := ⟨fun k l j => (a21 (ix5 k l j 0 0) : EReal).toReal, fun k l => (a22 (ix2 k l) : EReal).toReal,
    fun k l j => (a23 (ix5 k l j 0 0) : EReal).toReal, fun k l => (a24 (ix2 k l) : EReal).toReal,
    fun k j => (a25 (ix5 k 0 j 0 0) : EReal).toReal, fun k => (a26 (ix2 k 0) : EReal).toReal⟩

/-- A place of an axis is the place its number names. -/
theorem ofNat_val {n : ℕ} [NeZero n] (h : Fin n) : Fin.ofNat n h.val = h := Fin.ext (Nat.mod_eq_of_lt h.isLt)

/-- Arguments that satisfy the precondition hold numbers. -/
theorem holds_of_pre [Facts]
    (a0 : Vec Ideal S16x128x80x80 .f32) (a1 : Vec Ideal S16x256x40x40 .f32) (a2 : Vec Ideal S16x512x20x20 .f32)
    (a3 : Vec Ideal S96x128x1x1 .f32) (a4 : Vec Ideal S96 .f32) (a5 : Vec Ideal S96x256x1x1 .f32)
    (a6 : Vec Ideal S96 .f32) (a7 : Vec Ideal S96x512x1x1 .f32) (a8 : Vec Ideal S96 .f32)
    (a9 : Vec Ideal S3x192x96x1x1 .f32) (a10 : Vec Ideal S3x192 .f32) (a11 : Vec Ideal S3x192x1x3x3 .f32)
    (a12 : Vec Ideal S3x192 .f32) (a13 : Vec Ideal S3x96x192x1x1 .f32) (a14 : Vec Ideal S3x96 .f32)
    (a15 : Vec Ideal S3x192x96x1x1 .f32) (a16 : Vec Ideal S3x192 .f32) (a17 : Vec Ideal S3x192x1x3x3 .f32)
    (a18 : Vec Ideal S3x192 .f32) (a19 : Vec Ideal S3x96x192x1x1 .f32) (a20 : Vec Ideal S3x96 .f32)
    (a21 : Vec Ideal S3x80x96x1x1 .f32) (a22 : Vec Ideal S3x80 .f32) (a23 : Vec Ideal S3x4x96x1x1 .f32)
    (a24 : Vec Ideal S3x4 .f32) (a25 : Vec Ideal S3x1x96x1x1 .f32) (a26 : Vec Ideal S3x1 .f32)
    (h : fn (F := Ideal) a0 a1 a2 a3 a4 a5 a6 a7 a8 a9 a10 a11 a12 a13 a14 a15 a16 a17 a18 a19 a20 a21 a22 a23 a24 a25 a26
      = fun _ => 1#1) :
    Holds (inputsOf a0 a1 a2 a3 a5 a7 a9 a11 a13 a14 a15 a17 a19 a20 a21 a22 a23 a24 a25 a26)
      a0 a1 a2 a3 a4 a5 a6 a7 a8 a9 a10 a11 a12 a13 a14 a15 a16 a17 a18 a19 a20 a21 a22 a23 a24 a25 a26 := by
  have e := congrFun h (fun d => d.elim0)
  unfold fn fn_part1 fn_part2 fn_part3 fn_part4 fn_part5 fn_part6 fn_part7 at e
  dsimp only [andi] at e
  simp only [IntOp.andi_eq_one] at e
  obtain ⟨⟨⟨⟨⟨⟨⟨⟨⟨⟨⟨⟨⟨⟨⟨⟨⟨⟨⟨⟨⟨⟨⟨⟨⟨⟨⟨-, e0⟩, e1⟩, e2⟩, e3⟩, e5⟩, e7⟩, e9⟩, e11⟩, e13⟩, e14⟩, e15⟩, e17⟩, e19⟩, e20⟩, e21⟩, e22⟩, e23⟩, e24⟩, e25⟩, e26⟩, e4⟩, e6⟩, e8⟩, e10⟩, e12⟩, e16⟩, e18⟩ := e
  refine
    { x0 := fun b i h w => ?_, x1 := fun b i h w => ?_, x2 := fun b i h w => ?_
      s0 := fun _ _ => real_of_all e3 _, s1 := fun _ _ => real_of_all e5 _, s2 := fun _ _ => real_of_all e7 _
      cls := ⟨fun _ _ _ => real_of_all e9 _, fun _ _ _ _ => real_of_all e11 _, fun _ _ _ => real_of_all e13 _,
        fun _ _ => real_of_all e14 _⟩
      reg := ⟨fun _ _ _ => real_of_all e15 _, fun _ _ _ _ => real_of_all e17 _, fun _ _ _ => real_of_all e19 _,
        fun _ _ => real_of_all e20 _⟩
      heads := ⟨fun _ _ _ => real_of_all e21 _, fun _ _ => real_of_all e22 _, fun _ _ _ => real_of_all e23 _,
        fun _ _ => real_of_all e24 _, fun _ _ => real_of_all e25 _, fun _ => real_of_all e26 _⟩
      z0 := fun _ => zero_of_all e4 _, z1 := fun _ => zero_of_all e6 _, z2 := fun _ => zero_of_all e8 _
      zc1 := fun _ _ => zero_of_all e10 _, zcd := fun _ _ => zero_of_all e12 _
      zr1 := fun _ _ => zero_of_all e16 _, zrd := fun _ _ => zero_of_all e18 _ }
  · refine (real_of_all e0 _).trans ?_
    dsimp only [inputsOf]
    rw [ofNat_val, ofNat_val]
  · refine (real_of_all e1 _).trans ?_
    dsimp only [inputsOf]
    rw [ofNat_val, ofNat_val]
  · refine (real_of_all e2 _).trans ?_
    dsimp only [inputsOf]
    rw [ofNat_val, ofNat_val]

end Cert.Head.Pre

end
-- ==== Proof.Head.RefCommon.lean ====
/- Equations of extended reals that the reference's three levels share. -/
module

public import proofs.«01_k».proof.Proof.Head.Decode
public import proofs.«01_k».proof.Proof.Head.Inputs

@[expose] public section

noncomputable section

namespace Cert.Head

open Idealize.ShloMosaic
open scoped BigOperators

/-- The dot product with the weights on the left. -/
theorem coe_dot_comm {n : ℕ} (f g : Fin n → ℝ) : ∑ i, (g i : EReal) * (f i : EReal) = ((∑ i, f i * g i : ℝ) : EReal) := by
  rw [← coe_dot]; exact Finset.sum_congr rfl fun i _ => mul_comm _ _

/-- The integer zero as a float is zero. -/
theorem sitofp_zero : FloatOps.sitofp (F := Ideal) .f32 0#32 = (0 : EReal) := by
  show ((((0#32 : BitVec 32).toInt : ℤ) : ℝ) : EReal) = 0
  simp

/-- Padding an image by one pixel of zeros on each side. -/
theorem border_pad {H W : ℕ} (E : ℕ → ℕ → ℝ) (h w : ℕ) :
    (if (1 ≤ h ∧ h - 1 < H) ∧ 1 ≤ w ∧ w - 1 < W then ((E (h - 1) (w - 1) : ℝ) : EReal) else 0)
      = ((border H W E h w : ℝ) : EReal) := by
  unfold border
  split_ifs with h1 h2 h2 <;> first | rfl | omega

/-- The four parts of the reference's prediction, decoded: the box's centre, its size, the object score, the classes. -/
theorem ref_decode (s : ℝ) (h w : ℕ) (hh : h < 2 ^ 16) (hw : w < 2 ^ 16) (l : Fin 85) (f : Fin 85 → ℝ) :
    (if _ : l.val < 2 then
        ((f ⟨l.val, by omega⟩ : EReal) + if _ : l.val < 1 then FloatOps.sitofp (F := Ideal) .f32 (BitVec.ofNat 32 w)
          else FloatOps.sitofp (F := Ideal) .f32 (BitVec.ofNat 32 h)) * (s : EReal)
      else if _ : l.val - 2 < 2 then Ideal.exp ((f ⟨2 + (l.val - 2), by omega⟩ : ℝ) : EReal) * (s : EReal)
      else if _ : l.val - 2 - 2 < 1 then Ideal.div 1 (1 + Ideal.exp (-((f ⟨4, by omega⟩ : ℝ) : EReal)))
      else Ideal.div 1 (1 + Ideal.exp (-((f ⟨5 + (l.val - 2 - 2 - 1), by omega⟩ : ℝ) : EReal))))
      = ((decode s h w l (f l) : ℝ) : EReal) := by
  have e : ∀ n (hn : n < 85), n = l.val → f ⟨n, hn⟩ = f l := fun n hn q => congrArg f (Fin.ext q)
  unfold decode
  split_ifs with h0 h1 h2 h3 h4 h5 h6 h7 <;> first
    | omega
    | rw [float_word _ hw, ← EReal.coe_add, ← EReal.coe_mul]
    | rw [float_word _ hh, ← EReal.coe_add, ← EReal.coe_mul]
    | rw [e _ _ (by omega), Ideal.exp_coe, ← EReal.coe_mul]
    | rw [e _ _ (by omega), ref_sigmoid]

variable {K : ℕ} (sw : Fin 96 → Fin K → ℝ) (C R : Branches) (P : Heads) (k : Fin 3) (H W : ℕ)
  (X : ℕ → ℕ → Fin K → ℝ) (h w : ℕ)

/-- The score of a class is the classification features' prediction. -/
theorem score_cls (l : Fin 80) : score H W (levelAt sw C R P k) X h w ⟨5 + l.val, by omega⟩
    = (∑ j, feat H W (C.at k) (fun h w => stem sw (X h w)) h w j * P.cw k l j) + P.cb k l := by
  have e : (⟨5 + l.val - 5, by omega⟩ : Fin 80) = l := Fin.ext (by show 5 + l.val - 5 = l.val; omega)
  unfold score levelAt
  simp only [dif_neg (by omega : ¬ 5 + l.val < 4), dif_neg (by omega : ¬ 5 + l.val < 5), if_neg (by omega : ¬ 5 + l.val < 5), e]

/-- The score of a side of the box is the regression features' prediction. -/
theorem score_box (l : Fin 4) : score H W (levelAt sw C R P k) X h w ⟨l.val, by omega⟩
    = (∑ j, feat H W (R.at k) (fun h w => stem sw (X h w)) h w j * P.rw k l j) + P.rb k l := by
  unfold score levelAt
  simp only [dif_pos l.isLt, if_pos (by omega : l.val < 5)]

/-- The object score is the regression features' prediction. -/
theorem score_obj : score H W (levelAt sw C R P k) X h w ⟨4, by omega⟩
    = (∑ j, feat H W (R.at k) (fun h w => stem sw (X h w)) h w j * P.ow k j) + P.ob k := by
  unfold score levelAt
  simp only [dif_neg (by omega : ¬ 4 < 4), dif_pos (by omega : 4 < 5), if_pos (by omega : 4 < 5)]

end Cert.Head

end
-- ==== Proof.Head.R0.lean ====
/- The reference's first level, 80 by 80 pixels: what each value it computes is over the real numbers. -/
module

public import proofs.«01_k».proof.Proof.Head.RefCommon
public import proofs.«01_k».proof.Proof.Gen.ReferenceIdeal.Read
public import Idealize.ShloMosaic.Lib.Pointwise

@[expose] public section

set_option maxRecDepth 16384

noncomputable section

namespace Cert.Head.R0

open Idealize.ShloMosaic Cert.ReferenceIdeal Cert.ReferenceIdeal.Gen Cert.ReferenceIdeal.Read
open scoped BigOperators

variable {a0 : Vec Ideal S16x128x80x80 .f32} {a3 : Vec Ideal S96x128x1x1 .f32} {a4 : Vec Ideal S96 .f32}
  {a9 : Vec Ideal S3x192x96x1x1 .f32} {a10 : Vec Ideal S3x192 .f32} {a11 : Vec Ideal S3x192x1x3x3 .f32}
  {a12 : Vec Ideal S3x192 .f32} {a13 : Vec Ideal S3x96x192x1x1 .f32} {a14 : Vec Ideal S3x96 .f32}
  {a15 : Vec Ideal S3x192x96x1x1 .f32} {a16 : Vec Ideal S3x192 .f32} {a17 : Vec Ideal S3x192x1x3x3 .f32}
  {a18 : Vec Ideal S3x192 .f32} {a19 : Vec Ideal S3x96x192x1x1 .f32} {a20 : Vec Ideal S3x96 .f32}
  {a21 : Vec Ideal S3x80x96x1x1 .f32} {a22 : Vec Ideal S3x80 .f32} {a23 : Vec Ideal S3x4x96x1x1 .f32}
  {a24 : Vec Ideal S3x4 .f32} {a25 : Vec Ideal S3x1x96x1x1 .f32} {a26 : Vec Ideal S3x1 .f32}

/-- The stem. -/
theorem stem_apply {X : Fin 16 → ℕ → ℕ → Fin 128 → ℝ} {sw : Fin 96 → Fin 128 → ℝ}
    (hx : ∀ b i (h w : Fin 80), a0 (ix4 b i h w) = ((X b h w i : ℝ) : EReal))
    (hs : ∀ j i, a3 (ix4 j i 0 0) = ((sw j i : ℝ) : EReal)) (hz : ∀ j, a4 (ix1 j) = 0) (b : Fin 16) (c : Fin 96) (h w : Fin 80) :
    val_main_v6 (F := Ideal) a0 a3 a4 (ix4 b c h w) = ((stem sw (X b h w) c : ℝ) : EReal) := by
  pointwise [val_main_v0, val_main_v1, val_main_v2, val_main_v3, val_main_v4, val_main_v5, val_main_v6, val_main_call0_v0,
    val_main_call0_v1, val_main_call0_cst, val_main_call0_v2, val_main_call0_v3, val_main_call0_cst_0,
    val_main_call0_v4, val_main_call0_v5, dot_S96x128_S16x128x80x80_S96x16x80x80_1_1_0_023_n_n]
  simp only [hx, hs, hz, add_zero, coe_dot_comm, ref_silu]
  rfl

section Branch

variable {A : Fin 16 → ℕ → ℕ → Fin 96 → ℝ} {B : Branches}

/-- The expansion of a branch. -/
theorem expand_apply (hA : ∀ b c (h w : Fin 80), val_main_v6 (F := Ideal) a0 a3 a4 (ix4 b c h w) = ((A b h w c : ℝ) : EReal))
    (HB : HoldsBranch B a9 a11 a13 a14) (z1 : ∀ k o, a10 (ix2 k o) = 0) (b : Fin 16) (o : Fin 192) (h w : Fin 80) :
    val_main_v25 (F := Ideal) a0 a3 a4 a9 a10 (ix4 b o h w) = ((expand (B.at 0).w1 (A b h w) o : ℝ) : EReal) := by
  pointwise [val_main_v7, val_main_v8, val_main_v9, val_main_v10, val_main_v19, val_main_v20, val_main_v21, val_main_v22,
    val_main_v23, val_main_v24, val_main_v25, val_main_call1_v0, val_main_call1_v1, val_main_call1_cst,
    val_main_call1_v2, val_main_call1_v3, val_main_call1_cst_0, val_main_call1_v4, val_main_call1_v5,
    dot_S192x96_S16x96x80x80_S192x16x80x80_1_1_0_023_n_n]
  simp only [hA, HB.w1, z1, add_zero, coe_dot_comm, ref_silu]
  rfl

/-- The expansion with its border of zeros. -/
theorem pad_apply {E : Fin 16 → Fin 192 → ℕ → ℕ → ℝ}
    (hE : ∀ b o (h w : Fin 80), val_main_v25 (F := Ideal) a0 a3 a4 a9 a10 (ix4 b o h w) = ((E b o h w : ℝ) : EReal))
    (b : Fin 16) (o : Fin 192) (h w : Fin 82) :
    val_main_v26 (F := Ideal) a0 a3 a4 a9 a10 (ix4 b o h w) = ((border 80 80 (E b o) h w : ℝ) : EReal) := by
  pointwise [val_main_v26, val_main_c, val_main_call2_v0]
  rw [sitofp_zero]
  simp only [hE]
  exact border_pad (E b o) h w

/-- The nine products of the depthwise convolution. -/
theorem taps_apply {E : Fin 16 → Fin 192 → ℕ → ℕ → ℝ} (hE : ∀ b o (h w : Fin 82),
      val_main_v26 (F := Ideal) a0 a3 a4 a9 a10 (ix4 b o h w) = ((border 80 80 (E b o) h w : ℝ) : EReal))
    (HB : HoldsBranch B a9 a11 a13 a14) (zd : ∀ k o, a12 (ix2 k o) = 0) (b : Fin 16) (o : Fin 192) (h w : Fin 80) :
    @Eq EReal (val_main_v93 (F := Ideal) a0 a3 a4 a9 a10 a11 a12 (ix4 b o h w))
      ((taps 80 80 (E b o) ((B.at 0).wd o) h w : ℝ) : EReal) := by
  pointwise [val_main_v11, val_main_v12, val_main_v13, val_main_v14, val_main_v27, val_main_v28, val_main_v29, val_main_v30,
    val_main_v31, val_main_v32, val_main_v33, val_main_v34, val_main_v35, val_main_v36, val_main_v37, val_main_v38,
    val_main_v39, val_main_v40, val_main_v41, val_main_v42, val_main_v43, val_main_v44, val_main_v45, val_main_v46,
    val_main_v47, val_main_v48, val_main_v49, val_main_v50, val_main_v51, val_main_v52, val_main_v53, val_main_v54,
    val_main_v55, val_main_v56, val_main_v57, val_main_v58, val_main_v59, val_main_v60, val_main_v61, val_main_v62,
    val_main_v63, val_main_v64, val_main_v65, val_main_v66, val_main_v67, val_main_v68, val_main_v69, val_main_v70,
    val_main_v71, val_main_v72, val_main_v73, val_main_v74, val_main_v75, val_main_v76, val_main_v77, val_main_v78,
    val_main_v79, val_main_v80, val_main_v81, val_main_v82, val_main_v83, val_main_v84, val_main_v85, val_main_v86,
    val_main_v87, val_main_v88, val_main_v89, val_main_v90, val_main_v91, val_main_v92, val_main_v93, val_main_cst]
  simp only [hE, HB.wd, zd, add_zero, Nat.add_comm 1, Nat.add_comm 2, ← EReal.coe_mul, ← EReal.coe_add]
  rfl

/-- The depthwise stage. -/
theorem depth_apply {T : Fin 16 → Fin 192 → ℕ → ℕ → ℝ} (hT : ∀ b o (h w : Fin 80),
      @Eq EReal (val_main_v93 (F := Ideal) a0 a3 a4 a9 a10 a11 a12 (ix4 b o h w)) ((T b o h w : ℝ) : EReal))
    (b : Fin 16) (o : Fin 192) (h w : Fin 80) :
    val_main_v94 (F := Ideal) a0 a3 a4 a9 a10 a11 a12 (ix4 b o h w) = ((silu (T b o h w) : ℝ) : EReal) := by
  pointwise [val_main_v94, val_main_call3_v0, val_main_call3_v1, val_main_call3_cst, val_main_call3_v2, val_main_call3_v3,
    val_main_call3_cst_0, val_main_call3_v4, val_main_call3_v5]
  rw [hT]
  exact ref_silu _

/-- The features of the classification branch, from the stem and the depthwise stage. -/
theorem feat_apply {D : Fin 16 → Fin 192 → ℕ → ℕ → ℝ}
    (hA : ∀ b c (h w : Fin 80), val_main_v6 (F := Ideal) a0 a3 a4 (ix4 b c h w) = ((A b h w c : ℝ) : EReal))
    (hD : ∀ b o (h w : Fin 80), val_main_v94 (F := Ideal) a0 a3 a4 a9 a10 a11 a12 (ix4 b o h w) = ((D b o h w : ℝ) : EReal))
    (HB : HoldsBranch B a9 a11 a13 a14) (b : Fin 16) (c : Fin 96) (h w : Fin 80) :
    val_main_v101 (F := Ideal) a0 a3 a4 a9 a10 a11 a12 a13 a14 (ix4 b c h w)
      = ((A b h w c + ((∑ o, D b o h w * (B.at 0).w2 c o) + (B.at 0).b2 c) : ℝ) : EReal) := by
  pointwise [val_main_v15, val_main_v16, val_main_v17, val_main_v18, val_main_v95, val_main_v96, val_main_v97, val_main_v98,
    val_main_v99, val_main_v100, val_main_v101, dot_S96x192_S16x192x80x80_S96x16x80x80_1_1_0_023_n_n]
  simp only [hA, hD, HB.w2, HB.b2, coe_dot_comm, ← EReal.coe_add]
  rfl

/-- The features of the classification branch. -/
theorem branch_apply (hA : ∀ b c (h w : Fin 80), val_main_v6 (F := Ideal) a0 a3 a4 (ix4 b c h w) = ((A b h w c : ℝ) : EReal))
    (HB : HoldsBranch B a9 a11 a13 a14) (z1 : ∀ k o, a10 (ix2 k o) = 0) (zd : ∀ k o, a12 (ix2 k o) = 0)
    (b : Fin 16) (c : Fin 96) (h w : Fin 80) :
    val_main_v101 (F := Ideal) a0 a3 a4 a9 a10 a11 a12 a13 a14 (ix4 b c h w) = ((feat 80 80 (B.at 0) (A b) h w c : ℝ) : EReal) :=
  feat_apply (D := fun b o h w => depth 80 80 (B.at 0) (A b) h w o) hA (depth_apply (T := fun b o h w => taps 80 80 (fun h w => expand (B.at 0).w1 (A b h w) o) ((B.at 0).wd o) h w)
    (taps_apply (E := fun b o h w => expand (B.at 0).w1 (A b h w) o)
      (pad_apply (E := fun b o h w => expand (B.at 0).w1 (A b h w) o) (expand_apply hA HB z1)) HB zd)) HB b c h w

end Branch

/-- The regression branch is the classification branch at the other weights. -/
theorem reg_eq {F : FTy → Type} [FloatOps F] : @val_main_v196 F _ = @val_main_v101 F _ := rfl

section Heads

variable {P : Heads} {G : Fin 16 → ℕ → ℕ → Fin 96 → ℝ}

/-- The class predictions. -/
theorem cls_apply (HP : HoldsHeads P a21 a22 a23 a24 a25 a26) (hG : ∀ b c (h w : Fin 80),
      val_main_v101 (F := Ideal) a0 a3 a4 a9 a10 a11 a12 a13 a14 (ix4 b c h w) = ((G b h w c : ℝ) : EReal))
    (b : Fin 16) (l : Fin 80) (h w : Fin 80) : val_main_v206 (F := Ideal) a0 a3 a4 a9 a10 a11 a12 a13 a14 a21 a22 (ix4 b l h w)
      = (((∑ j, G b h w j * P.cw 0 l j) + P.cb 0 l : ℝ) : EReal) := by
  pointwise [val_main_v197, val_main_v198, val_main_v199, val_main_v200, val_main_v201, val_main_v202, val_main_v203,
    val_main_v204, val_main_v205, val_main_v206, dot_S80x96_S16x96x80x80_S80x16x80x80_1_1_0_023_n_n]
  simp only [hG, HP.cw, HP.cb, coe_dot_comm, ← EReal.coe_add]

/-- The box predictions. -/
theorem box_apply (HP : HoldsHeads P a21 a22 a23 a24 a25 a26) (hG : ∀ b c (h w : Fin 80),
      val_main_v196 (F := Ideal) a0 a3 a4 a15 a16 a17 a18 a19 a20 (ix4 b c h w) = ((G b h w c : ℝ) : EReal))
    (b : Fin 16) (l : Fin 4) (h w : Fin 80) : val_main_v216 (F := Ideal) a0 a3 a4 a15 a16 a17 a18 a19 a20 a23 a24 (ix4 b l h w)
      = (((∑ j, G b h w j * P.rw 0 l j) + P.rb 0 l : ℝ) : EReal) := by
  pointwise [val_main_v207, val_main_v208, val_main_v209, val_main_v210, val_main_v211, val_main_v212, val_main_v213,
    val_main_v214, val_main_v215, val_main_v216, dot_S4x96_S16x96x80x80_S4x16x80x80_1_1_0_023_n_n]
  simp only [hG, HP.rw, HP.rb, coe_dot_comm, ← EReal.coe_add]

/-- The object predictions. -/
theorem obj_apply (HP : HoldsHeads P a21 a22 a23 a24 a25 a26) (hG : ∀ b c (h w : Fin 80),
      val_main_v196 (F := Ideal) a0 a3 a4 a15 a16 a17 a18 a19 a20 (ix4 b c h w) = ((G b h w c : ℝ) : EReal))
    (b : Fin 16) (h w : Fin 80) : val_main_v226 (F := Ideal) a0 a3 a4 a15 a16 a17 a18 a19 a20 a25 a26 (ix4 b 0 h w)
      = (((∑ j, G b h w j * P.ow 0 j) + P.ob 0 : ℝ) : EReal) := by
  pointwise [val_main_v217, val_main_v218, val_main_v219, val_main_v220, val_main_v221, val_main_v222, val_main_v223,
    val_main_v224, val_main_v225, val_main_v226, dot_S1x96_S16x96x80x80_S1x16x80x80_1_1_0_023_n_n]
  simp only [hG, HP.ow, HP.ob, coe_dot_comm, ← EReal.coe_add]

/-- The level's rows, from its three predictions. -/
theorem level_apply {f : Fin 16 → ℕ → ℕ → Fin 85 → ℝ}
    (hc : ∀ b (l : Fin 80) (h w : Fin 80), val_main_v206 (F := Ideal) a0 a3 a4 a9 a10 a11 a12 a13 a14 a21 a22 (ix4 b l h w)
      = ((f b h w ⟨5 + l.val, by omega⟩ : ℝ) : EReal))
    (hr : ∀ b (l : Fin 4) (h w : Fin 80), val_main_v216 (F := Ideal) a0 a3 a4 a15 a16 a17 a18 a19 a20 a23 a24 (ix4 b l h w)
      = ((f b h w ⟨l.val, by omega⟩ : ℝ) : EReal))
    (ho : ∀ b (l : Fin 1) (h w : Fin 80), val_main_v226 (F := Ideal) a0 a3 a4 a15 a16 a17 a18 a19 a20 a25 a26 (ix4 b l h w)
      = ((f b h w ⟨4, by omega⟩ : ℝ) : EReal))
    (b : Fin 16) (p : Fin 6400) (l : Fin 85) :
    val_main_v258 (F := Ideal) a0 a3 a4 a9 a10 a11 a12 a13 a14 a15 a16 a17 a18 a19 a20 a21 a22 a23 a24 a25 a26 (ix3 b p l)
      = ((decode 8 (p.val / 80) (p.val % 80) l (f b (p.val / 80) (p.val % 80) l) : ℝ) : EReal) := by
  pointwise [val_main_v227, val_main_v228, val_main_v229, val_main_v230, val_main_v231, val_main_v232, val_main_v233,
    val_main_v234, val_main_v235, val_main_v236, val_main_v237, val_main_v238, val_main_v239, val_main_v240,
    val_main_v241, val_main_v242, val_main_v243, val_main_v244, val_main_v245, val_main_v246, val_main_v247,
    val_main_v248, val_main_v249, val_main_v250, val_main_v251, val_main_v252, val_main_v253, val_main_v254,
    val_main_v255, val_main_v256, val_main_v257, val_main_v258, val_main_cst_2, val_main_cst_3, val_main_cst_4,
    val_main_cst_5, val_main_cst_6, val_main_cst_7]
  simp only [hc, hr, ho, ofBits_8]
  exact ref_decode 8 (p.val / 80) (p.val % 80) (by omega) (by omega) l (f b (p.val / 80) (p.val % 80))

end Heads

/-- The level's rows are the result's. -/
theorem result_apply {X : Fin 16 → ℕ → ℕ → Fin 128 → ℝ} {sw : Fin 96 → Fin 128 → ℝ} {C R : Branches} {P : Heads}
    (hx : ∀ b i (h w : Fin 80), a0 (ix4 b i h w) = ((X b h w i : ℝ) : EReal))
    (hs : ∀ j i, a3 (ix4 j i 0 0) = ((sw j i : ℝ) : EReal)) (hz : ∀ j, a4 (ix1 j) = 0)
    (HC : HoldsBranch C a9 a11 a13 a14) (HR : HoldsBranch R a15 a17 a19 a20) (HP : HoldsHeads P a21 a22 a23 a24 a25 a26)
    (zc1 : ∀ k o, a10 (ix2 k o) = 0) (zcd : ∀ k o, a12 (ix2 k o) = 0) (zr1 : ∀ k o, a16 (ix2 k o) = 0)
    (zrd : ∀ k o, a18 (ix2 k o) = 0) (b : Fin 16) (p : Fin 6400) (l : Fin 85) :
    val_main_v258 (F := Ideal) a0 a3 a4 a9 a10 a11 a12 a13 a14 a15 a16 a17 a18 a19 a20 a21 a22 a23 a24 a25 a26 (ix3 b p l)
      = ((result 8 80 80 (levelAt sw C R P 0) (X b) (p.val / 80) (p.val % 80) l : ℝ) : EReal) := by
  have hA := stem_apply hx hs hz
  have hC := branch_apply (A := fun b h w => stem sw (X b h w)) hA HC zc1 zcd
  have hR : ∀ b c (h w : Fin 80), val_main_v196 (F := Ideal) a0 a3 a4 a15 a16 a17 a18 a19 a20 (ix4 b c h w)
      = ((feat 80 80 (R.at 0) (fun h w => stem sw (X b h w)) h w c : ℝ) : EReal) := by
    rw [reg_eq]
    exact branch_apply (A := fun b h w => stem sw (X b h w)) hA HR zr1 zrd
  refine level_apply (f := fun b h w l => score 80 80 (levelAt sw C R P 0) (X b) h w l) (fun b l h w => ?_) (fun b l h w => ?_)
    (fun b l h w => ?_) b p l
  · exact (cls_apply (G := fun b h w c => feat 80 80 (C.at 0) (fun h w => stem sw (X b h w)) h w c) HP hC b l h w).trans
      (congrArg Real.toEReal (score_cls sw C R P 0 80 80 (X b) h w l).symm)
  · exact (box_apply (G := fun b h w c => feat 80 80 (R.at 0) (fun h w => stem sw (X b h w)) h w c) HP hR b l h w).trans
      (congrArg Real.toEReal (score_box sw C R P 0 80 80 (X b) h w l).symm)
  · rw [Subsingleton.elim l 0]
    exact (obj_apply (G := fun b h w c => feat 80 80 (R.at 0) (fun h w => stem sw (X b h w)) h w c) HP hR b h w).trans
      (congrArg Real.toEReal (score_obj sw C R P 0 80 80 (X b) h w).symm)

end Cert.Head.R0

end
-- ==== Proof.Head.R1.lean ====
/- The reference's second level, 40 by 40 pixels: what each value it computes is over the real numbers. -/
module

public import proofs.«01_k».proof.Proof.Head.RefCommon
public import proofs.«01_k».proof.Proof.Gen.ReferenceIdeal.Read
public import Idealize.ShloMosaic.Lib.Pointwise

@[expose] public section

set_option maxRecDepth 16384

noncomputable section

namespace Cert.Head.R1

open Idealize.ShloMosaic Cert.ReferenceIdeal Cert.ReferenceIdeal.Gen Cert.ReferenceIdeal.Read
open scoped BigOperators

variable {a1 : Vec Ideal S16x256x40x40 .f32} {a5 : Vec Ideal S96x256x1x1 .f32} {a6 : Vec Ideal S96 .f32}
  {a9 : Vec Ideal S3x192x96x1x1 .f32} {a10 : Vec Ideal S3x192 .f32} {a11 : Vec Ideal S3x192x1x3x3 .f32}
  {a12 : Vec Ideal S3x192 .f32} {a13 : Vec Ideal S3x96x192x1x1 .f32} {a14 : Vec Ideal S3x96 .f32}
  {a15 : Vec Ideal S3x192x96x1x1 .f32} {a16 : Vec Ideal S3x192 .f32} {a17 : Vec Ideal S3x192x1x3x3 .f32}
  {a18 : Vec Ideal S3x192 .f32} {a19 : Vec Ideal S3x96x192x1x1 .f32} {a20 : Vec Ideal S3x96 .f32}
  {a21 : Vec Ideal S3x80x96x1x1 .f32} {a22 : Vec Ideal S3x80 .f32} {a23 : Vec Ideal S3x4x96x1x1 .f32}
  {a24 : Vec Ideal S3x4 .f32} {a25 : Vec Ideal S3x1x96x1x1 .f32} {a26 : Vec Ideal S3x1 .f32}

/-- The stem. -/
theorem stem_apply {X : Fin 16 → ℕ → ℕ → Fin 256 → ℝ} {sw : Fin 96 → Fin 256 → ℝ}
    (hx : ∀ b i (h w : Fin 40), a1 (ix4 b i h w) = ((X b h w i : ℝ) : EReal))
    (hs : ∀ j i, a5 (ix4 j i 0 0) = ((sw j i : ℝ) : EReal)) (hz : ∀ j, a6 (ix1 j) = 0) (b : Fin 16) (c : Fin 96) (h w : Fin 40) :
    val_main_v265 (F := Ideal) a1 a5 a6 (ix4 b c h w) = ((stem sw (X b h w) c : ℝ) : EReal) := by
  pointwise [val_main_v259, val_main_v260, val_main_v261, val_main_v262, val_main_v263, val_main_v264, val_main_v265,
    val_main_call7_v0, val_main_call7_v1, val_main_call7_cst, val_main_call7_v2, val_main_call7_v3,
    val_main_call7_cst_0, val_main_call7_v4, val_main_call7_v5, dot_S96x256_S16x256x40x40_S96x16x40x40_1_1_0_023_n_n]
  simp only [hx, hs, hz, add_zero, coe_dot_comm, ref_silu]
  rfl

section Branch

variable {A : Fin 16 → ℕ → ℕ → Fin 96 → ℝ} {B : Branches}

/-- The expansion of a branch. -/
theorem expand_apply (hA : ∀ b c (h w : Fin 40), val_main_v265 (F := Ideal) a1 a5 a6 (ix4 b c h w) = ((A b h w c : ℝ) : EReal))
    (HB : HoldsBranch B a9 a11 a13 a14) (z1 : ∀ k o, a10 (ix2 k o) = 0) (b : Fin 16) (o : Fin 192) (h w : Fin 40) :
    val_main_v284 (F := Ideal) a1 a5 a6 a9 a10 (ix4 b o h w) = ((expand (B.at 1).w1 (A b h w) o : ℝ) : EReal) := by
  pointwise [val_main_v266, val_main_v267, val_main_v268, val_main_v269, val_main_v278, val_main_v279, val_main_v280,
    val_main_v281, val_main_v282, val_main_v283, val_main_v284, val_main_call8_v0, val_main_call8_v1,
    val_main_call8_cst, val_main_call8_v2, val_main_call8_v3, val_main_call8_cst_0, val_main_call8_v4,
    val_main_call8_v5, dot_S192x96_S16x96x40x40_S192x16x40x40_1_1_0_023_n_n]
  simp only [hA, HB.w1, z1, add_zero, coe_dot_comm, ref_silu]
  rfl

/-- The expansion with its border of zeros. -/
theorem pad_apply {E : Fin 16 → Fin 192 → ℕ → ℕ → ℝ}
    (hE : ∀ b o (h w : Fin 40), val_main_v284 (F := Ideal) a1 a5 a6 a9 a10 (ix4 b o h w) = ((E b o h w : ℝ) : EReal))
    (b : Fin 16) (o : Fin 192) (h w : Fin 42) :
    val_main_v285 (F := Ideal) a1 a5 a6 a9 a10 (ix4 b o h w) = ((border 40 40 (E b o) h w : ℝ) : EReal) := by
  pointwise [val_main_v285, val_main_c_8, val_main_call9_v0]
  rw [sitofp_zero]
  simp only [hE]
  exact border_pad (E b o) h w

/-- The nine products of the depthwise convolution. -/
theorem taps_apply {E : Fin 16 → Fin 192 → ℕ → ℕ → ℝ} (hE : ∀ b o (h w : Fin 42),
      val_main_v285 (F := Ideal) a1 a5 a6 a9 a10 (ix4 b o h w) = ((border 40 40 (E b o) h w : ℝ) : EReal))
    (HB : HoldsBranch B a9 a11 a13 a14) (zd : ∀ k o, a12 (ix2 k o) = 0) (b : Fin 16) (o : Fin 192) (h w : Fin 40) :
    @Eq EReal (val_main_v352 (F := Ideal) a1 a5 a6 a9 a10 a11 a12 (ix4 b o h w))
      ((taps 40 40 (E b o) ((B.at 1).wd o) h w : ℝ) : EReal) := by
  pointwise [val_main_v270, val_main_v271, val_main_v272, val_main_v273, val_main_v286, val_main_v287, val_main_v288,
    val_main_v289, val_main_v290, val_main_v291, val_main_v292, val_main_v293, val_main_v294, val_main_v295,
    val_main_v296, val_main_v297, val_main_v298, val_main_v299, val_main_v300, val_main_v301, val_main_v302,
    val_main_v303, val_main_v304, val_main_v305, val_main_v306, val_main_v307, val_main_v308, val_main_v309,
    val_main_v310, val_main_v311, val_main_v312, val_main_v313, val_main_v314, val_main_v315, val_main_v316,
    val_main_v317, val_main_v318, val_main_v319, val_main_v320, val_main_v321, val_main_v322, val_main_v323,
    val_main_v324, val_main_v325, val_main_v326, val_main_v327, val_main_v328, val_main_v329, val_main_v330,
    val_main_v331, val_main_v332, val_main_v333, val_main_v334, val_main_v335, val_main_v336, val_main_v337,
    val_main_v338, val_main_v339, val_main_v340, val_main_v341, val_main_v342, val_main_v343, val_main_v344,
    val_main_v345, val_main_v346, val_main_v347, val_main_v348, val_main_v349, val_main_v350, val_main_v351,
    val_main_v352, val_main_cst_9]
  simp only [hE, HB.wd, zd, add_zero, Nat.add_comm 1, Nat.add_comm 2, ← EReal.coe_mul, ← EReal.coe_add]
  rfl

/-- The depthwise stage. -/
theorem depth_apply {T : Fin 16 → Fin 192 → ℕ → ℕ → ℝ} (hT : ∀ b o (h w : Fin 40),
      @Eq EReal (val_main_v352 (F := Ideal) a1 a5 a6 a9 a10 a11 a12 (ix4 b o h w)) ((T b o h w : ℝ) : EReal))
    (b : Fin 16) (o : Fin 192) (h w : Fin 40) :
    val_main_v353 (F := Ideal) a1 a5 a6 a9 a10 a11 a12 (ix4 b o h w) = ((silu (T b o h w) : ℝ) : EReal) := by
  pointwise [val_main_v353, val_main_call10_v0, val_main_call10_v1, val_main_call10_cst, val_main_call10_v2,
    val_main_call10_v3, val_main_call10_cst_0, val_main_call10_v4, val_main_call10_v5]
  rw [hT]
  exact ref_silu _

/-- The features of the classification branch, from the stem and the depthwise stage. -/
theorem feat_apply {D : Fin 16 → Fin 192 → ℕ → ℕ → ℝ}
    (hA : ∀ b c (h w : Fin 40), val_main_v265 (F := Ideal) a1 a5 a6 (ix4 b c h w) = ((A b h w c : ℝ) : EReal))
    (hD : ∀ b o (h w : Fin 40), val_main_v353 (F := Ideal) a1 a5 a6 a9 a10 a11 a12 (ix4 b o h w) = ((D b o h w : ℝ) : EReal))
    (HB : HoldsBranch B a9 a11 a13 a14) (b : Fin 16) (c : Fin 96) (h w : Fin 40) :
    val_main_v360 (F := Ideal) a1 a5 a6 a9 a10 a11 a12 a13 a14 (ix4 b c h w)
      = ((A b h w c + ((∑ o, D b o h w * (B.at 1).w2 c o) + (B.at 1).b2 c) : ℝ) : EReal) := by
  pointwise [val_main_v274, val_main_v275, val_main_v276, val_main_v277, val_main_v354, val_main_v355, val_main_v356,
    val_main_v357, val_main_v358, val_main_v359, val_main_v360, dot_S96x192_S16x192x40x40_S96x16x40x40_1_1_0_023_n_n]
  simp only [hA, hD, HB.w2, HB.b2, coe_dot_comm, ← EReal.coe_add]
  rfl

/-- The features of the classification branch. -/
theorem branch_apply (hA : ∀ b c (h w : Fin 40), val_main_v265 (F := Ideal) a1 a5 a6 (ix4 b c h w) = ((A b h w c : ℝ) : EReal))
    (HB : HoldsBranch B a9 a11 a13 a14) (z1 : ∀ k o, a10 (ix2 k o) = 0) (zd : ∀ k o, a12 (ix2 k o) = 0)
    (b : Fin 16) (c : Fin 96) (h w : Fin 40) :
    val_main_v360 (F := Ideal) a1 a5 a6 a9 a10 a11 a12 a13 a14 (ix4 b c h w) = ((feat 40 40 (B.at 1) (A b) h w c : ℝ) : EReal) :=
  feat_apply (D := fun b o h w => depth 40 40 (B.at 1) (A b) h w o) hA (depth_apply (T := fun b o h w => taps 40 40 (fun h w => expand (B.at 1).w1 (A b h w) o) ((B.at 1).wd o) h w)
    (taps_apply (E := fun b o h w => expand (B.at 1).w1 (A b h w) o)
      (pad_apply (E := fun b o h w => expand (B.at 1).w1 (A b h w) o) (expand_apply hA HB z1)) HB zd)) HB b c h w

end Branch

/-- The regression branch is the classification branch at the other weights. -/
theorem reg_eq {F : FTy → Type} [FloatOps F] : @val_main_v455 F _ = @val_main_v360 F _ := rfl

section Heads

variable {P : Heads} {G : Fin 16 → ℕ → ℕ → Fin 96 → ℝ}

/-- The class predictions. -/
theorem cls_apply (HP : HoldsHeads P a21 a22 a23 a24 a25 a26) (hG : ∀ b c (h w : Fin 40),
      val_main_v360 (F := Ideal) a1 a5 a6 a9 a10 a11 a12 a13 a14 (ix4 b c h w) = ((G b h w c : ℝ) : EReal))
    (b : Fin 16) (l : Fin 80) (h w : Fin 40) : val_main_v465 (F := Ideal) a1 a5 a6 a9 a10 a11 a12 a13 a14 a21 a22 (ix4 b l h w)
      = (((∑ j, G b h w j * P.cw 1 l j) + P.cb 1 l : ℝ) : EReal) := by
  pointwise [val_main_v456, val_main_v457, val_main_v458, val_main_v459, val_main_v460, val_main_v461, val_main_v462,
    val_main_v463, val_main_v464, val_main_v465, dot_S80x96_S16x96x40x40_S80x16x40x40_1_1_0_023_n_n]
  simp only [hG, HP.cw, HP.cb, coe_dot_comm, ← EReal.coe_add]

/-- The box predictions. -/
theorem box_apply (HP : HoldsHeads P a21 a22 a23 a24 a25 a26) (hG : ∀ b c (h w : Fin 40),
      val_main_v455 (F := Ideal) a1 a5 a6 a15 a16 a17 a18 a19 a20 (ix4 b c h w) = ((G b h w c : ℝ) : EReal))
    (b : Fin 16) (l : Fin 4) (h w : Fin 40) : val_main_v475 (F := Ideal) a1 a5 a6 a15 a16 a17 a18 a19 a20 a23 a24 (ix4 b l h w)
      = (((∑ j, G b h w j * P.rw 1 l j) + P.rb 1 l : ℝ) : EReal) := by
  pointwise [val_main_v466, val_main_v467, val_main_v468, val_main_v469, val_main_v470, val_main_v471, val_main_v472,
    val_main_v473, val_main_v474, val_main_v475, dot_S4x96_S16x96x40x40_S4x16x40x40_1_1_0_023_n_n]
  simp only [hG, HP.rw, HP.rb, coe_dot_comm, ← EReal.coe_add]

/-- The object predictions. -/
theorem obj_apply (HP : HoldsHeads P a21 a22 a23 a24 a25 a26) (hG : ∀ b c (h w : Fin 40),
      val_main_v455 (F := Ideal) a1 a5 a6 a15 a16 a17 a18 a19 a20 (ix4 b c h w) = ((G b h w c : ℝ) : EReal))
    (b : Fin 16) (h w : Fin 40) : val_main_v485 (F := Ideal) a1 a5 a6 a15 a16 a17 a18 a19 a20 a25 a26 (ix4 b 0 h w)
      = (((∑ j, G b h w j * P.ow 1 j) + P.ob 1 : ℝ) : EReal) := by
  pointwise [val_main_v476, val_main_v477, val_main_v478, val_main_v479, val_main_v480, val_main_v481, val_main_v482,
    val_main_v483, val_main_v484, val_main_v485, dot_S1x96_S16x96x40x40_S1x16x40x40_1_1_0_023_n_n]
  simp only [hG, HP.ow, HP.ob, coe_dot_comm, ← EReal.coe_add]

/-- The level's rows, from its three predictions. -/
theorem level_apply {f : Fin 16 → ℕ → ℕ → Fin 85 → ℝ}
    (hc : ∀ b (l : Fin 80) (h w : Fin 40), val_main_v465 (F := Ideal) a1 a5 a6 a9 a10 a11 a12 a13 a14 a21 a22 (ix4 b l h w)
      = ((f b h w ⟨5 + l.val, by omega⟩ : ℝ) : EReal))
    (hr : ∀ b (l : Fin 4) (h w : Fin 40), val_main_v475 (F := Ideal) a1 a5 a6 a15 a16 a17 a18 a19 a20 a23 a24 (ix4 b l h w)
      = ((f b h w ⟨l.val, by omega⟩ : ℝ) : EReal))
    (ho : ∀ b (l : Fin 1) (h w : Fin 40), val_main_v485 (F := Ideal) a1 a5 a6 a15 a16 a17 a18 a19 a20 a25 a26 (ix4 b l h w)
      = ((f b h w ⟨4, by omega⟩ : ℝ) : EReal))
    (b : Fin 16) (p : Fin 1600) (l : Fin 85) :
    val_main_v517 (F := Ideal) a1 a5 a6 a9 a10 a11 a12 a13 a14 a15 a16 a17 a18 a19 a20 a21 a22 a23 a24 a25 a26 (ix3 b p l)
      = ((decode 16 (p.val / 40) (p.val % 40) l (f b (p.val / 40) (p.val % 40) l) : ℝ) : EReal) := by
  pointwise [val_main_v486, val_main_v487, val_main_v488, val_main_v489, val_main_v490, val_main_v491, val_main_v492,
    val_main_v493, val_main_v494, val_main_v495, val_main_v496, val_main_v497, val_main_v498, val_main_v499,
    val_main_v500, val_main_v501, val_main_v502, val_main_v503, val_main_v504, val_main_v505, val_main_v506,
    val_main_v507, val_main_v508, val_main_v509, val_main_v510, val_main_v511, val_main_v512, val_main_v513,
    val_main_v514, val_main_v515, val_main_v516, val_main_v517, val_main_cst_12, val_main_cst_13, val_main_cst_14,
    val_main_cst_15, val_main_cst_16, val_main_cst_17]
  simp only [hc, hr, ho, ofBits_16]
  exact ref_decode 16 (p.val / 40) (p.val % 40) (by omega) (by omega) l (f b (p.val / 40) (p.val % 40))

end Heads

/-- The level's rows are the result's. -/
theorem result_apply {X : Fin 16 → ℕ → ℕ → Fin 256 → ℝ} {sw : Fin 96 → Fin 256 → ℝ} {C R : Branches} {P : Heads}
    (hx : ∀ b i (h w : Fin 40), a1 (ix4 b i h w) = ((X b h w i : ℝ) : EReal))
    (hs : ∀ j i, a5 (ix4 j i 0 0) = ((sw j i : ℝ) : EReal)) (hz : ∀ j, a6 (ix1 j) = 0)
    (HC : HoldsBranch C a9 a11 a13 a14) (HR : HoldsBranch R a15 a17 a19 a20) (HP : HoldsHeads P a21 a22 a23 a24 a25 a26)
    (zc1 : ∀ k o, a10 (ix2 k o) = 0) (zcd : ∀ k o, a12 (ix2 k o) = 0) (zr1 : ∀ k o, a16 (ix2 k o) = 0)
    (zrd : ∀ k o, a18 (ix2 k o) = 0) (b : Fin 16) (p : Fin 1600) (l : Fin 85) :
    val_main_v517 (F := Ideal) a1 a5 a6 a9 a10 a11 a12 a13 a14 a15 a16 a17 a18 a19 a20 a21 a22 a23 a24 a25 a26 (ix3 b p l)
      = ((result 16 40 40 (levelAt sw C R P 1) (X b) (p.val / 40) (p.val % 40) l : ℝ) : EReal) := by
  have hA := stem_apply hx hs hz
  have hC := branch_apply (A := fun b h w => stem sw (X b h w)) hA HC zc1 zcd
  have hR : ∀ b c (h w : Fin 40), val_main_v455 (F := Ideal) a1 a5 a6 a15 a16 a17 a18 a19 a20 (ix4 b c h w)
      = ((feat 40 40 (R.at 1) (fun h w => stem sw (X b h w)) h w c : ℝ) : EReal) := by
    rw [reg_eq]
    exact branch_apply (A := fun b h w => stem sw (X b h w)) hA HR zr1 zrd
  refine level_apply (f := fun b h w l => score 40 40 (levelAt sw C R P 1) (X b) h w l) (fun b l h w => ?_) (fun b l h w => ?_)
    (fun b l h w => ?_) b p l
  · exact (cls_apply (G := fun b h w c => feat 40 40 (C.at 1) (fun h w => stem sw (X b h w)) h w c) HP hC b l h w).trans
      (congrArg Real.toEReal (score_cls sw C R P 1 40 40 (X b) h w l).symm)
  · exact (box_apply (G := fun b h w c => feat 40 40 (R.at 1) (fun h w => stem sw (X b h w)) h w c) HP hR b l h w).trans
      (congrArg Real.toEReal (score_box sw C R P 1 40 40 (X b) h w l).symm)
  · rw [Subsingleton.elim l 0]
    exact (obj_apply (G := fun b h w c => feat 40 40 (R.at 1) (fun h w => stem sw (X b h w)) h w c) HP hR b h w).trans
      (congrArg Real.toEReal (score_obj sw C R P 1 40 40 (X b) h w).symm)

end Cert.Head.R1

end
-- ==== Proof.Head.R2.lean ====
/- The reference's third level, 20 by 20 pixels: what each value it computes is over the real numbers. -/
module

public import proofs.«01_k».proof.Proof.Head.RefCommon
public import proofs.«01_k».proof.Proof.Gen.ReferenceIdeal.Read
public import Idealize.ShloMosaic.Lib.Pointwise

@[expose] public section

set_option maxRecDepth 16384

noncomputable section

namespace Cert.Head.R2

open Idealize.ShloMosaic Cert.ReferenceIdeal Cert.ReferenceIdeal.Gen Cert.ReferenceIdeal.Read
open scoped BigOperators

variable {a2 : Vec Ideal S16x512x20x20 .f32} {a7 : Vec Ideal S96x512x1x1 .f32} {a8 : Vec Ideal S96 .f32}
  {a9 : Vec Ideal S3x192x96x1x1 .f32} {a10 : Vec Ideal S3x192 .f32} {a11 : Vec Ideal S3x192x1x3x3 .f32}
  {a12 : Vec Ideal S3x192 .f32} {a13 : Vec Ideal S3x96x192x1x1 .f32} {a14 : Vec Ideal S3x96 .f32}
  {a15 : Vec Ideal S3x192x96x1x1 .f32} {a16 : Vec Ideal S3x192 .f32} {a17 : Vec Ideal S3x192x1x3x3 .f32}
  {a18 : Vec Ideal S3x192 .f32} {a19 : Vec Ideal S3x96x192x1x1 .f32} {a20 : Vec Ideal S3x96 .f32}
  {a21 : Vec Ideal S3x80x96x1x1 .f32} {a22 : Vec Ideal S3x80 .f32} {a23 : Vec Ideal S3x4x96x1x1 .f32}
  {a24 : Vec Ideal S3x4 .f32} {a25 : Vec Ideal S3x1x96x1x1 .f32} {a26 : Vec Ideal S3x1 .f32}

/-- The stem. -/
theorem stem_apply {X : Fin 16 → ℕ → ℕ → Fin 512 → ℝ} {sw : Fin 96 → Fin 512 → ℝ}
    (hx : ∀ b i (h w : Fin 20), a2 (ix4 b i h w) = ((X b h w i : ℝ) : EReal))
    (hs : ∀ j i, a7 (ix4 j i 0 0) = ((sw j i : ℝ) : EReal)) (hz : ∀ j, a8 (ix1 j) = 0) (b : Fin 16) (c : Fin 96) (h w : Fin 20) :
    val_main_v524 (F := Ideal) a2 a7 a8 (ix4 b c h w) = ((stem sw (X b h w) c : ℝ) : EReal) := by
  pointwise [val_main_v518, val_main_v519, val_main_v520, val_main_v521, val_main_v522, val_main_v523, val_main_v524,
    val_main_call14_v0, val_main_call14_v1, val_main_call14_cst, val_main_call14_v2, val_main_call14_v3,
    val_main_call14_cst_0, val_main_call14_v4, val_main_call14_v5,
    dot_S96x512_S16x512x20x20_S96x16x20x20_1_1_0_023_n_n]
  simp only [hx, hs, hz, add_zero, coe_dot_comm, ref_silu]
  rfl

section Branch

variable {A : Fin 16 → ℕ → ℕ → Fin 96 → ℝ} {B : Branches}

/-- The expansion of a branch. -/
theorem expand_apply (hA : ∀ b c (h w : Fin 20), val_main_v524 (F := Ideal) a2 a7 a8 (ix4 b c h w) = ((A b h w c : ℝ) : EReal))
    (HB : HoldsBranch B a9 a11 a13 a14) (z1 : ∀ k o, a10 (ix2 k o) = 0) (b : Fin 16) (o : Fin 192) (h w : Fin 20) :
    val_main_v543 (F := Ideal) a2 a7 a8 a9 a10 (ix4 b o h w) = ((expand (B.at 2).w1 (A b h w) o : ℝ) : EReal) := by
  pointwise [val_main_v525, val_main_v526, val_main_v527, val_main_v528, val_main_v537, val_main_v538, val_main_v539,
    val_main_v540, val_main_v541, val_main_v542, val_main_v543, val_main_call15_v0, val_main_call15_v1,
    val_main_call15_cst, val_main_call15_v2, val_main_call15_v3, val_main_call15_cst_0, val_main_call15_v4,
    val_main_call15_v5, dot_S192x96_S16x96x20x20_S192x16x20x20_1_1_0_023_n_n]
  simp only [hA, HB.w1, z1, add_zero, coe_dot_comm, ref_silu]
  rfl

/-- The expansion with its border of zeros. -/
theorem pad_apply {E : Fin 16 → Fin 192 → ℕ → ℕ → ℝ}
    (hE : ∀ b o (h w : Fin 20), val_main_v543 (F := Ideal) a2 a7 a8 a9 a10 (ix4 b o h w) = ((E b o h w : ℝ) : EReal))
    (b : Fin 16) (o : Fin 192) (h w : Fin 22) :
    val_main_v544 (F := Ideal) a2 a7 a8 a9 a10 (ix4 b o h w) = ((border 20 20 (E b o) h w : ℝ) : EReal) := by
  pointwise [val_main_v544, val_main_c_18, val_main_call16_v0]
  rw [sitofp_zero]
  simp only [hE]
  exact border_pad (E b o) h w

/-- The nine products of the depthwise convolution. -/
theorem taps_apply {E : Fin 16 → Fin 192 → ℕ → ℕ → ℝ} (hE : ∀ b o (h w : Fin 22),
      val_main_v544 (F := Ideal) a2 a7 a8 a9 a10 (ix4 b o h w) = ((border 20 20 (E b o) h w : ℝ) : EReal))
    (HB : HoldsBranch B a9 a11 a13 a14) (zd : ∀ k o, a12 (ix2 k o) = 0) (b : Fin 16) (o : Fin 192) (h w : Fin 20) :
    @Eq EReal (val_main_v611 (F := Ideal) a2 a7 a8 a9 a10 a11 a12 (ix4 b o h w))
      ((taps 20 20 (E b o) ((B.at 2).wd o) h w : ℝ) : EReal) := by
  pointwise [val_main_v529, val_main_v530, val_main_v531, val_main_v532, val_main_v545, val_main_v546, val_main_v547,
    val_main_v548, val_main_v549, val_main_v550, val_main_v551, val_main_v552, val_main_v553, val_main_v554,
    val_main_v555, val_main_v556, val_main_v557, val_main_v558, val_main_v559, val_main_v560, val_main_v561,
    val_main_v562, val_main_v563, val_main_v564, val_main_v565, val_main_v566, val_main_v567, val_main_v568,
    val_main_v569, val_main_v570, val_main_v571, val_main_v572, val_main_v573, val_main_v574, val_main_v575,
    val_main_v576, val_main_v577, val_main_v578, val_main_v579, val_main_v580, val_main_v581, val_main_v582,
    val_main_v583, val_main_v584, val_main_v585, val_main_v586, val_main_v587, val_main_v588, val_main_v589,
    val_main_v590, val_main_v591, val_main_v592, val_main_v593, val_main_v594, val_main_v595, val_main_v596,
    val_main_v597, val_main_v598, val_main_v599, val_main_v600, val_main_v601, val_main_v602, val_main_v603,
    val_main_v604, val_main_v605, val_main_v606, val_main_v607, val_main_v608, val_main_v609, val_main_v610,
    val_main_v611, val_main_cst_19]
  simp only [hE, HB.wd, zd, add_zero, Nat.add_comm 1, Nat.add_comm 2, ← EReal.coe_mul, ← EReal.coe_add]
  rfl

/-- The depthwise stage. -/
theorem depth_apply {T : Fin 16 → Fin 192 → ℕ → ℕ → ℝ} (hT : ∀ b o (h w : Fin 20),
      @Eq EReal (val_main_v611 (F := Ideal) a2 a7 a8 a9 a10 a11 a12 (ix4 b o h w)) ((T b o h w : ℝ) : EReal))
    (b : Fin 16) (o : Fin 192) (h w : Fin 20) :
    val_main_v612 (F := Ideal) a2 a7 a8 a9 a10 a11 a12 (ix4 b o h w) = ((silu (T b o h w) : ℝ) : EReal) := by
  pointwise [val_main_v612, val_main_call17_v0, val_main_call17_v1, val_main_call17_cst, val_main_call17_v2,
    val_main_call17_v3, val_main_call17_cst_0, val_main_call17_v4, val_main_call17_v5]
  rw [hT]
  exact ref_silu _

/-- The features of the classification branch, from the stem and the depthwise stage. -/
theorem feat_apply {D : Fin 16 → Fin 192 → ℕ → ℕ → ℝ}
    (hA : ∀ b c (h w : Fin 20), val_main_v524 (F := Ideal) a2 a7 a8 (ix4 b c h w) = ((A b h w c : ℝ) : EReal))
    (hD : ∀ b o (h w : Fin 20), val_main_v612 (F := Ideal) a2 a7 a8 a9 a10 a11 a12 (ix4 b o h w) = ((D b o h w : ℝ) : EReal))
    (HB : HoldsBranch B a9 a11 a13 a14) (b : Fin 16) (c : Fin 96) (h w : Fin 20) :
    val_main_v619 (F := Ideal) a2 a7 a8 a9 a10 a11 a12 a13 a14 (ix4 b c h w)
      = ((A b h w c + ((∑ o, D b o h w * (B.at 2).w2 c o) + (B.at 2).b2 c) : ℝ) : EReal) := by
  pointwise [val_main_v533, val_main_v534, val_main_v535, val_main_v536, val_main_v613, val_main_v614, val_main_v615,
    val_main_v616, val_main_v617, val_main_v618, val_main_v619, dot_S96x192_S16x192x20x20_S96x16x20x20_1_1_0_023_n_n]
  simp only [hA, hD, HB.w2, HB.b2, coe_dot_comm, ← EReal.coe_add]
  rfl

/-- The features of the classification branch. -/
theorem branch_apply (hA : ∀ b c (h w : Fin 20), val_main_v524 (F := Ideal) a2 a7 a8 (ix4 b c h w) = ((A b h w c : ℝ) : EReal))
    (HB : HoldsBranch B a9 a11 a13 a14) (z1 : ∀ k o, a10 (ix2 k o) = 0) (zd : ∀ k o, a12 (ix2 k o) = 0)
    (b : Fin 16) (c : Fin 96) (h w : Fin 20) :
    val_main_v619 (F := Ideal) a2 a7 a8 a9 a10 a11 a12 a13 a14 (ix4 b c h w) = ((feat 20 20 (B.at 2) (A b) h w c : ℝ) : EReal) :=
  feat_apply (D := fun b o h w => depth 20 20 (B.at 2) (A b) h w o) hA (depth_apply (T := fun b o h w => taps 20 20 (fun h w => expand (B.at 2).w1 (A b h w) o) ((B.at 2).wd o) h w)
    (taps_apply (E := fun b o h w => expand (B.at 2).w1 (A b h w) o)
      (pad_apply (E := fun b o h w => expand (B.at 2).w1 (A b h w) o) (expand_apply hA HB z1)) HB zd)) HB b c h w

end Branch

/-- The regression branch is the classification branch at the other weights. -/
theorem reg_eq {F : FTy → Type} [FloatOps F] : @val_main_v714 F _ = @val_main_v619 F _ := rfl

section Heads

variable {P : Heads} {G : Fin 16 → ℕ → ℕ → Fin 96 → ℝ}

/-- The class predictions. -/
theorem cls_apply (HP : HoldsHeads P a21 a22 a23 a24 a25 a26) (hG : ∀ b c (h w : Fin 20),
      val_main_v619 (F := Ideal) a2 a7 a8 a9 a10 a11 a12 a13 a14 (ix4 b c h w) = ((G b h w c : ℝ) : EReal))
    (b : Fin 16) (l : Fin 80) (h w : Fin 20) : val_main_v724 (F := Ideal) a2 a7 a8 a9 a10 a11 a12 a13 a14 a21 a22 (ix4 b l h w)
      = (((∑ j, G b h w j * P.cw 2 l j) + P.cb 2 l : ℝ) : EReal) := by
  pointwise [val_main_v715, val_main_v716, val_main_v717, val_main_v718, val_main_v719, val_main_v720, val_main_v721,
    val_main_v722, val_main_v723, val_main_v724, dot_S80x96_S16x96x20x20_S80x16x20x20_1_1_0_023_n_n]
  simp only [hG, HP.cw, HP.cb, coe_dot_comm, ← EReal.coe_add]

/-- The box predictions. -/
theorem box_apply (HP : HoldsHeads P a21 a22 a23 a24 a25 a26) (hG : ∀ b c (h w : Fin 20),
      val_main_v714 (F := Ideal) a2 a7 a8 a15 a16 a17 a18 a19 a20 (ix4 b c h w) = ((G b h w c : ℝ) : EReal))
    (b : Fin 16) (l : Fin 4) (h w : Fin 20) : val_main_v734 (F := Ideal) a2 a7 a8 a15 a16 a17 a18 a19 a20 a23 a24 (ix4 b l h w)
      = (((∑ j, G b h w j * P.rw 2 l j) + P.rb 2 l : ℝ) : EReal) := by
  pointwise [val_main_v725, val_main_v726, val_main_v727, val_main_v728, val_main_v729, val_main_v730, val_main_v731,
    val_main_v732, val_main_v733, val_main_v734, dot_S4x96_S16x96x20x20_S4x16x20x20_1_1_0_023_n_n]
  simp only [hG, HP.rw, HP.rb, coe_dot_comm, ← EReal.coe_add]

/-- The object predictions. -/
theorem obj_apply (HP : HoldsHeads P a21 a22 a23 a24 a25 a26) (hG : ∀ b c (h w : Fin 20),
      val_main_v714 (F := Ideal) a2 a7 a8 a15 a16 a17 a18 a19 a20 (ix4 b c h w) = ((G b h w c : ℝ) : EReal))
    (b : Fin 16) (h w : Fin 20) : val_main_v744 (F := Ideal) a2 a7 a8 a15 a16 a17 a18 a19 a20 a25 a26 (ix4 b 0 h w)
      = (((∑ j, G b h w j * P.ow 2 j) + P.ob 2 : ℝ) : EReal) := by
  pointwise [val_main_v735, val_main_v736, val_main_v737, val_main_v738, val_main_v739, val_main_v740, val_main_v741,
    val_main_v742, val_main_v743, val_main_v744, dot_S1x96_S16x96x20x20_S1x16x20x20_1_1_0_023_n_n]
  simp only [hG, HP.ow, HP.ob, coe_dot_comm, ← EReal.coe_add]

/-- The level's rows, from its three predictions. -/
theorem level_apply {f : Fin 16 → ℕ → ℕ → Fin 85 → ℝ}
    (hc : ∀ b (l : Fin 80) (h w : Fin 20), val_main_v724 (F := Ideal) a2 a7 a8 a9 a10 a11 a12 a13 a14 a21 a22 (ix4 b l h w)
      = ((f b h w ⟨5 + l.val, by omega⟩ : ℝ) : EReal))
    (hr : ∀ b (l : Fin 4) (h w : Fin 20), val_main_v734 (F := Ideal) a2 a7 a8 a15 a16 a17 a18 a19 a20 a23 a24 (ix4 b l h w)
      = ((f b h w ⟨l.val, by omega⟩ : ℝ) : EReal))
    (ho : ∀ b (l : Fin 1) (h w : Fin 20), val_main_v744 (F := Ideal) a2 a7 a8 a15 a16 a17 a18 a19 a20 a25 a26 (ix4 b l h w)
      = ((f b h w ⟨4, by omega⟩ : ℝ) : EReal))
    (b : Fin 16) (p : Fin 400) (l : Fin 85) :
    val_main_v776 (F := Ideal) a2 a7 a8 a9 a10 a11 a12 a13 a14 a15 a16 a17 a18 a19 a20 a21 a22 a23 a24 a25 a26 (ix3 b p l)
      = ((decode 32 (p.val / 20) (p.val % 20) l (f b (p.val / 20) (p.val % 20) l) : ℝ) : EReal) := by
  pointwise [val_main_v745, val_main_v746, val_main_v747, val_main_v748, val_main_v749, val_main_v750, val_main_v751,
    val_main_v752, val_main_v753, val_main_v754, val_main_v755, val_main_v756, val_main_v757, val_main_v758,
    val_main_v759, val_main_v760, val_main_v761, val_main_v762, val_main_v763, val_main_v764, val_main_v765,
    val_main_v766, val_main_v767, val_main_v768, val_main_v769, val_main_v770, val_main_v771, val_main_v772,
    val_main_v773, val_main_v774, val_main_v775, val_main_v776, val_main_cst_22, val_main_cst_23, val_main_cst_24,
    val_main_cst_25, val_main_cst_26, val_main_cst_27]
  simp only [hc, hr, ho, ofBits_32]
  exact ref_decode 32 (p.val / 20) (p.val % 20) (by omega) (by omega) l (f b (p.val / 20) (p.val % 20))

end Heads

/-- The level's rows are the result's. -/
theorem result_apply {X : Fin 16 → ℕ → ℕ → Fin 512 → ℝ} {sw : Fin 96 → Fin 512 → ℝ} {C R : Branches} {P : Heads}
    (hx : ∀ b i (h w : Fin 20), a2 (ix4 b i h w) = ((X b h w i : ℝ) : EReal))
    (hs : ∀ j i, a7 (ix4 j i 0 0) = ((sw j i : ℝ) : EReal)) (hz : ∀ j, a8 (ix1 j) = 0)
    (HC : HoldsBranch C a9 a11 a13 a14) (HR : HoldsBranch R a15 a17 a19 a20) (HP : HoldsHeads P a21 a22 a23 a24 a25 a26)
    (zc1 : ∀ k o, a10 (ix2 k o) = 0) (zcd : ∀ k o, a12 (ix2 k o) = 0) (zr1 : ∀ k o, a16 (ix2 k o) = 0)
    (zrd : ∀ k o, a18 (ix2 k o) = 0) (b : Fin 16) (p : Fin 400) (l : Fin 85) :
    val_main_v776 (F := Ideal) a2 a7 a8 a9 a10 a11 a12 a13 a14 a15 a16 a17 a18 a19 a20 a21 a22 a23 a24 a25 a26 (ix3 b p l)
      = ((result 32 20 20 (levelAt sw C R P 2) (X b) (p.val / 20) (p.val % 20) l : ℝ) : EReal) := by
  have hA := stem_apply hx hs hz
  have hC := branch_apply (A := fun b h w => stem sw (X b h w)) hA HC zc1 zcd
  have hR : ∀ b c (h w : Fin 20), val_main_v714 (F := Ideal) a2 a7 a8 a15 a16 a17 a18 a19 a20 (ix4 b c h w)
      = ((feat 20 20 (R.at 2) (fun h w => stem sw (X b h w)) h w c : ℝ) : EReal) := by
    rw [reg_eq]
    exact branch_apply (A := fun b h w => stem sw (X b h w)) hA HR zr1 zrd
  refine level_apply (f := fun b h w l => score 20 20 (levelAt sw C R P 2) (X b) h w l) (fun b l h w => ?_) (fun b l h w => ?_)
    (fun b l h w => ?_) b p l
  · exact (cls_apply (G := fun b h w c => feat 20 20 (C.at 2) (fun h w => stem sw (X b h w)) h w c) HP hC b l h w).trans
      (congrArg Real.toEReal (score_cls sw C R P 2 20 20 (X b) h w l).symm)
  · exact (box_apply (G := fun b h w c => feat 20 20 (R.at 2) (fun h w => stem sw (X b h w)) h w c) HP hR b l h w).trans
      (congrArg Real.toEReal (score_box sw C R P 2 20 20 (X b) h w l).symm)
  · rw [Subsingleton.elim l 0]
    exact (obj_apply (G := fun b h w c => feat 20 20 (R.at 2) (fun h w => stem sw (X b h w)) h w c) HP hR b h w).trans
      (congrArg Real.toEReal (score_obj sw C R P 2 20 20 (X b) h w).symm)

end Cert.Head.R2

end
-- ==== Proof.Head.Ref.lean ====
/- The reference's result, element by element: the three levels' rows one below the other. -/
module

public import proofs.«01_k».proof.Proof.Head.Inputs
public import proofs.«01_k».proof.Proof.Head.R0
public import proofs.«01_k».proof.Proof.Head.R1
public import proofs.«01_k».proof.Proof.Head.R2

@[expose] public section

set_option maxRecDepth 16384

noncomputable section

namespace Cert.Head.Ref

open Idealize.ShloMosaic Cert.ReferenceIdeal Cert.ReferenceIdeal.Gen Cert.ReferenceIdeal.Read

variable {I : Inputs}
    {a0 : Vec Ideal S16x128x80x80 .f32} {a1 : Vec Ideal S16x256x40x40 .f32} {a2 : Vec Ideal S16x512x20x20 .f32}
    {a3 : Vec Ideal S96x128x1x1 .f32} {a4 : Vec Ideal S96 .f32} {a5 : Vec Ideal S96x256x1x1 .f32}
    {a6 : Vec Ideal S96 .f32} {a7 : Vec Ideal S96x512x1x1 .f32} {a8 : Vec Ideal S96 .f32}
    {a9 : Vec Ideal S3x192x96x1x1 .f32} {a10 : Vec Ideal S3x192 .f32} {a11 : Vec Ideal S3x192x1x3x3 .f32}
    {a12 : Vec Ideal S3x192 .f32} {a13 : Vec Ideal S3x96x192x1x1 .f32} {a14 : Vec Ideal S3x96 .f32}
    {a15 : Vec Ideal S3x192x96x1x1 .f32} {a16 : Vec Ideal S3x192 .f32} {a17 : Vec Ideal S3x192x1x3x3 .f32}
    {a18 : Vec Ideal S3x192 .f32} {a19 : Vec Ideal S3x96x192x1x1 .f32} {a20 : Vec Ideal S3x96 .f32}
    {a21 : Vec Ideal S3x80x96x1x1 .f32} {a22 : Vec Ideal S3x80 .f32} {a23 : Vec Ideal S3x4x96x1x1 .f32}
    {a24 : Vec Ideal S3x4 .f32} {a25 : Vec Ideal S3x1x96x1x1 .f32} {a26 : Vec Ideal S3x1 .f32}

/-- The reference's result at an image, a row and a place. -/
theorem total_apply (H : Holds I a0 a1 a2 a3 a4 a5 a6 a7 a8 a9 a10 a11 a12 a13 a14 a15 a16 a17 a18 a19 a20 a21 a22 a23 a24 a25 a26)
    (b : Fin 16) (p : Fin 8400) (l : Fin 85) :
    val_main_v777 (F := Ideal) a0 a1 a2 a3 a4 a5 a6 a7 a8 a9 a10 a11 a12 a13 a14 a15 a16 a17 a18 a19 a20 a21 a22 a23 a24 a25 a26 (ix3 b p l)
      = ((I.total b p.val l : ℝ) : EReal) := by
  have h0 := R0.result_apply H.x0 H.s0 H.z0 H.cls H.reg H.heads H.zc1 H.zcd H.zr1 H.zrd
  have h1 := R1.result_apply H.x1 H.s1 H.z1 H.cls H.reg H.heads H.zc1 H.zcd H.zr1 H.zrd
  have h2 := R2.result_apply H.x2 H.s2 H.z2 H.cls H.reg H.heads H.zc1 H.zcd H.zr1 H.zrd
  unfold Inputs.total
  pointwise [val_main_v777]
  by_cases c0 : p.val < 6400
  · rw [dif_pos c0, if_pos c0, h0]
  · rw [dif_neg c0, if_neg c0]
    by_cases c1 : p.val < 8000
    · rw [dif_pos (by omega : p.val - 6400 < 1600), if_pos c1, h1]
    · rw [dif_neg (by omega : ¬ p.val - 6400 < 1600), if_neg c1, h2]
      simp only [Nat.sub_sub, Nat.reduceAdd]

/-- The reference's result is the whole result of the numbers its arguments hold. -/
theorem final (H : Holds I a0 a1 a2 a3 a4 a5 a6 a7 a8 a9 a10 a11 a12 a13 a14 a15 a16 a17 a18 a19 a20 a21 a22 a23 a24 a25 a26) :
    val_main_v777 (F := Ideal) a0 a1 a2 a3 a4 a5 a6 a7 a8 a9 a10 a11 a12 a13 a14 a15 a16 a17 a18 a19 a20 a21 a22 a23 a24 a25 a26 = whole I := by
  funext y
  obtain ⟨b, p, l, rfl⟩ : ∃ (b : Fin 16) (p : Fin 8400) (l : Fin 85), y = ix3 b p l :=
    ⟨y 0, y 1, y 2, funext fun a => by match a with | ⟨0, _⟩ => rfl | ⟨1, _⟩ => rfl | ⟨2, _⟩ => rfl⟩
  exact total_apply H b p l

end Cert.Head.Ref

end
-- ==== Proof.Head.Claims.lean ====
/- The certificate's claims: the programs' runs leave the arguments alone, and over the extended reals the kernel's result is
   the reference's. -/
module

public import proofs.«01_k».proof.Defs
public import proofs.«01_k».proof.Proof.Gen.Kernel.Frame
public import proofs.«01_k».proof.Proof.Head.Out
public import proofs.«01_k».proof.Proof.Head.Pre
public import proofs.«01_k».proof.Proof.Head.Ref
public import Idealize.ShloMosaic.Lib.Quiescent
public import Idealize.ShloMosaic.Lib.Claim

@[expose] public section

noncomputable section

namespace Cert.Head

open Idealize.ShloMosaic Cert.KernelIdeal

/-- Arrays equal to arrays that hold the numbers `I` hold them too. -/
theorem Holds.congr {I : Inputs}
    {a0 b0 : Vec Ideal S16x128x80x80 .f32} {a1 b1 : Vec Ideal S16x256x40x40 .f32} {a2 b2 : Vec Ideal S16x512x20x20 .f32}
    {a3 b3 : Vec Ideal S96x128x1x1 .f32} {a4 b4 : Vec Ideal S96 .f32} {a5 b5 : Vec Ideal S96x256x1x1 .f32}
    {a6 b6 : Vec Ideal S96 .f32} {a7 b7 : Vec Ideal S96x512x1x1 .f32} {a8 b8 : Vec Ideal S96 .f32}
    {a9 b9 : Vec Ideal S3x192x96x1x1 .f32} {a10 b10 : Vec Ideal S3x192 .f32} {a11 b11 : Vec Ideal S3x192x1x3x3 .f32}
    {a12 b12 : Vec Ideal S3x192 .f32} {a13 b13 : Vec Ideal S3x96x192x1x1 .f32} {a14 b14 : Vec Ideal S3x96 .f32}
    {a15 b15 : Vec Ideal S3x192x96x1x1 .f32} {a16 b16 : Vec Ideal S3x192 .f32} {a17 b17 : Vec Ideal S3x192x1x3x3 .f32}
    {a18 b18 : Vec Ideal S3x192 .f32} {a19 b19 : Vec Ideal S3x96x192x1x1 .f32} {a20 b20 : Vec Ideal S3x96 .f32}
    {a21 b21 : Vec Ideal S3x80x96x1x1 .f32} {a22 b22 : Vec Ideal S3x80 .f32} {a23 b23 : Vec Ideal S3x4x96x1x1 .f32}
    {a24 b24 : Vec Ideal S3x4 .f32} {a25 b25 : Vec Ideal S3x1x96x1x1 .f32} {a26 b26 : Vec Ideal S3x1 .f32}
    (H : Holds I a0 a1 a2 a3 a4 a5 a6 a7 a8 a9 a10 a11 a12 a13 a14 a15 a16 a17 a18 a19 a20 a21 a22 a23 a24 a25 a26)
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22) (e23 : b23 = a23) (e24 : b24 = a24) (e25 : b25 = a25) (e26 : b26 = a26) :
    Holds I b0 b1 b2 b3 b4 b5 b6 b7 b8 b9 b10 b11 b12 b13 b14 b15 b16 b17 b18 b19 b20 b21 b22 b23 b24 b25 b26 := by
  subst_vars
  exact H

end Cert.Head

namespace Cert.Head.Claims

open Idealize.ShloMosaic Idealize.ShloMosaic.TcCoe Idealize.SL.Sem

/-- The kernel runs without a fault, leaves its arguments unchanged, and every semaphore ends at zero. -/
theorem frame_p : Cert.quiescent_Kernel := fun m ρ _ => Cert.Kernel.Gen.frame m ρ

/-- The same of the kernel over the extended reals. -/
theorem frame_pi : Cert.quiescent_KernelIdeal := fun m ρ _ => Cert.KernelIdeal.Gen.frame m ρ

/-- The same of the reference over the extended reals. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constant is minus the reciprocal of the logarithm of two. -/
theorem preserves : Cert.preserves_Kernel_KernelIdeal :=
  IdealRules.named_const.statement Cert.KernelIdeal.κ "neg_log2e" .f32 0xBFB8AA3B#32 ((-((Real.log 2)⁻¹) : ℝ) : EReal) rfl

variable [hPre_finite_and_unbiased : Cert.Pre_finite_and_unbiased.Facts]

/-- The frame of the kernel over the extended reals, under the precondition. -/
theorem frame_pi_pre : Cert.quiescent_KernelIdeal_pre_finite_and_unbiased := fun m ρ _ => Cert.KernelIdeal.Gen.frame m ρ

/-- The frame of the reference over the extended reals, under the precondition. -/
theorem frame_ri_pre : Cert.quiescent_ReferenceIdeal_pre_finite_and_unbiased := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

set_option maxHeartbeats 20000000 in
/-- Over the extended reals, of arguments that agree and satisfy the precondition, the kernel's result array is the
    reference's. -/
theorem algebraic : Cert.algebraic_KernelIdeal_ReferenceIdeal_pre_finite_and_unbiased := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  have H := Pre.holds_of_pre _ _ _ _ _ _ _ _ _ _ _ _ _ _ _ _ _ _ _ _ _ _ _ _ _ _ _ (hpre c)
  obtain ⟨e0, e1, e2, e3, e4, e5, e6, e7, e8, e9, e10, e11, e12, e13, e14, e15, e16, e17, e18, e19, e20, e21, e22, e23, e24, e25, e26⟩ := hagree c
  exact ((Cert.ReferenceIdeal.Read.val_main_v777_eq (F := Ideal) _).trans
    (Ref.final (Holds.congr H e0 e1 e2 e3 e4 e5 e6 e7 e8 e9 e10 e11 e12 e13 e14 e15 e16 e17 e18 e19 e20 e21 e22 e23 e24 e25 e26))).trans (Out.final H).symm

end Cert.Head.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Head.Claims

@[expose] public section

noncomputable section

namespace Cert.Proof

open Cert.Head

/-- The certificate's claim. -/
theorem claim : Cert.Claim :=
  ⟨Cert.Kernel.Gen.facts, Cert.KernelIdeal.Gen.facts, Cert.ReferenceIdeal.Gen.facts, Pre.pre_facts,
    Claims.frame_p, Claims.frame_pi,
    Claims.frame_pi_pre (hPre_finite_and_unbiased := Pre.pre_facts), Claims.frame_ri,
    Claims.frame_ri_pre (hPre_finite_and_unbiased := Pre.pre_facts), Claims.preserves,
    Claims.algebraic (hPre_finite_and_unbiased := Pre.pre_facts)⟩

end Cert.Proof

end
